-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_FfUp (m : (ℓ : Loc Cert.FfUp.nD Cert.FfUp.τ Cert.FfUp.sig) → Buf (Elt Bits) ℓ) : Prop :=
  True

def Pre_FfUpIdeal (m : (ℓ : Loc Cert.FfUpIdeal.nD Cert.FfUpIdeal.τ Cert.FfUpIdeal.sig) → Buf (Elt Ideal) ℓ) : Prop :=
  True

def Pre_FfUpReferenceIdeal (m : (ℓ : Loc Cert.FfUpReferenceIdeal.nD Cert.FfUpReferenceIdeal.τ Cert.FfUpReferenceIdeal.sig) → Buf (Elt Ideal) ℓ) : Prop :=
  True

def Pre_FfDown (m : (ℓ : Loc Cert.FfDown.nD Cert.FfDown.τ Cert.FfDown.sig) → Buf (Elt Bits) ℓ) : Prop :=
  True

def Pre_FfDownIdeal (m : (ℓ : Loc Cert.FfDownIdeal.nD Cert.FfDownIdeal.τ Cert.FfDownIdeal.sig) → Buf (Elt Ideal) ℓ) : Prop :=
  True

def Pre_FfDownReferenceIdeal (m : (ℓ : Loc Cert.FfDownReferenceIdeal.nD Cert.FfDownReferenceIdeal.τ Cert.FfDownReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutReferenceIdeal (m : (ℓ : Loc Cert.MixerOutReferenceIdeal.nD Cert.MixerOutReferenceIdeal.τ Cert.MixerOutReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionReferenceIdeal (m : (ℓ : Loc Cert.AttentionReferenceIdeal.nD Cert.AttentionReferenceIdeal.τ Cert.AttentionReferenceIdeal.sig) → Buf (Elt Ideal) ℓ) : Prop :=
  True

def Pre_SquaredRelu (m : (ℓ : Loc Cert.SquaredRelu.nD Cert.SquaredRelu.τ Cert.SquaredRelu.sig) → Buf (Elt Bits) ℓ) : Prop :=
  True

def Pre_SquaredReluIdeal (m : (ℓ : Loc Cert.SquaredReluIdeal.nD Cert.SquaredReluIdeal.τ Cert.SquaredReluIdeal.sig) → Buf (Elt Ideal) ℓ) : Prop :=
  True

def Pre_SquaredReluReferenceIdeal (m : (ℓ : Loc Cert.SquaredReluReferenceIdeal.nD Cert.SquaredReluReferenceIdeal.τ Cert.SquaredReluReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfUp [hFfUp : Cert.FfUp.Facts] : Prop :=
  ∀ (m : (ℓ : Loc Cert.FfUp.nD Cert.FfUp.τ Cert.FfUp.sig) → Buf (Elt Bits) ℓ) (g : Dev Cert.FfUp.nD → PrngReg), Pre_FfUp m →
    θ_run (Cert.FfUp.defs (F := Bits)) (onTc (τ := Cert.FfUp.τ) (Cert.FfUp.main (F := Bits))) ⟨m, fun _ => 0, g⟩ (fun r => (∀ c : Dev Cert.FfUp.nD,
      r.2.mem ((c.tc : Thread Cert.FfUp.nD Cert.FfUp.τ).loc Cert.FfUp.main_arg0) = m ((c.tc : Thread Cert.FfUp.nD Cert.FfUp.τ).loc Cert.FfUp.main_arg0)
      ∧ r.2.mem ((c.tc : Thread Cert.FfUp.nD Cert.FfUp.τ).loc Cert.FfUp.main_arg1) = m ((c.tc : Thread Cert.FfUp.nD Cert.FfUp.τ).loc Cert.FfUp.main_arg1)
      ∧ r.2.mem ((c.tc : Thread Cert.FfUp.nD Cert.FfUp.τ).loc Cert.FfUp.main_arg2) = m ((c.tc : Thread Cert.FfUp.nD Cert.FfUp.τ).loc Cert.FfUp.main_arg2))
      ∧ r.2.sem = fun _ => 0)

def quiescent_FfUpIdeal [hFfUpIdeal : Cert.FfUpIdeal.Facts] : Prop :=
  ∀ (m : (ℓ : Loc Cert.FfUpIdeal.nD Cert.FfUpIdeal.τ Cert.FfUpIdeal.sig) → Buf (Elt Ideal) ℓ) (g : Dev Cert.FfUpIdeal.nD → PrngReg), Pre_FfUpIdeal m →
    θ_run (Cert.FfUpIdeal.defs (F := Ideal)) (onTc (τ := Cert.FfUpIdeal.τ) (Cert.FfUpIdeal.main (F := Ideal))) ⟨m, fun _ => 0, g⟩ (fun r => (∀ c : Dev Cert.FfUpIdeal.nD,
      r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
      ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1)
      ∧ r.2.mem ((c.tc : Thread Cert.FfUpIdeal.nD Cert.FfUpIdeal.τ).loc Cert.FfUpIdeal.main_arg2) = m ((c.tc : Thread Cert.FfUpIdeal.nD Cert.FfUpIdeal.τ).loc Cert.FfUpIdeal.main_arg2))
      ∧ r.2.sem = fun _ => 0)

def quiescent_FfUpReferenceIdeal [hFfUpReferenceIdeal : Cert.FfUpReferenceIdeal.Facts] : Prop :=
  ∀ (m : (ℓ : Loc Cert.FfUpReferenceIdeal.nD Cert.FfUpReferenceIdeal.τ Cert.FfUpReferenceIdeal.sig) → Buf (Elt Ideal) ℓ) (g : Dev Cert.FfUpReferenceIdeal.nD → PrngReg), Pre_FfUpReferenceIdeal m →
    θ_run (Cert.FfUpReferenceIdeal.defs (F := Ideal)) (onTc (τ := Cert.FfUpReferenceIdeal.τ) (Cert.FfUpReferenceIdeal.main (F := Ideal))) ⟨m, fun _ => 0, g⟩ (fun r => (∀ c : Dev Cert.FfUpReferenceIdeal.nD,
      r.2.mem ((c.tc : Thread Cert.FfUpReferenceIdeal.nD Cert.FfUpReferenceIdeal.τ).loc Cert.FfUpReferenceIdeal.main_arg0) = m ((c.tc : Thread Cert.FfUpReferenceIdeal.nD Cert.FfUpReferenceIdeal.τ).loc Cert.FfUpReferenceIdeal.main_arg0)
      ∧ r.2.mem ((c.tc : Thread Cert.FfUpReferenceIdeal.nD Cert.FfUpReferenceIdeal.τ).loc Cert.FfUpReferenceIdeal.main_arg1) = m ((c.tc : Thread Cert.FfUpReferenceIdeal.nD Cert.FfUpReferenceIdeal.τ).loc Cert.FfUpReferenceIdeal.main_arg1)
      ∧ r.2.mem ((c.tc : Thread Cert.FfUpReferenceIdeal.nD Cert.FfUpReferenceIdeal.τ).loc Cert.FfUpReferenceIdeal.main_arg2) = m ((c.tc : Thread Cert.FfUpReferenceIdeal.nD Cert.FfUpReferenceIdeal.τ).loc Cert.FfUpReferenceIdeal.main_arg2))
      ∧ r.2.sem = fun _ => 0)

def quiescent_FfDown [hFfDown : Cert.FfDown.Facts] : Prop :=
  ∀ (m : (ℓ : Loc Cert.FfDown.nD Cert.FfDown.τ Cert.FfDown.sig) → Buf (Elt Bits) ℓ) (g : Dev Cert.FfDown.nD → PrngReg), Pre_FfDown m →
    θ_run (Cert.FfDown.defs (F := Bits)) (onTc (τ := Cert.FfDown.τ) (Cert.FfDown.main (F := Bits))) ⟨m, fun _ => 0, g⟩ (fun r => (∀ c : Dev Cert.FfDown.nD,
      r.2.mem ((c.tc : Thread Cert.FfDown.nD Cert.FfDown.τ).loc Cert.FfDown.main_arg0) = m ((c.tc : Thread Cert.FfDown.nD Cert.FfDown.τ).loc Cert.FfDown.main_arg0)
      ∧ r.2.mem ((c.tc : Thread Cert.FfDown.nD Cert.FfDown.τ).loc Cert.FfDown.main_arg1) = m ((c.tc : Thread Cert.FfDown.nD Cert.FfDown.τ).loc Cert.FfDown.main_arg1)
      ∧ r.2.mem ((c.tc : Thread Cert.FfDown.nD Cert.FfDown.τ).loc Cert.FfDown.main_arg2) = m ((c.tc : Thread Cert.FfDown.nD Cert.FfDown.τ).loc Cert.FfDown.main_arg2))
      ∧ r.2.sem = fun _ => 0)

def quiescent_FfDownIdeal [hFfDownIdeal : Cert.FfDownIdeal.Facts] : Prop :=
  ∀ (m : (ℓ : Loc Cert.FfDownIdeal.nD Cert.FfDownIdeal.τ Cert.FfDownIdeal.sig) → Buf (Elt Ideal) ℓ) (g : Dev Cert.FfDownIdeal.nD → PrngReg), Pre_FfDownIdeal m →
    θ_run (Cert.FfDownIdeal.defs (F := Ideal)) (onTc (τ := Cert.FfDownIdeal.τ) (Cert.FfDownIdeal.main (F := Ideal))) ⟨m, fun _ => 0, g⟩ (fun r => (∀ c : Dev Cert.FfDownIdeal.nD,
      r.2.mem ((c.tc : Thread Cert.FfDownIdeal.nD Cert.FfDownIdeal.τ).loc Cert.FfDownIdeal.main_arg0) = m ((c.tc : Thread Cert.FfDownIdeal.nD Cert.FfDownIdeal.τ).loc Cert.FfDownIdeal.main_arg0)
      ∧ r.2.mem ((c.tc : Thread Cert.FfDownIdeal.nD Cert.FfDownIdeal.τ).loc Cert.FfDownIdeal.main_arg1) = m ((c.tc : Thread Cert.FfDownIdeal.nD Cert.FfDownIdeal.τ).loc Cert.FfDownIdeal.main_arg1)
      ∧ r.2.mem ((c.tc : Thread Cert.FfDownIdeal.nD Cert.FfDownIdeal.τ).loc Cert.FfDownIdeal.main_arg2) = m ((c.tc : Thread Cert.FfDownIdeal.nD Cert.FfDownIdeal.τ).loc Cert.FfDownIdeal.main_arg2))
      ∧ r.2.sem = fun _ => 0)

def quiescent_FfDownReferenceIdeal [hFfDownReferenceIdeal : Cert.FfDownReferenceIdeal.Facts] : Prop :=
  ∀ (m : (ℓ : Loc Cert.FfDownReferenceIdeal.nD Cert.FfDownReferenceIdeal.τ Cert.FfDownReferenceIdeal.sig) → Buf (Elt Ideal) ℓ) (g : Dev Cert.FfDownReferenceIdeal.nD → PrngReg), Pre_FfDownReferenceIdeal m →
    θ_run (Cert.FfDownReferenceIdeal.defs (F := Ideal)) (onTc (τ := Cert.FfDownReferenceIdeal.τ) (Cert.FfDownReferenceIdeal.main (F := Ideal))) ⟨m, fun _ => 0, g⟩ (fun r => (∀ c : Dev Cert.FfDownReferenceIdeal.nD,
      r.2.mem ((c.tc : Thread Cert.FfDownReferenceIdeal.nD Cert.FfDownReferenceIdeal.τ).loc Cert.FfDownReferenceIdeal.main_arg0) = m ((c.tc : Thread Cert.FfDownReferenceIdeal.nD Cert.FfDownReferenceIdeal.τ).loc Cert.FfDownReferenceIdeal.main_arg0)
      ∧ r.2.mem ((c.tc : Thread Cert.FfDownReferenceIdeal.nD Cert.FfDownReferenceIdeal.τ).loc Cert.FfDownReferenceIdeal.main_arg1) = m ((c.tc : Thread Cert.FfDownReferenceIdeal.nD Cert.FfDownReferenceIdeal.τ).loc Cert.FfDownReferenceIdeal.main_arg1)
      ∧ r.2.mem ((c.tc : Thread Cert.FfDownReferenceIdeal.nD Cert.FfDownReferenceIdeal.τ).loc Cert.FfDownReferenceIdeal.main_arg2) = m ((c.tc : Thread Cert.FfDownReferenceIdeal.nD Cert.FfDownReferenceIdeal.τ).loc Cert.FfDownReferenceIdeal.main_arg2))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2))
      ∧ r.2.sem = fun _ => 0)

def quiescent_MixerOutReferenceIdeal [hMixerOutReferenceIdeal : Cert.MixerOutReferenceIdeal.Facts] : Prop :=
  ∀ (m : (ℓ : Loc Cert.MixerOutReferenceIdeal.nD Cert.MixerOutReferenceIdeal.τ Cert.MixerOutReferenceIdeal.sig) → Buf (Elt Ideal) ℓ) (g : Dev Cert.MixerOutReferenceIdeal.nD → PrngReg), Pre_MixerOutReferenceIdeal m →
    θ_run (Cert.MixerOutReferenceIdeal.defs (F := Ideal)) (onTc (τ := Cert.MixerOutReferenceIdeal.τ) (Cert.MixerOutReferenceIdeal.main (F := Ideal))) ⟨m, fun _ => 0, g⟩ (fun r => (∀ c : Dev Cert.MixerOutReferenceIdeal.nD,
      r.2.mem ((c.tc : Thread Cert.MixerOutReferenceIdeal.nD Cert.MixerOutReferenceIdeal.τ).loc Cert.MixerOutReferenceIdeal.main_arg0) = m ((c.tc : Thread Cert.MixerOutReferenceIdeal.nD Cert.MixerOutReferenceIdeal.τ).loc Cert.MixerOutReferenceIdeal.main_arg0)
      ∧ r.2.mem ((c.tc : Thread Cert.MixerOutReferenceIdeal.nD Cert.MixerOutReferenceIdeal.τ).loc Cert.MixerOutReferenceIdeal.main_arg1) = m ((c.tc : Thread Cert.MixerOutReferenceIdeal.nD Cert.MixerOutReferenceIdeal.τ).loc Cert.MixerOutReferenceIdeal.main_arg1)
      ∧ r.2.mem ((c.tc : Thread Cert.MixerOutReferenceIdeal.nD Cert.MixerOutReferenceIdeal.τ).loc Cert.MixerOutReferenceIdeal.main_arg2) = m ((c.tc : Thread Cert.MixerOutReferenceIdeal.nD Cert.MixerOutReferenceIdeal.τ).loc Cert.MixerOutReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10)
      ∧ r.2.mem ((c.tc : Thread Cert.InProj.nD Cert.InProj.τ).loc Cert.InProj.main_arg11) = m ((c.tc : Thread Cert.InProj.nD Cert.InProj.τ).loc Cert.InProj.main_arg11)
      ∧ r.2.mem ((c.tc : Thread Cert.InProj.nD Cert.InProj.τ).loc Cert.InProj.main_arg12) = m ((c.tc : Thread Cert.InProj.nD Cert.InProj.τ).loc Cert.InProj.main_arg12)
      ∧ r.2.mem ((c.tc : Thread Cert.InProj.nD Cert.InProj.τ).loc Cert.InProj.main_arg13) = m ((c.tc : Thread Cert.InProj.nD Cert.InProj.τ).loc Cert.InProj.main_arg13)
      ∧ r.2.mem ((c.tc : Thread Cert.InProj.nD Cert.InProj.τ).loc Cert.InProj.main_arg14) = m ((c.tc : Thread Cert.InProj.nD Cert.InProj.τ).loc Cert.InProj.main_arg14))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10)
      ∧ r.2.mem ((c.tc : Thread Cert.InProjIdeal.nD Cert.InProjIdeal.τ).loc Cert.InProjIdeal.main_arg11) = m ((c.tc : Thread Cert.InProjIdeal.nD Cert.InProjIdeal.τ).loc Cert.InProjIdeal.main_arg11)
      ∧ r.2.mem ((c.tc : Thread Cert.InProjIdeal.nD Cert.InProjIdeal.τ).loc Cert.InProjIdeal.main_arg12) = m ((c.tc : Thread Cert.InProjIdeal.nD Cert.InProjIdeal.τ).loc Cert.InProjIdeal.main_arg12)
      ∧ r.2.mem ((c.tc : Thread Cert.InProjIdeal.nD Cert.InProjIdeal.τ).loc Cert.InProjIdeal.main_arg13) = m ((c.tc : Thread Cert.InProjIdeal.nD Cert.InProjIdeal.τ).loc Cert.InProjIdeal.main_arg13)
      ∧ r.2.mem ((c.tc : Thread Cert.InProjIdeal.nD Cert.InProjIdeal.τ).loc Cert.InProjIdeal.main_arg14) = m ((c.tc : Thread Cert.InProjIdeal.nD Cert.InProjIdeal.τ).loc Cert.InProjIdeal.main_arg14))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7)
      ∧ r.2.mem ((c.tc : Thread Cert.InProjReferenceIdeal.nD Cert.InProjReferenceIdeal.τ).loc Cert.InProjReferenceIdeal.main_arg8) = m ((c.tc : Thread Cert.InProjReferenceIdeal.nD Cert.InProjReferenceIdeal.τ).loc Cert.InProjReferenceIdeal.main_arg8)
      ∧ r.2.mem ((c.tc : Thread Cert.InProjReferenceIdeal.nD Cert.InProjReferenceIdeal.τ).loc Cert.InProjReferenceIdeal.main_arg9) = m ((c.tc : Thread Cert.InProjReferenceIdeal.nD Cert.InProjReferenceIdeal.τ).loc Cert.InProjReferenceIdeal.main_arg9)
      ∧ r.2.mem ((c.tc : Thread Cert.InProjReferenceIdeal.nD Cert.InProjReferenceIdeal.τ).loc Cert.InProjReferenceIdeal.main_arg10) = m ((c.tc : Thread Cert.InProjReferenceIdeal.nD Cert.InProjReferenceIdeal.τ).loc Cert.InProjReferenceIdeal.main_arg10)
      ∧ r.2.mem ((c.tc : Thread Cert.InProjReferenceIdeal.nD Cert.InProjReferenceIdeal.τ).loc Cert.InProjReferenceIdeal.main_arg11) = m ((c.tc : Thread Cert.InProjReferenceIdeal.nD Cert.InProjReferenceIdeal.τ).loc Cert.InProjReferenceIdeal.main_arg11)
      ∧ r.2.mem ((c.tc : Thread Cert.InProjReferenceIdeal.nD Cert.InProjReferenceIdeal.τ).loc Cert.InProjReferenceIdeal.main_arg12) = m ((c.tc : Thread Cert.InProjReferenceIdeal.nD Cert.InProjReferenceIdeal.τ).loc Cert.InProjReferenceIdeal.main_arg12)
      ∧ r.2.mem ((c.tc : Thread Cert.InProjReferenceIdeal.nD Cert.InProjReferenceIdeal.τ).loc Cert.InProjReferenceIdeal.main_arg13) = m ((c.tc : Thread Cert.InProjReferenceIdeal.nD Cert.InProjReferenceIdeal.τ).loc Cert.InProjReferenceIdeal.main_arg13)
      ∧ r.2.mem ((c.tc : Thread Cert.InProjReferenceIdeal.nD Cert.InProjReferenceIdeal.τ).loc Cert.InProjReferenceIdeal.main_arg14) = m ((c.tc : Thread Cert.InProjReferenceIdeal.nD Cert.InProjReferenceIdeal.τ).loc Cert.InProjReferenceIdeal.main_arg14))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3))
      ∧ r.2.sem = fun _ => 0)

def quiescent_SquaredRelu [hSquaredRelu : Cert.SquaredRelu.Facts] : Prop :=
  ∀ (m : (ℓ : Loc Cert.SquaredRelu.nD Cert.SquaredRelu.τ Cert.SquaredRelu.sig) → Buf (Elt Bits) ℓ) (g : Dev Cert.SquaredRelu.nD → PrngReg), Pre_SquaredRelu m →
    θ_run (Cert.SquaredRelu.defs (F := Bits)) (onTc (τ := Cert.SquaredRelu.τ) (Cert.SquaredRelu.main (F := Bits))) ⟨m, fun _ => 0, g⟩ (fun r => (∀ c : Dev Cert.SquaredRelu.nD,
      r.2.mem ((c.tc : Thread Cert.SquaredRelu.nD Cert.SquaredRelu.τ).loc Cert.SquaredRelu.main_arg0) = m ((c.tc : Thread Cert.SquaredRelu.nD Cert.SquaredRelu.τ).loc Cert.SquaredRelu.main_arg0)
      ∧ r.2.mem ((c.tc : Thread Cert.SquaredRelu.nD Cert.SquaredRelu.τ).loc Cert.SquaredRelu.main_arg1) = m ((c.tc : Thread Cert.SquaredRelu.nD Cert.SquaredRelu.τ).loc Cert.SquaredRelu.main_arg1)
      ∧ r.2.mem ((c.tc : Thread Cert.SquaredRelu.nD Cert.SquaredRelu.τ).loc Cert.SquaredRelu.main_arg2) = m ((c.tc : Thread Cert.SquaredRelu.nD Cert.SquaredRelu.τ).loc Cert.SquaredRelu.main_arg2))
      ∧ r.2.sem = fun _ => 0)

def quiescent_SquaredReluIdeal [hSquaredReluIdeal : Cert.SquaredReluIdeal.Facts] : Prop :=
  ∀ (m : (ℓ : Loc Cert.SquaredReluIdeal.nD Cert.SquaredReluIdeal.τ Cert.SquaredReluIdeal.sig) → Buf (Elt Ideal) ℓ) (g : Dev Cert.SquaredReluIdeal.nD → PrngReg), Pre_SquaredReluIdeal m →
    θ_run (Cert.SquaredReluIdeal.defs (F := Ideal)) (onTc (τ := Cert.SquaredReluIdeal.τ) (Cert.SquaredReluIdeal.main (F := Ideal))) ⟨m, fun _ => 0, g⟩ (fun r => (∀ c : Dev Cert.SquaredReluIdeal.nD,
      r.2.mem ((c.tc : Thread Cert.SquaredReluIdeal.nD Cert.SquaredReluIdeal.τ).loc Cert.SquaredReluIdeal.main_arg0) = m ((c.tc : Thread Cert.SquaredReluIdeal.nD Cert.SquaredReluIdeal.τ).loc Cert.SquaredReluIdeal.main_arg0)
      ∧ r.2.mem ((c.tc : Thread Cert.SquaredReluIdeal.nD Cert.SquaredReluIdeal.τ).loc Cert.SquaredReluIdeal.main_arg1) = m ((c.tc : Thread Cert.SquaredReluIdeal.nD Cert.SquaredReluIdeal.τ).loc Cert.SquaredReluIdeal.main_arg1)
      ∧ r.2.mem ((c.tc : Thread Cert.SquaredReluIdeal.nD Cert.SquaredReluIdeal.τ).loc Cert.SquaredReluIdeal.main_arg2) = m ((c.tc : Thread Cert.SquaredReluIdeal.nD Cert.SquaredReluIdeal.τ).loc Cert.SquaredReluIdeal.main_arg2))
      ∧ r.2.sem = fun _ => 0)

def quiescent_SquaredReluReferenceIdeal [hSquaredReluReferenceIdeal : Cert.SquaredReluReferenceIdeal.Facts] : Prop :=
  ∀ (m : (ℓ : Loc Cert.SquaredReluReferenceIdeal.nD Cert.SquaredReluReferenceIdeal.τ Cert.SquaredReluReferenceIdeal.sig) → Buf (Elt Ideal) ℓ) (g : Dev Cert.SquaredReluReferenceIdeal.nD → PrngReg), Pre_SquaredReluReferenceIdeal m →
    θ_run (Cert.SquaredReluReferenceIdeal.defs (F := Ideal)) (onTc (τ := Cert.SquaredReluReferenceIdeal.τ) (Cert.SquaredReluReferenceIdeal.main (F := Ideal))) ⟨m, fun _ => 0, g⟩ (fun r => (∀ c : Dev Cert.SquaredReluReferenceIdeal.nD,
      r.2.mem ((c.tc : Thread Cert.SquaredReluReferenceIdeal.nD Cert.SquaredReluReferenceIdeal.τ).loc Cert.SquaredReluReferenceIdeal.main_arg0) = m ((c.tc : Thread Cert.SquaredReluReferenceIdeal.nD Cert.SquaredReluReferenceIdeal.τ).loc Cert.SquaredReluReferenceIdeal.main_arg0)
      ∧ r.2.mem ((c.tc : Thread Cert.SquaredReluReferenceIdeal.nD Cert.SquaredReluReferenceIdeal.τ).loc Cert.SquaredReluReferenceIdeal.main_arg1) = m ((c.tc : Thread Cert.SquaredReluReferenceIdeal.nD Cert.SquaredReluReferenceIdeal.τ).loc Cert.SquaredReluReferenceIdeal.main_arg1)
      ∧ r.2.mem ((c.tc : Thread Cert.SquaredReluReferenceIdeal.nD Cert.SquaredReluReferenceIdeal.τ).loc Cert.SquaredReluReferenceIdeal.main_arg2) = m ((c.tc : Thread Cert.SquaredReluReferenceIdeal.nD Cert.SquaredReluReferenceIdeal.τ).loc Cert.SquaredReluReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7)
      ∧ r.2.mem ((c.tc : Thread Cert.Norm.nD Cert.Norm.τ).loc Cert.Norm.main_arg8) = m ((c.tc : Thread Cert.Norm.nD Cert.Norm.τ).loc Cert.Norm.main_arg8))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
      ∧ r.2.mem ((c.tc : Thread Cert.NormIdeal.nD Cert.NormIdeal.τ).loc Cert.NormIdeal.main_arg8) = m ((c.tc : Thread Cert.NormIdeal.nD Cert.NormIdeal.τ).loc Cert.NormIdeal.main_arg8))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6)
      ∧ r.2.mem ((c.tc : Thread Cert.NormReferenceIdeal.nD Cert.NormReferenceIdeal.τ).loc Cert.NormReferenceIdeal.main_arg7) = m ((c.tc : Thread Cert.NormReferenceIdeal.nD Cert.NormReferenceIdeal.τ).loc Cert.NormReferenceIdeal.main_arg7)
      ∧ r.2.mem ((c.tc : Thread Cert.NormReferenceIdeal.nD Cert.NormReferenceIdeal.τ).loc Cert.NormReferenceIdeal.main_arg8) = m ((c.tc : Thread Cert.NormReferenceIdeal.nD Cert.NormReferenceIdeal.τ).loc Cert.NormReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v33)) (v3 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_v36) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_v173) = v2 c
          ∧ r.2.mem ((c.tc : Thread Cert.ReferenceIdeal.nD Cert.ReferenceIdeal.τ).loc Cert.ReferenceIdeal.main_v174) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfUp_FfUpIdeal : Prop :=
  True

def algebraic_FfUpIdeal_FfUpReferenceIdeal [hFfUpIdeal : Cert.FfUpIdeal.Facts] [hFfUpReferenceIdeal : Cert.FfUpReferenceIdeal.Facts] : Prop :=
  ∀ (m : (ℓ : Loc Cert.FfUpIdeal.nD Cert.FfUpIdeal.τ Cert.FfUpIdeal.sig) → Buf (Elt Ideal) ℓ) (g : Dev Cert.FfUpIdeal.nD → PrngReg)
    (m' : (ℓ : Loc Cert.FfUpReferenceIdeal.nD Cert.FfUpReferenceIdeal.τ Cert.FfUpReferenceIdeal.sig) → Buf (Elt Ideal) ℓ) (g' : Dev Cert.FfUpReferenceIdeal.nD → PrngReg), Pre_FfUpIdeal m →
    (∀ c : Dev Cert.FfUpIdeal.nD,
      m' ((c.tc : Thread Cert.FfUpReferenceIdeal.nD Cert.FfUpReferenceIdeal.τ).loc Cert.FfUpReferenceIdeal.main_arg0) = m ((c.tc : Thread Cert.FfUpIdeal.nD Cert.FfUpIdeal.τ).loc Cert.FfUpIdeal.main_arg0)
      ∧ m' ((c.tc : Thread Cert.FfUpReferenceIdeal.nD Cert.FfUpReferenceIdeal.τ).loc Cert.FfUpReferenceIdeal.main_arg1) = m ((c.tc : Thread Cert.FfUpIdeal.nD Cert.FfUpIdeal.τ).loc Cert.FfUpIdeal.main_arg1)
      ∧ m' ((c.tc : Thread Cert.FfUpReferenceIdeal.nD Cert.FfUpReferenceIdeal.τ).loc Cert.FfUpReferenceIdeal.main_arg2) = m ((c.tc : Thread Cert.FfUpIdeal.nD Cert.FfUpIdeal.τ).loc Cert.FfUpIdeal.main_arg2)) →
    ∃ (v0 : (c : Dev Cert.FfUpIdeal.nD) → Buf (Elt Ideal) ((c.tc : Thread Cert.FfUpIdeal.nD Cert.FfUpIdeal.τ).loc Cert.FfUpIdeal.main_v0)) (v1 : (c : Dev Cert.FfUpIdeal.nD) → Buf (Elt Ideal) ((c.tc : Thread Cert.FfUpIdeal.nD Cert.FfUpIdeal.τ).loc Cert.FfUpIdeal.main_v1)) (v2 : (c : Dev Cert.FfUpIdeal.nD) → Buf (Elt Ideal) ((c.tc : Thread Cert.FfUpIdeal.nD Cert.FfUpIdeal.τ).loc Cert.FfUpIdeal.main_v2)),
      θ_run (Cert.FfUpIdeal.defs (F := Ideal)) (onTc (τ := Cert.FfUpIdeal.τ) (Cert.FfUpIdeal.main (F := Ideal))) ⟨m, fun _ => 0, g⟩ (fun r => ∀ c : Dev Cert.FfUpIdeal.nD,
          r.2.mem ((c.tc : Thread Cert.FfUpIdeal.nD Cert.FfUpIdeal.τ).loc Cert.FfUpIdeal.main_v0) = v0 c
          ∧ r.2.mem ((c.tc : Thread Cert.FfUpIdeal.nD Cert.FfUpIdeal.τ).loc Cert.FfUpIdeal.main_v1) = v1 c
          ∧ r.2.mem ((c.tc : Thread Cert.FfUpIdeal.nD Cert.FfUpIdeal.τ).loc Cert.FfUpIdeal.main_v2) = v2 c
          ∧ r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
          ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1)
          ∧ r.2.mem ((c.tc : Thread Cert.FfUpIdeal.nD Cert.FfUpIdeal.τ).loc Cert.FfUpIdeal.main_arg2) = m ((c.tc : Thread Cert.FfUpIdeal.nD Cert.FfUpIdeal.τ).loc Cert.FfUpIdeal.main_arg2))
      ∧ θ_run (Cert.FfUpReferenceIdeal.defs (F := Ideal)) (onTc (τ := Cert.FfUpReferenceIdeal.τ) (Cert.FfUpReferenceIdeal.main (F := Ideal))) ⟨m', fun _ => 0, g'⟩ (fun r => ∀ c : Dev Cert.FfUpReferenceIdeal.nD,
          r.2.mem ((c.tc : Thread Cert.FfUpReferenceIdeal.nD Cert.FfUpReferenceIdeal.τ).loc Cert.FfUpReferenceIdeal.main_v7) = v0 c
          ∧ r.2.mem ((c.tc : Thread Cert.FfUpReferenceIdeal.nD Cert.FfUpReferenceIdeal.τ).loc Cert.FfUpReferenceIdeal.main_v8) = v1 c
          ∧ r.2.mem ((c.tc : Thread Cert.FfUpReferenceIdeal.nD Cert.FfUpReferenceIdeal.τ).loc Cert.FfUpReferenceIdeal.main_v9) = v2 c
          ∧ r.2.mem ((c.tc : Thread Cert.FfUpReferenceIdeal.nD Cert.FfUpReferenceIdeal.τ).loc Cert.FfUpReferenceIdeal.main_arg0) = m' ((c.tc : Thread Cert.FfUpReferenceIdeal.nD Cert.FfUpReferenceIdeal.τ).loc Cert.FfUpReferenceIdeal.main_arg0)
          ∧ r.2.mem ((c.tc : Thread Cert.FfUpReferenceIdeal.nD Cert.FfUpReferenceIdeal.τ).loc Cert.FfUpReferenceIdeal.main_arg1) = m' ((c.tc : Thread Cert.FfUpReferenceIdeal.nD Cert.FfUpReferenceIdeal.τ).loc Cert.FfUpReferenceIdeal.main_arg1)
          ∧ r.2.mem ((c.tc : Thread Cert.FfUpReferenceIdeal.nD Cert.FfUpReferenceIdeal.τ).loc Cert.FfUpReferenceIdeal.main_arg2) = m' ((c.tc : Thread Cert.FfUpReferenceIdeal.nD Cert.FfUpReferenceIdeal.τ).loc Cert.FfUpReferenceIdeal.main_arg2))

def preserves_FfDown_FfDownIdeal : Prop :=
  True

def algebraic_FfDownIdeal_FfDownReferenceIdeal [hFfDownIdeal : Cert.FfDownIdeal.Facts] [hFfDownReferenceIdeal : Cert.FfDownReferenceIdeal.Facts] : Prop :=
  ∀ (m : (ℓ : Loc Cert.FfDownIdeal.nD Cert.FfDownIdeal.τ Cert.FfDownIdeal.sig) → Buf (Elt Ideal) ℓ) (g : Dev Cert.FfDownIdeal.nD → PrngReg)
    (m' : (ℓ : Loc Cert.FfDownReferenceIdeal.nD Cert.FfDownReferenceIdeal.τ Cert.FfDownReferenceIdeal.sig) → Buf (Elt Ideal) ℓ) (g' : Dev Cert.FfDownReferenceIdeal.nD → PrngReg), Pre_FfDownIdeal m →
    (∀ c : Dev Cert.FfDownIdeal.nD,
      m' ((c.tc : Thread Cert.FfDownReferenceIdeal.nD Cert.FfDownReferenceIdeal.τ).loc Cert.FfDownReferenceIdeal.main_arg0) = m ((c.tc : Thread Cert.FfDownIdeal.nD Cert.FfDownIdeal.τ).loc Cert.FfDownIdeal.main_arg0)
      ∧ m' ((c.tc : Thread Cert.FfDownReferenceIdeal.nD Cert.FfDownReferenceIdeal.τ).loc Cert.FfDownReferenceIdeal.main_arg1) = m ((c.tc : Thread Cert.FfDownIdeal.nD Cert.FfDownIdeal.τ).loc Cert.FfDownIdeal.main_arg1)
      ∧ m' ((c.tc : Thread Cert.FfDownReferenceIdeal.nD Cert.FfDownReferenceIdeal.τ).loc Cert.FfDownReferenceIdeal.main_arg2) = m ((c.tc : Thread Cert.FfDownIdeal.nD Cert.FfDownIdeal.τ).loc Cert.FfDownIdeal.main_arg2)) →
    ∃ (v0 : (c : Dev Cert.FfDownIdeal.nD) → Buf (Elt Ideal) ((c.tc : Thread Cert.FfDownIdeal.nD Cert.FfDownIdeal.τ).loc Cert.FfDownIdeal.main_v0)) (v1 : (c : Dev Cert.FfDownIdeal.nD) → Buf (Elt Ideal) ((c.tc : Thread Cert.FfDownIdeal.nD Cert.FfDownIdeal.τ).loc Cert.FfDownIdeal.main_v1)) (v2 : (c : Dev Cert.FfDownIdeal.nD) → Buf (Elt Ideal) ((c.tc : Thread Cert.FfDownIdeal.nD Cert.FfDownIdeal.τ).loc Cert.FfDownIdeal.main_v2)),
      θ_run (Cert.FfDownIdeal.defs (F := Ideal)) (onTc (τ := Cert.FfDownIdeal.τ) (Cert.FfDownIdeal.main (F := Ideal))) ⟨m, fun _ => 0, g⟩ (fun r => ∀ c : Dev Cert.FfDownIdeal.nD,
          r.2.mem ((c.tc : Thread Cert.FfDownIdeal.nD Cert.FfDownIdeal.τ).loc Cert.FfDownIdeal.main_v0) = v0 c
          ∧ r.2.mem ((c.tc : Thread Cert.FfDownIdeal.nD Cert.FfDownIdeal.τ).loc Cert.FfDownIdeal.main_v1) = v1 c
          ∧ r.2.mem ((c.tc : Thread Cert.FfDownIdeal.nD Cert.FfDownIdeal.τ).loc Cert.FfDownIdeal.main_v2) = v2 c
          ∧ r.2.mem ((c.tc : Thread Cert.FfDownIdeal.nD Cert.FfDownIdeal.τ).loc Cert.FfDownIdeal.main_arg0) = m ((c.tc : Thread Cert.FfDownIdeal.nD Cert.FfDownIdeal.τ).loc Cert.FfDownIdeal.main_arg0)
          ∧ r.2.mem ((c.tc : Thread Cert.FfDownIdeal.nD Cert.FfDownIdeal.τ).loc Cert.FfDownIdeal.main_arg1) = m ((c.tc : Thread Cert.FfDownIdeal.nD Cert.FfDownIdeal.τ).loc Cert.FfDownIdeal.main_arg1)
          ∧ r.2.mem ((c.tc : Thread Cert.FfDownIdeal.nD Cert.FfDownIdeal.τ).loc Cert.FfDownIdeal.main_arg2) = m ((c.tc : Thread Cert.FfDownIdeal.nD Cert.FfDownIdeal.τ).loc Cert.FfDownIdeal.main_arg2))
      ∧ θ_run (Cert.FfDownReferenceIdeal.defs (F := Ideal)) (onTc (τ := Cert.FfDownReferenceIdeal.τ) (Cert.FfDownReferenceIdeal.main (F := Ideal))) ⟨m', fun _ => 0, g'⟩ (fun r => ∀ c : Dev Cert.FfDownReferenceIdeal.nD,
          r.2.mem ((c.tc : Thread Cert.FfDownReferenceIdeal.nD Cert.FfDownReferenceIdeal.τ).loc Cert.FfDownReferenceIdeal.main_v2) = v0 c
          ∧ r.2.mem ((c.tc : Thread Cert.FfDownReferenceIdeal.nD Cert.FfDownReferenceIdeal.τ).loc Cert.FfDownReferenceIdeal.main_v6) = v1 c
          ∧ r.2.mem ((c.tc : Thread Cert.FfDownReferenceIdeal.nD Cert.FfDownReferenceIdeal.τ).loc Cert.FfDownReferenceIdeal.main_v7) = v2 c
          ∧ r.2.mem ((c.tc : Thread Cert.FfDownReferenceIdeal.nD Cert.FfDownReferenceIdeal.τ).loc Cert.FfDownReferenceIdeal.main_arg0) = m' ((c.tc : Thread Cert.FfDownReferenceIdeal.nD Cert.FfDownReferenceIdeal.τ).loc Cert.FfDownReferenceIdeal.main_arg0)
          ∧ r.2.mem ((c.tc : Thread Cert.FfDownReferenceIdeal.nD Cert.FfDownReferenceIdeal.τ).loc Cert.FfDownReferenceIdeal.main_arg1) = m' ((c.tc : Thread Cert.FfDownReferenceIdeal.nD Cert.FfDownReferenceIdeal.τ).loc Cert.FfDownReferenceIdeal.main_arg1)
          ∧ r.2.mem ((c.tc : Thread Cert.FfDownReferenceIdeal.nD Cert.FfDownReferenceIdeal.τ).loc Cert.FfDownReferenceIdeal.main_arg2) = m' ((c.tc : Thread Cert.FfDownReferenceIdeal.nD Cert.FfDownReferenceIdeal.τ).loc Cert.FfDownReferenceIdeal.main_arg2))

def preserves_Mixer_MixerIdeal : Prop :=
  True

def algebraic_MixerIdeal_MixerReferenceIdeal [hMixerIdeal : Cert.MixerIdeal.Facts] [hMixerReferenceIdeal : Cert.MixerReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)) →
    ∃ (v0 : (c : Dev Cert.MixerIdeal.nD) → Buf (Elt Ideal) ((c.tc : Thread Cert.MixerIdeal.nD Cert.MixerIdeal.τ).loc Cert.MixerIdeal.main_v0)) (v1 : (c : Dev Cert.MixerIdeal.nD) → Buf (Elt Ideal) ((c.tc : Thread Cert.MixerIdeal.nD Cert.MixerIdeal.τ).loc Cert.MixerIdeal.main_v1)) (v2 : (c : Dev Cert.MixerIdeal.nD) → Buf (Elt Ideal) ((c.tc : Thread Cert.MixerIdeal.nD Cert.MixerIdeal.τ).loc Cert.MixerIdeal.main_v2)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v0) = v0 c
          ∧ r.2.mem ((c.tc : Thread Cert.MixerIdeal.nD Cert.MixerIdeal.τ).loc Cert.MixerIdeal.main_v1) = v1 c
          ∧ r.2.mem ((c.tc : Thread Cert.MixerIdeal.nD Cert.MixerIdeal.τ).loc Cert.MixerIdeal.main_v2) = v2 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v7) = v0 c
          ∧ r.2.mem ((c.tc : Thread Cert.MixerReferenceIdeal.nD Cert.MixerReferenceIdeal.τ).loc Cert.MixerReferenceIdeal.main_v8) = v1 c
          ∧ r.2.mem ((c.tc : Thread Cert.MixerReferenceIdeal.nD Cert.MixerReferenceIdeal.τ).loc Cert.MixerReferenceIdeal.main_v9) = v2 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2))

def preserves_MixerOut_MixerOutIdeal : Prop :=
  True

def algebraic_MixerOutIdeal_MixerOutReferenceIdeal [hMixerOutIdeal : Cert.MixerOutIdeal.Facts] [hMixerOutReferenceIdeal : Cert.MixerOutReferenceIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutReferenceIdeal.nD Cert.MixerOutReferenceIdeal.τ Cert.MixerOutReferenceIdeal.sig) → Buf (Elt Ideal) ℓ) (g' : Dev Cert.MixerOutReferenceIdeal.nD → PrngReg), Pre_MixerOutIdeal m →
    (∀ c : Dev Cert.MixerOutIdeal.nD,
      m' ((c.tc : Thread Cert.MixerOutReferenceIdeal.nD Cert.MixerOutReferenceIdeal.τ).loc Cert.MixerOutReferenceIdeal.main_arg0) = m ((c.tc : Thread Cert.MixerOutIdeal.nD Cert.MixerOutIdeal.τ).loc Cert.MixerOutIdeal.main_arg0)
      ∧ m' ((c.tc : Thread Cert.MixerOutReferenceIdeal.nD Cert.MixerOutReferenceIdeal.τ).loc Cert.MixerOutReferenceIdeal.main_arg1) = m ((c.tc : Thread Cert.MixerOutIdeal.nD Cert.MixerOutIdeal.τ).loc Cert.MixerOutIdeal.main_arg1)
      ∧ m' ((c.tc : Thread Cert.MixerOutReferenceIdeal.nD Cert.MixerOutReferenceIdeal.τ).loc Cert.MixerOutReferenceIdeal.main_arg2) = m ((c.tc : Thread Cert.MixerOutIdeal.nD Cert.MixerOutIdeal.τ).loc Cert.MixerOutIdeal.main_arg2)) →
    ∃ (v0 : (c : Dev Cert.MixerOutIdeal.nD) → Buf (Elt Ideal) ((c.tc : Thread Cert.MixerOutIdeal.nD Cert.MixerOutIdeal.τ).loc Cert.MixerOutIdeal.main_v0)) (v1 : (c : Dev Cert.MixerOutIdeal.nD) → Buf (Elt Ideal) ((c.tc : Thread Cert.MixerOutIdeal.nD Cert.MixerOutIdeal.τ).loc Cert.MixerOutIdeal.main_v1)) (v2 : (c : Dev Cert.MixerOutIdeal.nD) → Buf (Elt Ideal) ((c.tc : Thread Cert.MixerOutIdeal.nD Cert.MixerOutIdeal.τ).loc Cert.MixerOutIdeal.main_v2)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v0) = v0 c
          ∧ r.2.mem ((c.tc : Thread Cert.MixerOutIdeal.nD Cert.MixerOutIdeal.τ).loc Cert.MixerOutIdeal.main_v1) = v1 c
          ∧ r.2.mem ((c.tc : Thread Cert.MixerOutIdeal.nD Cert.MixerOutIdeal.τ).loc Cert.MixerOutIdeal.main_v2) = v2 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
          ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2))
      ∧ θ_run (Cert.MixerOutReferenceIdeal.defs (F := Ideal)) (onTc (τ := Cert.MixerOutReferenceIdeal.τ) (Cert.MixerOutReferenceIdeal.main (F := Ideal))) ⟨m', fun _ => 0, g'⟩ (fun r => ∀ c : Dev Cert.MixerOutReferenceIdeal.nD,
          r.2.mem ((c.tc : Thread Cert.MixerOutReferenceIdeal.nD Cert.MixerOutReferenceIdeal.τ).loc Cert.MixerOutReferenceIdeal.main_v2) = v0 c
          ∧ r.2.mem ((c.tc : Thread Cert.MixerOutReferenceIdeal.nD Cert.MixerOutReferenceIdeal.τ).loc Cert.MixerOutReferenceIdeal.main_v6) = v1 c
          ∧ r.2.mem ((c.tc : Thread Cert.MixerOutReferenceIdeal.nD Cert.MixerOutReferenceIdeal.τ).loc Cert.MixerOutReferenceIdeal.main_v7) = v2 c
          ∧ r.2.mem ((c.tc : Thread Cert.MixerOutReferenceIdeal.nD Cert.MixerOutReferenceIdeal.τ).loc Cert.MixerOutReferenceIdeal.main_arg0) = m' ((c.tc : Thread Cert.MixerOutReferenceIdeal.nD Cert.MixerOutReferenceIdeal.τ).loc Cert.MixerOutReferenceIdeal.main_arg0)
          ∧ r.2.mem ((c.tc : Thread Cert.MixerOutReferenceIdeal.nD Cert.MixerOutReferenceIdeal.τ).loc Cert.MixerOutReferenceIdeal.main_arg1) = m' ((c.tc : Thread Cert.MixerOutReferenceIdeal.nD Cert.MixerOutReferenceIdeal.τ).loc Cert.MixerOutReferenceIdeal.main_arg1)
          ∧ r.2.mem ((c.tc : Thread Cert.MixerOutReferenceIdeal.nD Cert.MixerOutReferenceIdeal.τ).loc Cert.MixerOutReferenceIdeal.main_arg2) = m' ((c.tc : Thread Cert.MixerOutReferenceIdeal.nD Cert.MixerOutReferenceIdeal.τ).loc Cert.MixerOutReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)
      ∧ m' ((c.tc : Thread Cert.InProjReferenceIdeal.nD Cert.InProjReferenceIdeal.τ).loc Cert.InProjReferenceIdeal.main_arg7) = m ((c.tc : Thread Cert.InProjIdeal.nD Cert.InProjIdeal.τ).loc Cert.InProjIdeal.main_arg7)
      ∧ m' ((c.tc : Thread Cert.InProjReferenceIdeal.nD Cert.InProjReferenceIdeal.τ).loc Cert.InProjReferenceIdeal.main_arg8) = m ((c.tc : Thread Cert.InProjIdeal.nD Cert.InProjIdeal.τ).loc Cert.InProjIdeal.main_arg8)
      ∧ m' ((c.tc : Thread Cert.InProjReferenceIdeal.nD Cert.InProjReferenceIdeal.τ).loc Cert.InProjReferenceIdeal.main_arg9) = m ((c.tc : Thread Cert.InProjIdeal.nD Cert.InProjIdeal.τ).loc Cert.InProjIdeal.main_arg9)
      ∧ m' ((c.tc : Thread Cert.InProjReferenceIdeal.nD Cert.InProjReferenceIdeal.τ).loc Cert.InProjReferenceIdeal.main_arg10) = m ((c.tc : Thread Cert.InProjIdeal.nD Cert.InProjIdeal.τ).loc Cert.InProjIdeal.main_arg10)
      ∧ m' ((c.tc : Thread Cert.InProjReferenceIdeal.nD Cert.InProjReferenceIdeal.τ).loc Cert.InProjReferenceIdeal.main_arg11) = m ((c.tc : Thread Cert.InProjIdeal.nD Cert.InProjIdeal.τ).loc Cert.InProjIdeal.main_arg11)
      ∧ m' ((c.tc : Thread Cert.InProjReferenceIdeal.nD Cert.InProjReferenceIdeal.τ).loc Cert.InProjReferenceIdeal.main_arg12) = m ((c.tc : Thread Cert.InProjIdeal.nD Cert.InProjIdeal.τ).loc Cert.InProjIdeal.main_arg12)
      ∧ m' ((c.tc : Thread Cert.InProjReferenceIdeal.nD Cert.InProjReferenceIdeal.τ).loc Cert.InProjReferenceIdeal.main_arg13) = m ((c.tc : Thread Cert.InProjIdeal.nD Cert.InProjIdeal.τ).loc Cert.InProjIdeal.main_arg13)
      ∧ m' ((c.tc : Thread Cert.InProjReferenceIdeal.nD Cert.InProjReferenceIdeal.τ).loc Cert.InProjReferenceIdeal.main_arg14) = m ((c.tc : Thread Cert.InProjIdeal.nD Cert.InProjIdeal.τ).loc Cert.InProjIdeal.main_arg14)) →
    ∃ (v0 : (c : Dev Cert.InProjIdeal.nD) → Buf (Elt Ideal) ((c.tc : Thread Cert.InProjIdeal.nD Cert.InProjIdeal.τ).loc Cert.InProjIdeal.main_v0)) (v1 : (c : Dev Cert.InProjIdeal.nD) → Buf (Elt Ideal) ((c.tc : Thread Cert.InProjIdeal.nD Cert.InProjIdeal.τ).loc Cert.InProjIdeal.main_v1)) (v2 : (c : Dev Cert.InProjIdeal.nD) → Buf (Elt Ideal) ((c.tc : Thread Cert.InProjIdeal.nD Cert.InProjIdeal.τ).loc Cert.InProjIdeal.main_v2)) (v3 : (c : Dev Cert.InProjIdeal.nD) → Buf (Elt Ideal) ((c.tc : Thread Cert.InProjIdeal.nD Cert.InProjIdeal.τ).loc Cert.InProjIdeal.main_v3)) (v4 : (c : Dev Cert.InProjIdeal.nD) → Buf (Elt Ideal) ((c.tc : Thread Cert.InProjIdeal.nD Cert.InProjIdeal.τ).loc Cert.InProjIdeal.main_v4)) (v5 : (c : Dev Cert.InProjIdeal.nD) → Buf (Elt Ideal) ((c.tc : Thread Cert.InProjIdeal.nD Cert.InProjIdeal.τ).loc Cert.InProjIdeal.main_v5)) (v6 : (c : Dev Cert.InProjIdeal.nD) → Buf (Elt Ideal) ((c.tc : Thread Cert.InProjIdeal.nD Cert.InProjIdeal.τ).loc Cert.InProjIdeal.main_v6)) (v7 : (c : Dev Cert.InProjIdeal.nD) → Buf (Elt Ideal) ((c.tc : Thread Cert.InProjIdeal.nD Cert.InProjIdeal.τ).loc Cert.InProjIdeal.main_v13)) (v8 : (c : Dev Cert.InProjIdeal.nD) → Buf (Elt Ideal) ((c.tc : Thread Cert.InProjIdeal.nD Cert.InProjIdeal.τ).loc Cert.InProjIdeal.main_v14)) (v9 : (c : Dev Cert.InProjIdeal.nD) → Buf (Elt Ideal) ((c.tc : Thread Cert.InProjIdeal.nD Cert.InProjIdeal.τ).loc Cert.InProjIdeal.main_v15)) (v10 : (c : Dev Cert.InProjIdeal.nD) → Buf (Elt Ideal) ((c.tc : Thread Cert.InProjIdeal.nD Cert.InProjIdeal.τ).loc Cert.InProjIdeal.main_v16)) (v11 : (c : Dev Cert.InProjIdeal.nD) → Buf (Elt Ideal) ((c.tc : Thread Cert.InProjIdeal.nD Cert.InProjIdeal.τ).loc Cert.InProjIdeal.main_v17)) (v12 : (c : Dev Cert.InProjIdeal.nD) → Buf (Elt Ideal) ((c.tc : Thread Cert.InProjIdeal.nD Cert.InProjIdeal.τ).loc Cert.InProjIdeal.main_v18)) (v13 : (c : Dev Cert.InProjIdeal.nD) → Buf (Elt Ideal) ((c.tc : Thread Cert.InProjIdeal.nD Cert.InProjIdeal.τ).loc Cert.InProjIdeal.main_v19)) (v14 : (c : Dev Cert.InProjIdeal.nD) → Buf (Elt Ideal) ((c.tc : Thread Cert.InProjIdeal.nD Cert.InProjIdeal.τ).loc Cert.InProjIdeal.main_v20)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_v1) = v1 c
          ∧ r.2.mem ((c.tc : Thread Cert.InProjIdeal.nD Cert.InProjIdeal.τ).loc Cert.InProjIdeal.main_v2) = v2 c
          ∧ r.2.mem ((c.tc : Thread Cert.InProjIdeal.nD Cert.InProjIdeal.τ).loc Cert.InProjIdeal.main_v3) = v3 c
          ∧ r.2.mem ((c.tc : Thread Cert.InProjIdeal.nD Cert.InProjIdeal.τ).loc Cert.InProjIdeal.main_v4) = v4 c
          ∧ r.2.mem ((c.tc : Thread Cert.InProjIdeal.nD Cert.InProjIdeal.τ).loc Cert.InProjIdeal.main_v5) = v5 c
          ∧ r.2.mem ((c.tc : Thread Cert.InProjIdeal.nD Cert.InProjIdeal.τ).loc Cert.InProjIdeal.main_v6) = v6 c
          ∧ r.2.mem ((c.tc : Thread Cert.InProjIdeal.nD Cert.InProjIdeal.τ).loc Cert.InProjIdeal.main_v13) = v7 c
          ∧ r.2.mem ((c.tc : Thread Cert.InProjIdeal.nD Cert.InProjIdeal.τ).loc Cert.InProjIdeal.main_v14) = v8 c
          ∧ r.2.mem ((c.tc : Thread Cert.InProjIdeal.nD Cert.InProjIdeal.τ).loc Cert.InProjIdeal.main_v15) = v9 c
          ∧ r.2.mem ((c.tc : Thread Cert.InProjIdeal.nD Cert.InProjIdeal.τ).loc Cert.InProjIdeal.main_v16) = v10 c
          ∧ r.2.mem ((c.tc : Thread Cert.InProjIdeal.nD Cert.InProjIdeal.τ).loc Cert.InProjIdeal.main_v17) = v11 c
          ∧ r.2.mem ((c.tc : Thread Cert.InProjIdeal.nD Cert.InProjIdeal.τ).loc Cert.InProjIdeal.main_v18) = v12 c
          ∧ r.2.mem ((c.tc : Thread Cert.InProjIdeal.nD Cert.InProjIdeal.τ).loc Cert.InProjIdeal.main_v19) = v13 c
          ∧ r.2.mem ((c.tc : Thread Cert.InProjIdeal.nD Cert.InProjIdeal.τ).loc Cert.InProjIdeal.main_v20) = v14 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10)
          ∧ r.2.mem ((c.tc : Thread Cert.InProjIdeal.nD Cert.InProjIdeal.τ).loc Cert.InProjIdeal.main_arg11) = m ((c.tc : Thread Cert.InProjIdeal.nD Cert.InProjIdeal.τ).loc Cert.InProjIdeal.main_arg11)
          ∧ r.2.mem ((c.tc : Thread Cert.InProjIdeal.nD Cert.InProjIdeal.τ).loc Cert.InProjIdeal.main_arg12) = m ((c.tc : Thread Cert.InProjIdeal.nD Cert.InProjIdeal.τ).loc Cert.InProjIdeal.main_arg12)
          ∧ r.2.mem ((c.tc : Thread Cert.InProjIdeal.nD Cert.InProjIdeal.τ).loc Cert.InProjIdeal.main_arg13) = m ((c.tc : Thread Cert.InProjIdeal.nD Cert.InProjIdeal.τ).loc Cert.InProjIdeal.main_arg13)
          ∧ r.2.mem ((c.tc : Thread Cert.InProjIdeal.nD Cert.InProjIdeal.τ).loc Cert.InProjIdeal.main_arg14) = m ((c.tc : Thread Cert.InProjIdeal.nD Cert.InProjIdeal.τ).loc Cert.InProjIdeal.main_arg14))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v49) = v0 c
          ∧ r.2.mem ((c.tc : Thread Cert.InProjReferenceIdeal.nD Cert.InProjReferenceIdeal.τ).loc Cert.InProjReferenceIdeal.main_v50) = v1 c
          ∧ r.2.mem ((c.tc : Thread Cert.InProjReferenceIdeal.nD Cert.InProjReferenceIdeal.τ).loc Cert.InProjReferenceIdeal.main_v51) = v2 c
          ∧ r.2.mem ((c.tc : Thread Cert.InProjReferenceIdeal.nD Cert.InProjReferenceIdeal.τ).loc Cert.InProjReferenceIdeal.main_v52) = v3 c
          ∧ r.2.mem ((c.tc : Thread Cert.InProjReferenceIdeal.nD Cert.InProjReferenceIdeal.τ).loc Cert.InProjReferenceIdeal.main_v53) = v4 c
          ∧ r.2.mem ((c.tc : Thread Cert.InProjReferenceIdeal.nD Cert.InProjReferenceIdeal.τ).loc Cert.InProjReferenceIdeal.main_v54) = v5 c
          ∧ r.2.mem ((c.tc : Thread Cert.InProjReferenceIdeal.nD Cert.InProjReferenceIdeal.τ).loc Cert.InProjReferenceIdeal.main_v55) = v6 c
          ∧ r.2.mem ((c.tc : Thread Cert.InProjReferenceIdeal.nD Cert.InProjReferenceIdeal.τ).loc Cert.InProjReferenceIdeal.main_v56) = v7 c
          ∧ r.2.mem ((c.tc : Thread Cert.InProjReferenceIdeal.nD Cert.InProjReferenceIdeal.τ).loc Cert.InProjReferenceIdeal.main_v57) = v8 c
          ∧ r.2.mem ((c.tc : Thread Cert.InProjReferenceIdeal.nD Cert.InProjReferenceIdeal.τ).loc Cert.InProjReferenceIdeal.main_v58) = v9 c
          ∧ r.2.mem ((c.tc : Thread Cert.InProjReferenceIdeal.nD Cert.InProjReferenceIdeal.τ).loc Cert.InProjReferenceIdeal.main_v59) = v10 c
          ∧ r.2.mem ((c.tc : Thread Cert.InProjReferenceIdeal.nD Cert.InProjReferenceIdeal.τ).loc Cert.InProjReferenceIdeal.main_v60) = v11 c
          ∧ r.2.mem ((c.tc : Thread Cert.InProjReferenceIdeal.nD Cert.InProjReferenceIdeal.τ).loc Cert.InProjReferenceIdeal.main_v61) = v12 c
          ∧ r.2.mem ((c.tc : Thread Cert.InProjReferenceIdeal.nD Cert.InProjReferenceIdeal.τ).loc Cert.InProjReferenceIdeal.main_v62) = v13 c
          ∧ r.2.mem ((c.tc : Thread Cert.InProjReferenceIdeal.nD Cert.InProjReferenceIdeal.τ).loc Cert.InProjReferenceIdeal.main_v63) = v14 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6)
          ∧ r.2.mem ((c.tc : Thread Cert.InProjReferenceIdeal.nD Cert.InProjReferenceIdeal.τ).loc Cert.InProjReferenceIdeal.main_arg7) = m' ((c.tc : Thread Cert.InProjReferenceIdeal.nD Cert.InProjReferenceIdeal.τ).loc Cert.InProjReferenceIdeal.main_arg7)
          ∧ r.2.mem ((c.tc : Thread Cert.InProjReferenceIdeal.nD Cert.InProjReferenceIdeal.τ).loc Cert.InProjReferenceIdeal.main_arg8) = m' ((c.tc : Thread Cert.InProjReferenceIdeal.nD Cert.InProjReferenceIdeal.τ).loc Cert.InProjReferenceIdeal.main_arg8)
          ∧ r.2.mem ((c.tc : Thread Cert.InProjReferenceIdeal.nD Cert.InProjReferenceIdeal.τ).loc Cert.InProjReferenceIdeal.main_arg9) = m' ((c.tc : Thread Cert.InProjReferenceIdeal.nD Cert.InProjReferenceIdeal.τ).loc Cert.InProjReferenceIdeal.main_arg9)
          ∧ r.2.mem ((c.tc : Thread Cert.InProjReferenceIdeal.nD Cert.InProjReferenceIdeal.τ).loc Cert.InProjReferenceIdeal.main_arg10) = m' ((c.tc : Thread Cert.InProjReferenceIdeal.nD Cert.InProjReferenceIdeal.τ).loc Cert.InProjReferenceIdeal.main_arg10)
          ∧ r.2.mem ((c.tc : Thread Cert.InProjReferenceIdeal.nD Cert.InProjReferenceIdeal.τ).loc Cert.InProjReferenceIdeal.main_arg11) = m' ((c.tc : Thread Cert.InProjReferenceIdeal.nD Cert.InProjReferenceIdeal.τ).loc Cert.InProjReferenceIdeal.main_arg11)
          ∧ r.2.mem ((c.tc : Thread Cert.InProjReferenceIdeal.nD Cert.InProjReferenceIdeal.τ).loc Cert.InProjReferenceIdeal.main_arg12) = m' ((c.tc : Thread Cert.InProjReferenceIdeal.nD Cert.InProjReferenceIdeal.τ).loc Cert.InProjReferenceIdeal.main_arg12)
          ∧ r.2.mem ((c.tc : Thread Cert.InProjReferenceIdeal.nD Cert.InProjReferenceIdeal.τ).loc Cert.InProjReferenceIdeal.main_arg13) = m' ((c.tc : Thread Cert.InProjReferenceIdeal.nD Cert.InProjReferenceIdeal.τ).loc Cert.InProjReferenceIdeal.main_arg13)
          ∧ r.2.mem ((c.tc : Thread Cert.InProjReferenceIdeal.nD Cert.InProjReferenceIdeal.τ).loc Cert.InProjReferenceIdeal.main_arg14) = m' ((c.tc : Thread Cert.InProjReferenceIdeal.nD Cert.InProjReferenceIdeal.τ).loc Cert.InProjReferenceIdeal.main_arg14))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v0)) (v1 : (c : Dev Cert.GateIdeal.nD) → Buf (Elt Ideal) ((c.tc : Thread Cert.GateIdeal.nD Cert.GateIdeal.τ).loc Cert.GateIdeal.main_v1_0)) (v2 : (c : Dev Cert.GateIdeal.nD) → Buf (Elt Ideal) ((c.tc : Thread Cert.GateIdeal.nD Cert.GateIdeal.τ).loc Cert.GateIdeal.main_v1_1)) (v3 : (c : Dev Cert.GateIdeal.nD) → Buf (Elt Ideal) ((c.tc : Thread Cert.GateIdeal.nD Cert.GateIdeal.τ).loc Cert.GateIdeal.main_v1_2)) (v4 : (c : Dev Cert.GateIdeal.nD) → Buf (Elt Ideal) ((c.tc : Thread Cert.GateIdeal.nD Cert.GateIdeal.τ).loc Cert.GateIdeal.main_v1_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_v1_0) = v1 c
          ∧ r.2.mem ((c.tc : Thread Cert.GateIdeal.nD Cert.GateIdeal.τ).loc Cert.GateIdeal.main_v1_1) = v2 c
          ∧ r.2.mem ((c.tc : Thread Cert.GateIdeal.nD Cert.GateIdeal.τ).loc Cert.GateIdeal.main_v1_2) = v3 c
          ∧ r.2.mem ((c.tc : Thread Cert.GateIdeal.nD Cert.GateIdeal.τ).loc Cert.GateIdeal.main_v1_3) = v4 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v32) = v0 c
          ∧ r.2.mem ((c.tc : Thread Cert.GateReferenceIdeal.nD Cert.GateReferenceIdeal.τ).loc Cert.GateReferenceIdeal.main_v33) = v1 c
          ∧ r.2.mem ((c.tc : Thread Cert.GateReferenceIdeal.nD Cert.GateReferenceIdeal.τ).loc Cert.GateReferenceIdeal.main_v34) = v2 c
          ∧ r.2.mem ((c.tc : Thread Cert.GateReferenceIdeal.nD Cert.GateReferenceIdeal.τ).loc Cert.GateReferenceIdeal.main_v35) = v3 c
          ∧ r.2.mem ((c.tc : Thread Cert.GateReferenceIdeal.nD Cert.GateReferenceIdeal.τ).loc Cert.GateReferenceIdeal.main_v36) = v4 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_Attention_AttentionIdeal : Prop :=
  True

def algebraic_AttentionIdeal_AttentionReferenceIdeal [hAttentionIdeal : Cert.AttentionIdeal.Facts] [hAttentionReferenceIdeal : Cert.AttentionReferenceIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)) →
    ∃ (v0 : (c : Dev Cert.AttentionIdeal.nD) → Buf (Elt Ideal) ((c.tc : Thread Cert.AttentionIdeal.nD Cert.AttentionIdeal.τ).loc Cert.AttentionIdeal.main_v11)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v11) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v76) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3))

def preserves_SquaredRelu_SquaredReluIdeal : Prop :=
  True

def algebraic_SquaredReluIdeal_SquaredReluReferenceIdeal [hSquaredReluIdeal : Cert.SquaredReluIdeal.Facts] [hSquaredReluReferenceIdeal : Cert.SquaredReluReferenceIdeal.Facts] : Prop :=
  ∀ (m : (ℓ : Loc Cert.SquaredReluIdeal.nD Cert.SquaredReluIdeal.τ Cert.SquaredReluIdeal.sig) → Buf (Elt Ideal) ℓ) (g : Dev Cert.SquaredReluIdeal.nD → PrngReg)
    (m' : (ℓ : Loc Cert.SquaredReluReferenceIdeal.nD Cert.SquaredReluReferenceIdeal.τ Cert.SquaredReluReferenceIdeal.sig) → Buf (Elt Ideal) ℓ) (g' : Dev Cert.SquaredReluReferenceIdeal.nD → PrngReg), Pre_SquaredReluIdeal m →
    (∀ c : Dev Cert.SquaredReluIdeal.nD,
      m' ((c.tc : Thread Cert.SquaredReluReferenceIdeal.nD Cert.SquaredReluReferenceIdeal.τ).loc Cert.SquaredReluReferenceIdeal.main_arg0) = m ((c.tc : Thread Cert.SquaredReluIdeal.nD Cert.SquaredReluIdeal.τ).loc Cert.SquaredReluIdeal.main_arg0)
      ∧ m' ((c.tc : Thread Cert.SquaredReluReferenceIdeal.nD Cert.SquaredReluReferenceIdeal.τ).loc Cert.SquaredReluReferenceIdeal.main_arg1) = m ((c.tc : Thread Cert.SquaredReluIdeal.nD Cert.SquaredReluIdeal.τ).loc Cert.SquaredReluIdeal.main_arg1)
      ∧ m' ((c.tc : Thread Cert.SquaredReluReferenceIdeal.nD Cert.SquaredReluReferenceIdeal.τ).loc Cert.SquaredReluReferenceIdeal.main_arg2) = m ((c.tc : Thread Cert.SquaredReluIdeal.nD Cert.SquaredReluIdeal.τ).loc Cert.SquaredReluIdeal.main_arg2)) →
    ∃ (v0 : (c : Dev Cert.SquaredReluIdeal.nD) → Buf (Elt Ideal) ((c.tc : Thread Cert.SquaredReluIdeal.nD Cert.SquaredReluIdeal.τ).loc Cert.SquaredReluIdeal.main_v0)) (v1 : (c : Dev Cert.SquaredReluIdeal.nD) → Buf (Elt Ideal) ((c.tc : Thread Cert.SquaredReluIdeal.nD Cert.SquaredReluIdeal.τ).loc Cert.SquaredReluIdeal.main_v1_0)) (v2 : (c : Dev Cert.SquaredReluIdeal.nD) → Buf (Elt Ideal) ((c.tc : Thread Cert.SquaredReluIdeal.nD Cert.SquaredReluIdeal.τ).loc Cert.SquaredReluIdeal.main_v1_1)),
      θ_run (Cert.SquaredReluIdeal.defs (F := Ideal)) (onTc (τ := Cert.SquaredReluIdeal.τ) (Cert.SquaredReluIdeal.main (F := Ideal))) ⟨m, fun _ => 0, g⟩ (fun r => ∀ c : Dev Cert.SquaredReluIdeal.nD,
          r.2.mem ((c.tc : Thread Cert.SquaredReluIdeal.nD Cert.SquaredReluIdeal.τ).loc Cert.SquaredReluIdeal.main_v0) = v0 c
          ∧ r.2.mem ((c.tc : Thread Cert.SquaredReluIdeal.nD Cert.SquaredReluIdeal.τ).loc Cert.SquaredReluIdeal.main_v1_0) = v1 c
          ∧ r.2.mem ((c.tc : Thread Cert.SquaredReluIdeal.nD Cert.SquaredReluIdeal.τ).loc Cert.SquaredReluIdeal.main_v1_1) = v2 c
          ∧ r.2.mem ((c.tc : Thread Cert.SquaredReluIdeal.nD Cert.SquaredReluIdeal.τ).loc Cert.SquaredReluIdeal.main_arg0) = m ((c.tc : Thread Cert.SquaredReluIdeal.nD Cert.SquaredReluIdeal.τ).loc Cert.SquaredReluIdeal.main_arg0)
          ∧ r.2.mem ((c.tc : Thread Cert.SquaredReluIdeal.nD Cert.SquaredReluIdeal.τ).loc Cert.SquaredReluIdeal.main_arg1) = m ((c.tc : Thread Cert.SquaredReluIdeal.nD Cert.SquaredReluIdeal.τ).loc Cert.SquaredReluIdeal.main_arg1)
          ∧ r.2.mem ((c.tc : Thread Cert.SquaredReluIdeal.nD Cert.SquaredReluIdeal.τ).loc Cert.SquaredReluIdeal.main_arg2) = m ((c.tc : Thread Cert.SquaredReluIdeal.nD Cert.SquaredReluIdeal.τ).loc Cert.SquaredReluIdeal.main_arg2))
      ∧ θ_run (Cert.SquaredReluReferenceIdeal.defs (F := Ideal)) (onTc (τ := Cert.SquaredReluReferenceIdeal.τ) (Cert.SquaredReluReferenceIdeal.main (F := Ideal))) ⟨m', fun _ => 0, g'⟩ (fun r => ∀ c : Dev Cert.SquaredReluReferenceIdeal.nD,
          r.2.mem ((c.tc : Thread Cert.SquaredReluReferenceIdeal.nD Cert.SquaredReluReferenceIdeal.τ).loc Cert.SquaredReluReferenceIdeal.main_v20) = v0 c
          ∧ r.2.mem ((c.tc : Thread Cert.SquaredReluReferenceIdeal.nD Cert.SquaredReluReferenceIdeal.τ).loc Cert.SquaredReluReferenceIdeal.main_v21) = v1 c
          ∧ r.2.mem ((c.tc : Thread Cert.SquaredReluReferenceIdeal.nD Cert.SquaredReluReferenceIdeal.τ).loc Cert.SquaredReluReferenceIdeal.main_v19) = v2 c
          ∧ r.2.mem ((c.tc : Thread Cert.SquaredReluReferenceIdeal.nD Cert.SquaredReluReferenceIdeal.τ).loc Cert.SquaredReluReferenceIdeal.main_arg0) = m' ((c.tc : Thread Cert.SquaredReluReferenceIdeal.nD Cert.SquaredReluReferenceIdeal.τ).loc Cert.SquaredReluReferenceIdeal.main_arg0)
          ∧ r.2.mem ((c.tc : Thread Cert.SquaredReluReferenceIdeal.nD Cert.SquaredReluReferenceIdeal.τ).loc Cert.SquaredReluReferenceIdeal.main_arg1) = m' ((c.tc : Thread Cert.SquaredReluReferenceIdeal.nD Cert.SquaredReluReferenceIdeal.τ).loc Cert.SquaredReluReferenceIdeal.main_arg1)
          ∧ r.2.mem ((c.tc : Thread Cert.SquaredReluReferenceIdeal.nD Cert.SquaredReluReferenceIdeal.τ).loc Cert.SquaredReluReferenceIdeal.main_arg2) = m' ((c.tc : Thread Cert.SquaredReluReferenceIdeal.nD Cert.SquaredReluReferenceIdeal.τ).loc Cert.SquaredReluReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)
      ∧ m' ((c.tc : Thread Cert.NormReferenceIdeal.nD Cert.NormReferenceIdeal.τ).loc Cert.NormReferenceIdeal.main_arg5) = m ((c.tc : Thread Cert.NormIdeal.nD Cert.NormIdeal.τ).loc Cert.NormIdeal.main_arg5)
      ∧ m' ((c.tc : Thread Cert.NormReferenceIdeal.nD Cert.NormReferenceIdeal.τ).loc Cert.NormReferenceIdeal.main_arg6) = m ((c.tc : Thread Cert.NormIdeal.nD Cert.NormIdeal.τ).loc Cert.NormIdeal.main_arg6)
      ∧ m' ((c.tc : Thread Cert.NormReferenceIdeal.nD Cert.NormReferenceIdeal.τ).loc Cert.NormReferenceIdeal.main_arg7) = m ((c.tc : Thread Cert.NormIdeal.nD Cert.NormIdeal.τ).loc Cert.NormIdeal.main_arg7)
      ∧ m' ((c.tc : Thread Cert.NormReferenceIdeal.nD Cert.NormReferenceIdeal.τ).loc Cert.NormReferenceIdeal.main_arg8) = m ((c.tc : Thread Cert.NormIdeal.nD Cert.NormIdeal.τ).loc Cert.NormIdeal.main_arg8)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v1_0)) (v3 : (c : Dev Cert.NormIdeal.nD) → Buf (Elt Ideal) ((c.tc : Thread Cert.NormIdeal.nD Cert.NormIdeal.τ).loc Cert.NormIdeal.main_v1_1)) (v4 : (c : Dev Cert.NormIdeal.nD) → Buf (Elt Ideal) ((c.tc : Thread Cert.NormIdeal.nD Cert.NormIdeal.τ).loc Cert.NormIdeal.main_v1_2)) (v5 : (c : Dev Cert.NormIdeal.nD) → Buf (Elt Ideal) ((c.tc : Thread Cert.NormIdeal.nD Cert.NormIdeal.τ).loc Cert.NormIdeal.main_v1_3)) (v6 : (c : Dev Cert.NormIdeal.nD) → Buf (Elt Ideal) ((c.tc : Thread Cert.NormIdeal.nD Cert.NormIdeal.τ).loc Cert.NormIdeal.main_v1_4)) (v7 : (c : Dev Cert.NormIdeal.nD) → Buf (Elt Ideal) ((c.tc : Thread Cert.NormIdeal.nD Cert.NormIdeal.τ).loc Cert.NormIdeal.main_v1_5)) (v8 : (c : Dev Cert.NormIdeal.nD) → Buf (Elt Ideal) ((c.tc : Thread Cert.NormIdeal.nD Cert.NormIdeal.τ).loc Cert.NormIdeal.main_v1_6)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v1_0) = v2 c
          ∧ r.2.mem ((c.tc : Thread Cert.NormIdeal.nD Cert.NormIdeal.τ).loc Cert.NormIdeal.main_v1_1) = v3 c
          ∧ r.2.mem ((c.tc : Thread Cert.NormIdeal.nD Cert.NormIdeal.τ).loc Cert.NormIdeal.main_v1_2) = v4 c
          ∧ r.2.mem ((c.tc : Thread Cert.NormIdeal.nD Cert.NormIdeal.τ).loc Cert.NormIdeal.main_v1_3) = v5 c
          ∧ r.2.mem ((c.tc : Thread Cert.NormIdeal.nD Cert.NormIdeal.τ).loc Cert.NormIdeal.main_v1_4) = v6 c
          ∧ r.2.mem ((c.tc : Thread Cert.NormIdeal.nD Cert.NormIdeal.τ).loc Cert.NormIdeal.main_v1_5) = v7 c
          ∧ r.2.mem ((c.tc : Thread Cert.NormIdeal.nD Cert.NormIdeal.τ).loc Cert.NormIdeal.main_v1_6) = v8 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
          ∧ r.2.mem ((c.tc : Thread Cert.NormIdeal.nD Cert.NormIdeal.τ).loc Cert.NormIdeal.main_arg8) = m ((c.tc : Thread Cert.NormIdeal.nD Cert.NormIdeal.τ).loc Cert.NormIdeal.main_arg8))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v33) = v0 c
          ∧ r.2.mem ((c.tc : Thread Cert.NormReferenceIdeal.nD Cert.NormReferenceIdeal.τ).loc Cert.NormReferenceIdeal.main_v40) = v1 c
          ∧ r.2.mem ((c.tc : Thread Cert.NormReferenceIdeal.nD Cert.NormReferenceIdeal.τ).loc Cert.NormReferenceIdeal.main_v88) = v2 c
          ∧ r.2.mem ((c.tc : Thread Cert.NormReferenceIdeal.nD Cert.NormReferenceIdeal.τ).loc Cert.NormReferenceIdeal.main_v83) = v3 c
          ∧ r.2.mem ((c.tc : Thread Cert.NormReferenceIdeal.nD Cert.NormReferenceIdeal.τ).loc Cert.NormReferenceIdeal.main_v86) = v4 c
          ∧ r.2.mem ((c.tc : Thread Cert.NormReferenceIdeal.nD Cert.NormReferenceIdeal.τ).loc Cert.NormReferenceIdeal.main_v55) = v5 c
          ∧ r.2.mem ((c.tc : Thread Cert.NormReferenceIdeal.nD Cert.NormReferenceIdeal.τ).loc Cert.NormReferenceIdeal.main_v52) = v6 c
          ∧ r.2.mem ((c.tc : Thread Cert.NormReferenceIdeal.nD Cert.NormReferenceIdeal.τ).loc Cert.NormReferenceIdeal.main_v46) = v7 c
          ∧ r.2.mem ((c.tc : Thread Cert.NormReferenceIdeal.nD Cert.NormReferenceIdeal.τ).loc Cert.NormReferenceIdeal.main_v43) = v8 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5)
          ∧ r.2.mem ((c.tc : Thread Cert.NormReferenceIdeal.nD Cert.NormReferenceIdeal.τ).loc Cert.NormReferenceIdeal.main_arg6) = m' ((c.tc : Thread Cert.NormReferenceIdeal.nD Cert.NormReferenceIdeal.τ).loc Cert.NormReferenceIdeal.main_arg6)
          ∧ r.2.mem ((c.tc : Thread Cert.NormReferenceIdeal.nD Cert.NormReferenceIdeal.τ).loc Cert.NormReferenceIdeal.main_arg7) = m' ((c.tc : Thread Cert.NormReferenceIdeal.nD Cert.NormReferenceIdeal.τ).loc Cert.NormReferenceIdeal.main_arg7)
          ∧ r.2.mem ((c.tc : Thread Cert.NormReferenceIdeal.nD Cert.NormReferenceIdeal.τ).loc Cert.NormReferenceIdeal.main_arg8) = m' ((c.tc : Thread Cert.NormReferenceIdeal.nD Cert.NormReferenceIdeal.τ).loc Cert.NormReferenceIdeal.main_arg8))

def Claim : Prop :=
  ∃ (hKernel : Cert.Kernel.Facts) (hKernelIdeal : Cert.KernelIdeal.Facts) (hReferenceIdeal : Cert.ReferenceIdeal.Facts) (hFfUp : Cert.FfUp.Facts) (hFfUpIdeal : Cert.FfUpIdeal.Facts) (hFfUpReferenceIdeal : Cert.FfUpReferenceIdeal.Facts) (hFfDown : Cert.FfDown.Facts) (hFfDownIdeal : Cert.FfDownIdeal.Facts) (hFfDownReferenceIdeal : Cert.FfDownReferenceIdeal.Facts) (hMixer : Cert.Mixer.Facts) (hMixerIdeal : Cert.MixerIdeal.Facts) (hMixerReferenceIdeal : Cert.MixerReferenceIdeal.Facts) (hMixerOut : Cert.MixerOut.Facts) (hMixerOutIdeal : Cert.MixerOutIdeal.Facts) (hMixerOutReferenceIdeal : Cert.MixerOutReferenceIdeal.Facts) (hInProj : Cert.InProj.Facts) (hInProjIdeal : Cert.InProjIdeal.Facts) (hInProjReferenceIdeal : Cert.InProjReferenceIdeal.Facts) (hGate : Cert.Gate.Facts) (hGateIdeal : Cert.GateIdeal.Facts) (hGateReferenceIdeal : Cert.GateReferenceIdeal.Facts) (hAttention : Cert.Attention.Facts) (hAttentionIdeal : Cert.AttentionIdeal.Facts) (hAttentionReferenceIdeal : Cert.AttentionReferenceIdeal.Facts) (hSquaredRelu : Cert.SquaredRelu.Facts) (hSquaredReluIdeal : Cert.SquaredReluIdeal.Facts) (hSquaredReluReferenceIdeal : Cert.SquaredReluReferenceIdeal.Facts) (hNorm : Cert.Norm.Facts) (hNormIdeal : Cert.NormIdeal.Facts) (hNormReferenceIdeal : Cert.NormReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfUp (hFfUp := hFfUp)
    ∧ quiescent_FfUpIdeal (hFfUpIdeal := hFfUpIdeal)
    ∧ quiescent_FfUpReferenceIdeal (hFfUpReferenceIdeal := hFfUpReferenceIdeal)
    ∧ quiescent_FfDown (hFfDown := hFfDown)
    ∧ quiescent_FfDownIdeal (hFfDownIdeal := hFfDownIdeal)
    ∧ quiescent_FfDownReferenceIdeal (hFfDownReferenceIdeal := hFfDownReferenceIdeal)
    ∧ quiescent_Mixer (hMixer := hMixer)
    ∧ quiescent_MixerIdeal (hMixerIdeal := hMixerIdeal)
    ∧ quiescent_MixerReferenceIdeal (hMixerReferenceIdeal := hMixerReferenceIdeal)
    ∧ quiescent_MixerOut (hMixerOut := hMixerOut)
    ∧ quiescent_MixerOutIdeal (hMixerOutIdeal := hMixerOutIdeal)
    ∧ quiescent_MixerOutReferenceIdeal (hMixerOutReferenceIdeal := hMixerOutReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Gate (hGate := hGate)
    ∧ quiescent_GateIdeal (hGateIdeal := hGateIdeal)
    ∧ quiescent_GateReferenceIdeal (hGateReferenceIdeal := hGateReferenceIdeal)
    ∧ quiescent_Attention (hAttention := hAttention)
    ∧ quiescent_AttentionIdeal (hAttentionIdeal := hAttentionIdeal)
    ∧ quiescent_AttentionReferenceIdeal (hAttentionReferenceIdeal := hAttentionReferenceIdeal)
    ∧ quiescent_SquaredRelu (hSquaredRelu := hSquaredRelu)
    ∧ quiescent_SquaredReluIdeal (hSquaredReluIdeal := hSquaredReluIdeal)
    ∧ quiescent_SquaredReluReferenceIdeal (hSquaredReluReferenceIdeal := hSquaredReluReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfUp_FfUpIdeal
    ∧ algebraic_FfUpIdeal_FfUpReferenceIdeal (hFfUpIdeal := hFfUpIdeal) (hFfUpReferenceIdeal := hFfUpReferenceIdeal)
    ∧ preserves_FfDown_FfDownIdeal
    ∧ algebraic_FfDownIdeal_FfDownReferenceIdeal (hFfDownIdeal := hFfDownIdeal) (hFfDownReferenceIdeal := hFfDownReferenceIdeal)
    ∧ preserves_Mixer_MixerIdeal
    ∧ algebraic_MixerIdeal_MixerReferenceIdeal (hMixerIdeal := hMixerIdeal) (hMixerReferenceIdeal := hMixerReferenceIdeal)
    ∧ preserves_MixerOut_MixerOutIdeal
    ∧ algebraic_MixerOutIdeal_MixerOutReferenceIdeal (hMixerOutIdeal := hMixerOutIdeal) (hMixerOutReferenceIdeal := hMixerOutReferenceIdeal)
    ∧ preserves_InProj_InProjIdeal
    ∧ algebraic_InProjIdeal_InProjReferenceIdeal (hInProjIdeal := hInProjIdeal) (hInProjReferenceIdeal := hInProjReferenceIdeal)
    ∧ preserves_Gate_GateIdeal
    ∧ algebraic_GateIdeal_GateReferenceIdeal (hGateIdeal := hGateIdeal) (hGateReferenceIdeal := hGateReferenceIdeal)
    ∧ preserves_Attention_AttentionIdeal
    ∧ algebraic_AttentionIdeal_AttentionReferenceIdeal (hAttentionIdeal := hAttentionIdeal) (hAttentionReferenceIdeal := hAttentionReferenceIdeal)
    ∧ preserves_SquaredRelu_SquaredReluIdeal
    ∧ algebraic_SquaredReluIdeal_SquaredReluReferenceIdeal (hSquaredReluIdeal := hSquaredReluIdeal) (hSquaredReluReferenceIdeal := hSquaredReluReferenceIdeal)
    ∧ preserves_Norm_NormIdeal
    ∧ algebraic_NormIdeal_NormReferenceIdeal (hNormIdeal := hNormIdeal) (hNormReferenceIdeal := hNormReferenceIdeal)
-- ==== Pre_finite.lean ====
abbrev S2048x1024 : Shape := ⟨2, ![2048, 1024]⟩
abbrev S2048x256 : Shape := ⟨2, ![2048, 256]⟩
abbrev S1x16 : Shape := ⟨2, ![1, 16]⟩
abbrev S_ : Shape := ⟨0, ![]⟩

class Facts : Prop where
  bcast_S_S2048x1024 : S_.BroadcastsInDim S2048x1024 (![] : Fin 0 → Fin S2048x1024.rank)
  bcast_S_S2048x256 : S_.BroadcastsInDim S2048x256 (![] : Fin 0 → Fin S2048x256.rank)
  bcast_S_S1x16 : S_.BroadcastsInDim S1x16 (![] : Fin 0 → Fin S1x16.rank)

variable [Facts]

def fn_part1 {F : FTy → Type} [FloatOps F] (main_arg3 : FVec F S1x16 .f32) (main_arg4 : FVec F S2048x1024 .bf16) (main_v4 : IVec S2048x1024 1) (main_v9 : IVec S2048x256 1) (main_v14 : IVec S2048x256 1) (main_v16 : IVec S1x16 1) : IVec S2048x1024 1 × IVec S2048x256 1 × IVec S2048x256 1 × IVec S1x16 1 × IVec S2048x1024 1 :=
  let main_cst_6 : FVec F S_ .f32 := constant S_ .f32 0x7F800000#32
  let main_v17 : FVec F S1x16 .f32 := broadcastInDim S1x16 ![] bcast_S_S1x16 main_cst_6
  let main_v18 : IVec S1x16 1 := cmpf .olt main_arg3 main_v17
  let main_v19 : IVec S1x16 1 := andi main_v16 main_v18
  let main_cst_7 : FVec F S_ .bf16 := constant S_ .bf16 0xFF80#16
  let main_v20 : FVec F S2048x1024 .bf16 := broadcastInDim S2048x1024 ![] bcast_S_S2048x1024 main_cst_7
  let main_v21 : IVec S2048x1024 1 := cmpf .ogt main_arg4 main_v20
  let main_cst_8 : FVec F S_ .bf16 := constant S_ .bf16 0x7F80#16
  let main_v22 : FVec F S2048x1024 .bf16 := broadcastInDim S2048x1024 ![] bcast_S_S2048x1024 main_cst_8
  let main_v23 : IVec S2048x1024 1 := cmpf .olt main_arg4 main_v22
  let main_v24 : IVec S2048x1024 1 := andi main_v21 main_v23
  (main_v4, main_v9, main_v14, main_v19, main_v24)

def fn {F : FTy → Type} [FloatOps F] (main_arg0 : FVec F S2048x1024 .bf16) (main_arg1 : FVec F S2048x256 .bf16) (main_arg2 : FVec F S2048x256 .bf16) (main_arg3 : FVec F S1x16 .f32) (main_arg4 : FVec F S2048x1024 .bf16) : IVec S2048x1024 1 × IVec S2048x256 1 × IVec S2048x256 1 × IVec S1x16 1 × IVec S2048x1024 1 :=
  let main_cst : FVec F S_ .bf16 := constant S_ .bf16 0xFF80#16
  let main_v0 : FVec F S2048x1024 .bf16 := broadcastInDim S2048x1024 ![] bcast_S_S2048x1024 main_cst
  let main_v1 : IVec S2048x1024 1 := cmpf .ogt main_arg0 main_v0
  let main_cst_0 : FVec F S_ .bf16 := constant S_ .bf16 0x7F80#16
  let main_v2 : FVec F S2048x1024 .bf16 := broadcastInDim S2048x1024 ![] bcast_S_S2048x1024 main_cst_0
  let main_v3 : IVec S2048x1024 1 := cmpf .olt main_arg0 main_v2
  let main_v4 : IVec S2048x1024 1 := andi main_v1 main_v3
  let main_cst_1 : FVec F S_ .bf16 := constant S_ .bf16 0xFF80#16
  let main_v5 : FVec F S2048x256 .bf16 := broadcastInDim S2048x256 ![] bcast_S_S2048x256 main_cst_1
  let main_v6 : IVec S2048x256 1 := cmpf .ogt main_arg1 main_v5
  let main_cst_2 : FVec F S_ .bf16 := constant S_ .bf16 0x7F80#16
  let main_v7 : FVec F S2048x256 .bf16 := broadcastInDim S2048x256 ![] bcast_S_S2048x256 main_cst_2
  let main_v8 : IVec S2048x256 1 := cmpf .olt main_arg1 main_v7
  let main_v9 : IVec S2048x256 1 := andi main_v6 main_v8
  let main_cst_3 : FVec F S_ .bf16 := constant S_ .bf16 0xFF80#16
  let main_v10 : FVec F S2048x256 .bf16 := broadcastInDim S2048x256 ![] bcast_S_S2048x256 main_cst_3
  let main_v11 : IVec S2048x256 1 := cmpf .ogt main_arg2 main_v10
  let main_cst_4 : FVec F S_ .bf16 := constant S_ .bf16 0x7F80#16
  let main_v12 : FVec F S2048x256 .bf16 := broadcastInDim S2048x256 ![] bcast_S_S2048x256 main_cst_4
  let main_v13 : IVec S2048x256 1 := cmpf .olt main_arg2 main_v12
  let main_v14 : IVec S2048x256 1 := andi main_v11 main_v13
  let main_cst_5 : FVec F S_ .f32 := constant S_ .f32 0xFF800000#32
  let main_v15 : FVec F S1x16 .f32 := broadcastInDim S1x16 ![] bcast_S_S1x16 main_cst_5
  let main_v16 : IVec S1x16 1 := cmpf .ogt main_arg3 main_v15
  fn_part1 (F := F) main_arg3 main_arg4 main_v4 main_v9 main_v14 main_v16
-- ==== Kernel.lean ====
abbrev S2048x1024 : Shape := ⟨2, ![2048, 1024]⟩
abbrev S2048x256 : Shape := ⟨2, ![2048, 256]⟩
abbrev S1x16 : Shape := ⟨2, ![1, 16]⟩
abbrev S2048x16x64 : Shape := ⟨3, ![2048, 16, 64]⟩
abbrev S16x2048x64 : Shape := ⟨3, ![16, 2048, 64]⟩
abbrev S2048x4x64 : Shape := ⟨3, ![2048, 4, 64]⟩
abbrev S4x2048x64 : Shape := ⟨3, ![4, 2048, 64]⟩
abbrev S4x4x1x1 : Shape := ⟨4, ![4, 4, 1, 1]⟩
abbrev S4x4x128x1 : Shape := ⟨4, ![4, 4, 128, 1]⟩
abbrev S4x512x1 : Shape := ⟨3, ![4, 512, 1]⟩
abbrev S16x128x64 : Shape := ⟨3, ![16, 128, 64]⟩
abbrev S4x128x64 : Shape := ⟨3, ![4, 128, 64]⟩
abbrev S1x128x64 : Shape := ⟨3, ![1, 128, 64]⟩
abbrev S128x64 : Shape := ⟨2, ![128, 64]⟩
abbrev S1x512x1 : Shape := ⟨3, ![1, 512, 1]⟩
abbrev S512x1 : Shape := ⟨2, ![512, 1]⟩
abbrev S512x256 : Shape := ⟨2, ![512, 256]⟩
abbrev S512x64 : Shape := ⟨2, ![512, 64]⟩
abbrev S256x64 : Shape := ⟨2, ![256, 64]⟩
abbrev S512 : Shape := ⟨1, ![512]⟩
abbrev S4x1920x64 : Shape := ⟨3, ![4, 1920, 64]⟩
abbrev S_ : Shape := ⟨0, ![]⟩
abbrev S16x128 : Shape := ⟨2, ![16, 128]⟩
abbrev S16 : Shape := ⟨1, ![16]⟩

abbrev nBuf : Space → Nat
  | .hbm => 50
  | .vmem => 24
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S2048x256, .bf16⟩
  | .hbm, ⟨3, _⟩ => ⟨S1x16, .f32⟩
  | .hbm, ⟨4, _⟩ => ⟨S2048x1024, .bf16⟩
  | .hbm, ⟨5, _⟩ => ⟨S2048x16x64, .bf16⟩
  | .hbm, ⟨6, _⟩ => ⟨S16x2048x64, .bf16⟩
  | .hbm, ⟨7, _⟩ => ⟨S2048x4x64, .bf16⟩
  | .hbm, ⟨8, _⟩ => ⟨S4x2048x64, .bf16⟩
  | .hbm, ⟨9, _⟩ => ⟨S2048x4x64, .bf16⟩
  | .hbm, ⟨10, _⟩ => ⟨S4x2048x64, .bf16⟩
  | .hbm, ⟨11, _⟩ => ⟨S4x4x1x1, .f32⟩
  | .hbm, ⟨12, _⟩ => ⟨S4x4x128x1, .f32⟩
  | .hbm, ⟨13, _⟩ => ⟨S4x512x1, .f32⟩
  | .hbm, ⟨14, _⟩ => ⟨S2048x16x64, .bf16⟩
  | .hbm, ⟨15, _⟩ => ⟨S16x2048x64, .bf16⟩
  | .hbm, ⟨16, _⟩ => ⟨S16x2048x64, .bf16⟩
  | .hbm, ⟨17, _⟩ => ⟨S4x2048x64, .bf16⟩
  | .hbm, ⟨18, _⟩ => ⟨S4x2048x64, .bf16⟩
  | .hbm, ⟨19, _⟩ => ⟨S4x2048x64, .bf16⟩
  | .hbm, ⟨20, _⟩ => ⟨S4x2048x64, .bf16⟩
  | .hbm, ⟨21, _⟩ => ⟨S4x512x1, .f32⟩
  | .hbm, ⟨22, _⟩ => ⟨S4x1920x64, .bf16⟩
  | .hbm, ⟨23, _⟩ => ⟨S4x128x64, .bf16⟩
  | .hbm, ⟨24, _⟩ => ⟨S_, .bf16⟩
  | .hbm, ⟨25, _⟩ => ⟨S4x128x64, .bf16⟩
  | .hbm, ⟨26, _⟩ => ⟨S4x2048x64, .bf16⟩
  | .hbm, ⟨27, _⟩ => ⟨S4x2048x64, .f32⟩
  | .hbm, ⟨28, _⟩ => ⟨S4x2048x64, .f32⟩
  | .hbm, ⟨29, _⟩ => ⟨S4x2048x64, .f32⟩
  | .hbm, ⟨30, _⟩ => ⟨S4x2048x64, .bf16⟩
  | .hbm, ⟨31, _⟩ => ⟨S4x1920x64, .bf16⟩
  | .hbm, ⟨32, _⟩ => ⟨S4x128x64, .bf16⟩
  | .hbm, ⟨33, _⟩ => ⟨S_, .bf16⟩
  | .hbm, ⟨34, _⟩ => ⟨S4x128x64, .bf16⟩
  | .hbm, ⟨35, _⟩ => ⟨S4x2048x64, .bf16⟩
  | .hbm, ⟨36, _⟩ => ⟨S4x2048x64, .f32⟩
  | .hbm, ⟨37, _⟩ => ⟨S4x2048x64, .f32⟩
  | .hbm, ⟨38, _⟩ => ⟨S4x2048x64, .f32⟩
  | .hbm, ⟨39, _⟩ => ⟨S4x2048x64, .bf16⟩
  | .hbm, ⟨40, _⟩ => ⟨S2048x16x64, .bf16⟩
  | .hbm, ⟨41, _⟩ => ⟨S2048x1024, .bf16⟩
  | .hbm, ⟨42, _⟩ => ⟨S2048x4x64, .bf16⟩
  | .hbm, ⟨43, _⟩ => ⟨S2048x256, .bf16⟩
  | .hbm, ⟨44, _⟩ => ⟨S2048x4x64, .bf16⟩
  | .hbm, ⟨45, _⟩ => ⟨S2048x256, .bf16⟩
  | .hbm, ⟨46, _⟩ => ⟨S16x128, .f32⟩
  | .hbm, ⟨47, _⟩ => ⟨S_, .f32⟩
  | .hbm, ⟨48, _⟩ => ⟨S16, .f32⟩
  | .hbm, ⟨49, _⟩ => ⟨S1x16, .f32⟩
  | .local _ .vmem, ⟨0, _⟩ => ⟨S16x128x64, .bf16⟩
  | .local _ .vmem, ⟨1, _⟩ => ⟨S16x128x64, .bf16⟩
  | .local _ .vmem, ⟨2, _⟩ => ⟨S4x128x64, .bf16⟩
  | .local _ .vmem, ⟨3, _⟩ => ⟨S4x128x64, .bf16⟩
  | .local _ .vmem, ⟨4, _⟩ => ⟨S4x128x64, .bf16⟩
  | .local _ .vmem, ⟨5, _⟩ => ⟨S4x128x64, .bf16⟩
  | .local _ .vmem, ⟨6, _⟩ => ⟨S4x128x64, .bf16⟩
  | .local _ .vmem, ⟨7, _⟩ => ⟨S4x128x64, .bf16⟩
  | .local _ .vmem, ⟨8, _⟩ => ⟨S4x128x64, .bf16⟩
  | .local _ .vmem, ⟨9, _⟩ => ⟨S4x128x64, .bf16⟩
  | .local _ .vmem, ⟨10, _⟩ => ⟨S4x512x1, .f32⟩
  | .local _ .vmem, ⟨11, _⟩ => ⟨S16x128x64, .bf16⟩
  | .local _ .vmem, ⟨12, _⟩ => ⟨S16x128x64, .bf16⟩
  | .local _ .vmem, ⟨13, _⟩ => ⟨S16x128x64, .bf16⟩
  | .local _ .vmem, ⟨14, _⟩ => ⟨S16x128x64, .bf16⟩
  | .local _ .vmem, ⟨15, _⟩ => ⟨S4x128x64, .bf16⟩
  | .local _ .vmem, ⟨16, _⟩ => ⟨S4x128x64, .bf16⟩
  | .local _ .vmem, ⟨17, _⟩ => ⟨S4x128x64, .bf16⟩
  | .local _ .vmem, ⟨18, _⟩ => ⟨S4x128x64, .bf16⟩
  | .local _ .vmem, ⟨19, _⟩ => ⟨S4x128x64, .bf16⟩
  | .local _ .vmem, ⟨20, _⟩ => ⟨S4x128x64, .bf16⟩
  | .local _ .vmem, ⟨21, _⟩ => ⟨S4x128x64, .bf16⟩
  | .local _ .vmem, ⟨22, _⟩ => ⟨S4x128x64, .bf16⟩
  | .local _ .vmem, ⟨23, _⟩ => ⟨S4x512x1, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev main_v11_5 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_1 : Ref sig .tc := ⟨.hbm, 47, rfl⟩
abbrev main_v35 : Ref sig .tc := ⟨.hbm, 48, rfl⟩
abbrev main_v36 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S16x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x128x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x512x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
abbrev S2048x1024 : Shape := ⟨2, ![2048, 1024]⟩
abbrev S2048x256 : Shape := ⟨2, ![2048, 256]⟩
abbrev S1x16 : Shape := ⟨2, ![1, 16]⟩
abbrev S2048x16x64 : Shape := ⟨3, ![2048, 16, 64]⟩
abbrev S16x2048x64 : Shape := ⟨3, ![16, 2048, 64]⟩
abbrev S2048x4x64 : Shape := ⟨3, ![2048, 4, 64]⟩
abbrev S4x2048x64 : Shape := ⟨3, ![4, 2048, 64]⟩
abbrev S4x4x1x1 : Shape := ⟨4, ![4, 4, 1, 1]⟩
abbrev S4x4x128x1 : Shape := ⟨4, ![4, 4, 128, 1]⟩
abbrev S4x512x1 : Shape := ⟨3, ![4, 512, 1]⟩
abbrev S16x128x64 : Shape := ⟨3, ![16, 128, 64]⟩
abbrev S4x128x64 : Shape := ⟨3, ![4, 128, 64]⟩
abbrev S1x128x64 : Shape := ⟨3, ![1, 128, 64]⟩
abbrev S128x64 : Shape := ⟨2, ![128, 64]⟩
abbrev S1x512x1 : Shape := ⟨3, ![1, 512, 1]⟩
abbrev S512x1 : Shape := ⟨2, ![512, 1]⟩
abbrev S512x256 : Shape := ⟨2, ![512, 256]⟩
abbrev S512x64 : Shape := ⟨2, ![512, 64]⟩
abbrev S256x64 : Shape := ⟨2, ![256, 64]⟩
abbrev S512 : Shape := ⟨1, ![512]⟩
abbrev S4x1920x64 : Shape := ⟨3, ![4, 1920, 64]⟩
abbrev S_ : Shape := ⟨0, ![]⟩
abbrev S16x128 : Shape := ⟨2, ![16, 128]⟩
abbrev S16 : Shape := ⟨1, ![16]⟩

abbrev nBuf : Space → Nat
  | .hbm => 50
  | .vmem => 24
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S2048x256, .bf16⟩
  | .hbm, ⟨3, _⟩ => ⟨S1x16, .f32⟩
  | .hbm, ⟨4, _⟩ => ⟨S2048x1024, .bf16⟩
  | .hbm, ⟨5, _⟩ => ⟨S2048x16x64, .bf16⟩
  | .hbm, ⟨6, _⟩ => ⟨S16x2048x64, .bf16⟩
  | .hbm, ⟨7, _⟩ => ⟨S2048x4x64, .bf16⟩
  | .hbm, ⟨8, _⟩ => ⟨S4x2048x64, .bf16⟩
  | .hbm, ⟨9, _⟩ => ⟨S2048x4x64, .bf16⟩
  | .hbm, ⟨10, _⟩ => ⟨S4x2048x64, .bf16⟩
  | .hbm, ⟨11, _⟩ => ⟨S4x4x1x1, .f32⟩
  | .hbm, ⟨12, _⟩ => ⟨S4x4x128x1, .f32⟩
  | .hbm, ⟨13, _⟩ => ⟨S4x512x1, .f32⟩
  | .hbm, ⟨14, _⟩ => ⟨S2048x16x64, .bf16⟩
  | .hbm, ⟨15, _⟩ => ⟨S16x2048x64, .bf16⟩
  | .hbm, ⟨16, _⟩ => ⟨S16x2048x64, .bf16⟩
  | .hbm, ⟨17, _⟩ => ⟨S4x2048x64, .bf16⟩
  | .hbm, ⟨18, _⟩ => ⟨S4x2048x64, .bf16⟩
  | .hbm, ⟨19, _⟩ => ⟨S4x2048x64, .bf16⟩
  | .hbm, ⟨20, _⟩ => ⟨S4x2048x64, .bf16⟩
  | .hbm, ⟨21, _⟩ => ⟨S4x512x1, .f32⟩
  | .hbm, ⟨22, _⟩ => ⟨S4x1920x64, .bf16⟩
  | .hbm, ⟨23, _⟩ => ⟨S4x128x64, .bf16⟩
  | .hbm, ⟨24, _⟩ => ⟨S_, .bf16⟩
  | .hbm, ⟨25, _⟩ => ⟨S4x128x64, .bf16⟩
  | .hbm, ⟨26, _⟩ => ⟨S4x2048x64, .bf16⟩
  | .hbm, ⟨27, _⟩ => ⟨S4x2048x64, .f32⟩
  | .hbm, ⟨28, _⟩ => ⟨S4x2048x64, .f32⟩
  | .hbm, ⟨29, _⟩ => ⟨S4x2048x64, .f32⟩
  | .hbm, ⟨30, _⟩ => ⟨S4x2048x64, .bf16⟩
  | .hbm, ⟨31, _⟩ => ⟨S4x1920x64, .bf16⟩
  | .hbm, ⟨32, _⟩ => ⟨S4x128x64, .bf16⟩
  | .hbm, ⟨33, _⟩ => ⟨S_, .bf16⟩
  | .hbm, ⟨34, _⟩ => ⟨S4x128x64, .bf16⟩
  | .hbm, ⟨35, _⟩ => ⟨S4x2048x64, .bf16⟩
  | .hbm, ⟨36, _⟩ => ⟨S4x2048x64, .f32⟩
  | .hbm, ⟨37, _⟩ => ⟨S4x2048x64, .f32⟩
  | .hbm, ⟨38, _⟩ => ⟨S4x2048x64, .f32⟩
  | .hbm, ⟨39, _⟩ => ⟨S4x2048x64, .bf16⟩
  | .hbm, ⟨40, _⟩ => ⟨S2048x16x64, .bf16⟩
  | .hbm, ⟨41, _⟩ => ⟨S2048x1024, .bf16⟩
  | .hbm, ⟨42, _⟩ => ⟨S2048x4x64, .bf16⟩
  | .hbm, ⟨43, _⟩ => ⟨S2048x256, .bf16⟩
  | .hbm, ⟨44, _⟩ => ⟨S2048x4x64, .bf16⟩
  | .hbm, ⟨45, _⟩ => ⟨S2048x256, .bf16⟩
  | .hbm, ⟨46, _⟩ => ⟨S16x128, .f32⟩
  | .hbm, ⟨47, _⟩ => ⟨S_, .f32⟩
  | .hbm, ⟨48, _⟩ => ⟨S16, .f32⟩
  | .hbm, ⟨49, _⟩ => ⟨S1x16, .f32⟩
  | .local _ .vmem, ⟨0, _⟩ => ⟨S16x128x64, .bf16⟩
  | .local _ .vmem, ⟨1, _⟩ => ⟨S16x128x64, .bf16⟩
  | .local _ .vmem, ⟨2, _⟩ => ⟨S4x128x64, .bf16⟩
  | .local _ .vmem, ⟨3, _⟩ => ⟨S4x128x64, .bf16⟩
  | .local _ .vmem, ⟨4, _⟩ => ⟨S4x128x64, .bf16⟩
  | .local _ .vmem, ⟨5, _⟩ => ⟨S4x128x64, .bf16⟩
  | .local _ .vmem, ⟨6, _⟩ => ⟨S4x128x64, .bf16⟩
  | .local _ .vmem, ⟨7, _⟩ => ⟨S4x128x64, .bf16⟩
  | .local _ .vmem, ⟨8, _⟩ => ⟨S4x128x64, .bf16⟩
  | .local _ .vmem, ⟨9, _⟩ => ⟨S4x128x64, .bf16⟩
  | .local _ .vmem, ⟨10, _⟩ => ⟨S4x512x1, .f32⟩
  | .local _ .vmem, ⟨11, _⟩ => ⟨S16x128x64, .bf16⟩
  | .local _ .vmem, ⟨12, _⟩ => ⟨S16x128x64, .bf16⟩
  | .local _ .vmem, ⟨13, _⟩ => ⟨S16x128x64, .bf16⟩
  | .local _ .vmem, ⟨14, _⟩ => ⟨S16x128x64, .bf16⟩
  | .local _ .vmem, ⟨15, _⟩ => ⟨S4x128x64, .bf16⟩
  | .local _ .vmem, ⟨16, _⟩ => ⟨S4x128x64, .bf16⟩
  | .local _ .vmem, ⟨17, _⟩ => ⟨S4x128x64, .bf16⟩
  | .local _ .vmem, ⟨18, _⟩ => ⟨S4x128x64, .bf16⟩
  | .local _ .vmem, ⟨19, _⟩ => ⟨S4x128x64, .bf16⟩
  | .local _ .vmem, ⟨20, _⟩ => ⟨S4x128x64, .bf16⟩
  | .local _ .vmem, ⟨21, _⟩ => ⟨S4x128x64, .bf16⟩
  | .local _ .vmem, ⟨22, _⟩ => ⟨S4x128x64, .bf16⟩
  | .local _ .vmem, ⟨23, _⟩ => ⟨S4x512x1, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev main_v11_5 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_1 : Ref sig .tc := ⟨.hbm, 47, rfl⟩
abbrev main_v35 : Ref sig .tc := ⟨.hbm, 48, rfl⟩
abbrev main_v36 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S16x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x128x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x512x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S2048x1024 : Shape := ⟨2, ![2048, 1024]⟩
abbrev S2048x256 : Shape := ⟨2, ![2048, 256]⟩
abbrev S1x16 : Shape := ⟨2, ![1, 16]⟩
abbrev S1x2048x1024 : Shape := ⟨3, ![1, 2048, 1024]⟩
abbrev S1x2048x256 : Shape := ⟨3, ![1, 2048, 256]⟩
abbrev S16 : Shape := ⟨1, ![16]⟩
abbrev S1x16x128x4x4x64 : Shape := ⟨6, ![1, 16, 128, 4, 4, 64]⟩
abbrev S_ : Shape := ⟨0, ![]⟩
abbrev S1x128x256 : Shape := ⟨3, ![1, 128, 256]⟩
abbrev S1x2176x256 : Shape := ⟨3, ![1, 2176, 256]⟩
abbrev S1x17x128x4x64 : Shape := ⟨5, ![1, 17, 128, 4, 64]⟩
abbrev S1x16x128x4x64 : Shape := ⟨5, ![1, 16, 128, 4, 64]⟩
abbrev S1x16x256x4x64 : Shape := ⟨5, ![1, 16, 256, 4, 64]⟩
abbrev S1x16x4x256x128x4 : Shape := ⟨6, ![1, 16, 4, 256, 128, 4]⟩
abbrev S1x16x4x4x128x256 : Shape := ⟨6, ![1, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S1x1x4x4x1x1 : Shape := ⟨6, ![1, 1, 4, 4, 1, 1]⟩
abbrev S1x16x4x4x128 : Shape := ⟨5, ![1, 16, 4, 4, 128]⟩
abbrev S1x16x4x4x128x1 : Shape := ⟨6, ![1, 16, 4, 4, 128, 1]⟩
abbrev S1x16x4x64x4x128 : Shape := ⟨6, ![1, 16, 4, 64, 4, 128]⟩
abbrev S1x16x4x64x256 : Shape := ⟨5, ![1, 16, 4, 64, 256]⟩
abbrev S1x4x4x1 : Shape := ⟨4, ![1, 4, 4, 1]⟩
abbrev S16x4x4x128 : Shape := ⟨4, ![16, 4, 4, 128]⟩
abbrev S1x16x4x128x4x64 : Shape := ⟨6, ![1, 16, 4, 128, 4, 64]⟩
abbrev S1x16x4x256x64 : Shape := ⟨5, ![1, 16, 4, 256, 64]⟩

abbrev nBuf : Space → Nat
  | .hbm => 220
  | .vmem => 0
  | .smem => 0
  | _ => 0

abbrev hbmTy0_0 (i : Nat) : BufTy := match i % 128 with
  | 0 => ⟨S2048x1024, .bf16⟩
  | 1 => ⟨S2048x256, .bf16⟩
  | 2 => ⟨S2048x256, .bf16⟩
  | 3 => ⟨S1x16, .f32⟩
  | 4 => ⟨S2048x1024, .bf16⟩
  | 5 => ⟨S2048x1024, .f32⟩
  | 6 => ⟨S1x2048x1024, .f32⟩
  | 7 => ⟨S2048x256, .f32⟩
  | 8 => ⟨S1x2048x256, .f32⟩
  | 9 => ⟨S2048x256, .f32⟩
  | 10 => ⟨S1x2048x256, .f32⟩
  | 11 => ⟨S16, .f32⟩
  | 12 => ⟨S1x16x128x4x4x64, .f32⟩
  | 13 => ⟨S_, .f32⟩
  | 14 => ⟨S1x128x256, .f32⟩
  | 15 => ⟨S1x2176x256, .f32⟩
  | 16 => ⟨S_, .f32⟩
  | 17 => ⟨S1x128x256, .f32⟩
  | 18 => ⟨S1x17x128x4x64, .f32⟩
  | 19 => ⟨S1x16x128x4x64, .f32⟩
  | 20 => ⟨S1x16x128x4x64, .f32⟩
  | 21 => ⟨S1x16x256x4x64, .f32⟩
  | 22 => ⟨S_, .f32⟩
  | 23 => ⟨S1x128x256, .f32⟩
  | 24 => ⟨S1x2176x256, .f32⟩
  | 25 => ⟨S_, .f32⟩
  | 26 => ⟨S1x128x256, .f32⟩
  | 27 => ⟨S1x17x128x4x64, .f32⟩
  | 28 => ⟨S1x16x128x4x64, .f32⟩
  | 29 => ⟨S1x16x128x4x64, .f32⟩
  | 30 => ⟨S1x16x256x4x64, .f32⟩
  | 31 => ⟨S1x16x4x256x128x4, .f32⟩
  | 32 => ⟨S1x16x4x4x128x256, .f32⟩
  | 33 => ⟨S_, .f32⟩
  | 34 => ⟨S1x16x4x4x128x256, .f32⟩
  | 35 => ⟨S1x16x4x4x128x256, .f32⟩
  | 36 => ⟨S128, .i32⟩
  | 37 => ⟨S128x1, .i32⟩
  | 38 => ⟨S256, .i32⟩
  | 39 => ⟨S1x256, .i32⟩
  | 40 => ⟨S_, .i32⟩
  | 41 => ⟨S128x1, .i32⟩
  | 42 => ⟨S128x1, .i32⟩
  | 43 => ⟨S128x256, .i32⟩
  | 44 => ⟨S128x256, .i32⟩
  | 45 => ⟨S128x256, .i32⟩
  | 46 => ⟨S16, .i32⟩
  | 47 => ⟨S16x1x1, .i32⟩
  | 48 => ⟨S_, .i32⟩
  | 49 => ⟨S128x256, .i32⟩
  | 50 => ⟨S128x256, .i1⟩
  | 51 => ⟨S_, .i32⟩
  | 52 => ⟨S128x256, .i32⟩
  | 53 => ⟨S128x256, .i1⟩
  | 54 => ⟨S128x256, .i1⟩
  | 55 => ⟨S_, .i32⟩
  | 56 => ⟨S16x1x1, .i32⟩
  | 57 => ⟨S16x1x1, .i32⟩
  | 58 => ⟨S1x1x256, .i32⟩
  | 59 => ⟨S16x1x256, .i32⟩
  | 60 => ⟨S16x1x256, .i32⟩
  | 61 => ⟨S16x1x256, .i32⟩
  | 62 => ⟨S_, .i32⟩
  | 63 => ⟨S16x1x256, .i32⟩
  | 64 => ⟨S16x1x256, .i32⟩
  | 65 => ⟨S_, .i32⟩
  | 66 => ⟨S16x1x256, .i32⟩
  | 67 => ⟨S16x1x256, .i1⟩
  | 68 => ⟨S1x128x256, .i1⟩
  | 69 => ⟨S16x128x256, .i1⟩
  | 70 => ⟨S16x128x256, .i1⟩
  | 71 => ⟨S16x128x256, .i1⟩
  | 72 => ⟨S1x16x1x1x128x256, .i1⟩
  | 73 => ⟨S_, .f32⟩
  | 74 => ⟨S_, .f32⟩
  | 75 => ⟨S1x16x4x4x128x256, .i1⟩
  | 76 => ⟨S1x16x4x4x128x256, .f32⟩
  | 77 => ⟨S1x16x4x4x128x256, .f32⟩
  | 78 => ⟨S_, .f32⟩
  | 79 => ⟨S1x16x4x4x128x256, .f32⟩
  | 80 => ⟨S1x1x4x4x1x1, .f32⟩
  | 81 => ⟨S_, .f32⟩
  | 82 => ⟨S1x16x4x4x128, .f32⟩
  | 83 => ⟨S1x16x4x4x128x1, .f32⟩
  | 84 => ⟨S1x16x4x4x128x256, .f32⟩
  | 85 => ⟨S1x16x4x4x128x256, .i1⟩
  | 86 => ⟨S1x16x4x4x128x256, .f32⟩
  | 87 => ⟨S_, .f32⟩
  | 88 => ⟨S1x16x4x4x128, .f32⟩
  | 89 => ⟨S1x16x4x4x128x1, .f32⟩
  | 90 => ⟨S1x16x4x4x128x1, .f32⟩
  | 91 => ⟨S1x16x4x4x128x1, .f32⟩
  | 92 => ⟨S1x16x4x4x128x1, .f32⟩
  | 93 => ⟨S1x16x4x4x128x1, .i1⟩
  | 94 => ⟨S1x16x4x4x128x1, .f32⟩
  | 95 => ⟨S1x16x4x4x128x1, .i1⟩
  | 96 => ⟨S_, .f32⟩
  | 97 => ⟨S1x16x4x4x128x1, .f32⟩
  | 98 => ⟨S_, .f32⟩
  | 99 => ⟨S1x16x4x4x128x1, .f32⟩
  | 100 => ⟨S_, .f32⟩
  | 101 => ⟨S1x16x4x4x128x1, .f32⟩
  | 102 => ⟨S1x16x4x4x128x1, .f32⟩
  | 103 => ⟨S1x16x4x4x128x1, .f32⟩
  | 104 => ⟨S1x16x4x4x128x1, .f32⟩
  | 105 => ⟨S1x16x4x4x128x1, .i1⟩
  | 106 => ⟨S1x16x4x4x128x1, .f32⟩
  | 107 => ⟨S1x16x4x4x128x1, .i1⟩
  | 108 => ⟨S_, .f32⟩
  | 109 => ⟨S1x16x4x4x128x1, .f32⟩
  | 110 => ⟨S_, .f32⟩
  | 111 => ⟨S1x16x4x4x128x1, .f32⟩
  | 112 => ⟨S_, .f32⟩
  | 113 => ⟨S1x16x4x4x128x1, .f32⟩
  | 114 => ⟨S1x16x4x4x128x1, .f32⟩
  | 115 => ⟨S1x16x4x4x128x1, .f32⟩
  | 116 => ⟨S1x16x4x4x128x256, .f32⟩
  | 117 => ⟨S1x16x4x4x128x256, .f32⟩
  | 118 => ⟨S1x16x4x4x128x256, .f32⟩
  | 119 => ⟨S_, .f32⟩
  | 120 => ⟨S1x16x4x4x128, .f32⟩
  | 121 => ⟨S1x16x4x4x128x1, .f32⟩
  | 122 => ⟨S1x16x4x4x128x1, .f32⟩
  | 123 => ⟨S1x16x4x4x128x1, .f32⟩
  | 124 => ⟨S1x16x4x4x128x1, .f32⟩
  | 125 => ⟨S1x16x4x4x128x1, .f32⟩
  | 126 => ⟨S1x16x4x4x128x256, .f32⟩
  | 127 => ⟨S1x16x4x4x128x256, .f32⟩
  | _ => ⟨S2048x1024, .bf16⟩

abbrev hbmTy0_1 (i : Nat) : BufTy := match i % 128 with
  | 0 => ⟨S1x16x4x4x128x1, .f32⟩
  | 1 => ⟨S_, .f32⟩
  | 2 => ⟨S1x16x4x4x128x1, .f32⟩
  | 3 => ⟨S1x16x4x4x128x1, .f32⟩
  | 4 => ⟨S1x16x4x64x4x128, .f32⟩
  | 5 => ⟨S1x16x128x4x4x64, .f32⟩
  | 6 => ⟨S1x2048x1024, .f32⟩
  | 7 => ⟨S2048x1024, .f32⟩
  | 8 => ⟨S1x2048x1024, .f32⟩
  | 9 => ⟨S1x16x128x4x4x64, .f32⟩
  | 10 => ⟨S1x16x4x64x4x128, .f32⟩
  | 11 => ⟨S1x16x4x4x128x256, .f32⟩
  | 12 => ⟨S1x16x4x64x256, .f32⟩
  | 13 => ⟨S1x16x256x4x64, .f32⟩
  | 14 => ⟨S1x16x4x4x128x256, .f32⟩
  | 15 => ⟨S1x16x4x4x128x256, .f32⟩
  | 16 => ⟨S1x16x4x4x128x256, .f32⟩
  | 17 => ⟨S_, .f32⟩
  | 18 => ⟨S1x16x4x4x128, .f32⟩
  | 19 => ⟨S1x16x4x4x128x1, .f32⟩
  | 20 => ⟨S1x16x4x4x128x1, .f32⟩
  | 21 => ⟨S1x16x4x4x128x256, .f32⟩
  | 22 => ⟨S1x16x4x4x128x256, .f32⟩
  | 23 => ⟨S1x16x4x4x128x1, .f32⟩
  | 24 => ⟨S_, .f32⟩
  | 25 => ⟨S1x4x4x1, .f32⟩
  | 26 => ⟨S1x1x4x4x1x1, .f32⟩
  | 27 => ⟨S1x16x4x4x128x1, .f32⟩
  | 28 => ⟨S_, .f32⟩
  | 29 => ⟨S16x4x4x128, .f32⟩
  | 30 => ⟨S1x16x4x4x128, .f32⟩
  | 31 => ⟨S1x16x4x4x128x256, .f32⟩
  | 32 => ⟨S1x16x4x4x128x256, .f32⟩
  | 33 => ⟨S1x16x4x4x128x256, .f32⟩
  | 34 => ⟨S1x16x4x4x128x256, .f32⟩
  | 35 => ⟨S_, .f32⟩
  | 36 => ⟨S1x16x4x4x128, .f32⟩
  | 37 => ⟨S1x16x4x4x128x1, .f32⟩
  | 38 => ⟨S1x16x4x4x128x1, .f32⟩
  | 39 => ⟨S1x16x4x4x128x1, .f32⟩
  | 40 => ⟨S_, .f32⟩
  | 41 => ⟨S1x4x4x1, .f32⟩
  | 42 => ⟨S1x1x4x4x1x1, .f32⟩
  | 43 => ⟨S1x1x4x4x1x1, .f32⟩
  | 44 => ⟨S1x16x4x4x128x1, .f32⟩
  | 45 => ⟨S_, .f32⟩
  | 46 => ⟨S16x4x4x128, .f32⟩
  | 47 => ⟨S1x16x4x4x128, .f32⟩
  | 48 => ⟨S1x16x4x4x128, .f32⟩
  | 49 => ⟨S1x16x4x4x128x256, .f32⟩
  | 50 => ⟨S1x16x4x4x128x256, .f32⟩
  | 51 => ⟨S1x16x4x4x128x256, .f32⟩
  | 52 => ⟨S16, .f32⟩
  | 53 => ⟨S_, .f32⟩
  | 54 => ⟨S1x16x4x4x128x256, .f32⟩
  | 55 => ⟨S1x16x4x4x128x256, .f32⟩
  | 56 => ⟨S_, .f32⟩
  | 57 => ⟨S1x16x4x4x128x256, .f32⟩
  | 58 => ⟨S1x16x4x4x128x256, .f32⟩
  | 59 => ⟨S1x16x4x256x128x4, .f32⟩
  | 60 => ⟨S1x16x4x128x4x64, .f32⟩
  | 61 => ⟨S1x16x128x4x4x64, .f32⟩
  | 62 => ⟨S1x16x4x256x64, .f32⟩
  | 63 => ⟨S1x16x256x4x64, .f32⟩
  | 64 => ⟨S1x16x128x4x64, .f32⟩
  | 65 => ⟨S1x16x128x4x64, .f32⟩
  | 66 => ⟨S_, .f32⟩
  | 67 => ⟨S1x17x128x4x64, .f32⟩
  | 68 => ⟨S_, .f32⟩
  | 69 => ⟨S1x17x128x4x64, .f32⟩
  | 70 => ⟨S1x17x128x4x64, .f32⟩
  | 71 => ⟨S1x2176x256, .f32⟩
  | 72 => ⟨S1x128x256, .f32⟩
  | 73 => ⟨S1x2048x256, .f32⟩
  | 74 => ⟨S1x16x128x4x64, .f32⟩
  | 75 => ⟨S1x16x128x4x64, .f32⟩
  | 76 => ⟨S_, .f32⟩
  | 77 => ⟨S1x17x128x4x64, .f32⟩
  | 78 => ⟨S_, .f32⟩
  | 79 => ⟨S1x17x128x4x64, .f32⟩
  | 80 => ⟨S1x17x128x4x64, .f32⟩
  | 81 => ⟨S1x2176x256, .f32⟩
  | 82 => ⟨S1x128x256, .f32⟩
  | 83 => ⟨S1x2048x256, .f32⟩
  | 84 => ⟨S1x2048x1024, .f32⟩
  | 85 => ⟨S2048x1024, .f32⟩
  | 86 => ⟨S2048x1024, .bf16⟩
  | 87 => ⟨S2048x256, .f32⟩
  | 88 => ⟨S2048x256, .bf16⟩
  | 89 => ⟨S2048x256, .f32⟩
  | 90 => ⟨S2048x256, .bf16⟩
  | 91 => ⟨S1x16, .f32⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_7 : Ref sig .tc := ⟨.hbm, 62, rfl⟩
abbrev main_v48 : Ref sig .tc := ⟨.hbm, 63, rfl⟩
abbrev main_v49 : Ref sig .tc := ⟨.hbm, 64, rfl⟩
abbrev main_c_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_call0_v0 : Ref sig .tc := ⟨.hbm, 74, rfl⟩
abbrev main_v57_1 : Ref sig .tc := ⟨.hbm, 75, rfl⟩
abbrev main_call0_v2 : Ref sig .tc := ⟨.hbm, 76, rfl⟩
abbrev main_v57_0 : Ref sig .tc := ⟨.hbm, 77, rfl⟩
abbrev main_call0_cst : Ref sig .tc := ⟨.hbm, 78, rfl⟩
abbrev main_v57_2 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_19 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_20 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_21 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_22 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_23 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_24 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_25 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_call1_cst : Ref sig .tc := ⟨.hbm, 181, rfl⟩
abbrev main_call1_v0 : Ref sig .tc := ⟨.hbm, 182, rfl⟩
abbrev main_v143 : Ref sig .tc := ⟨.hbm, 183, rfl⟩
abbrev main_cst_26 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_cst_27 : Ref sig .tc := ⟨.hbm, 194, rfl⟩
abbrev main_v153 : Ref sig .tc := ⟨.hbm, 195, rfl⟩
abbrev main_cst_28 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_29 : Ref sig .tc := ⟨.hbm, 204, rfl⟩
abbrev main_v161 : Ref sig .tc := ⟨.hbm, 205, rfl⟩
abbrev main_cst_30 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩

abbrev nD : Nat := 1
abbrev τ : Topo := Topo.v7x

variable {F : FTy → Type} [FloatOps F]
-- ==== FfUp.lean ====
abbrev S2048x1024 : Shape := ⟨2, ![2048, 1024]⟩
abbrev S1024x4096 : Shape := ⟨2, ![1024, 4096]⟩
abbrev S2048x4096 : Shape := ⟨2, ![2048, 4096]⟩
abbrev S1024x1024 : Shape := ⟨2, ![1024, 1024]⟩

abbrev nBuf : Space → Nat
  | .hbm => 6
  | .vmem => 16
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x4096, .bf16⟩
  | .hbm, ⟨3, _⟩ => ⟨S2048x4096, .bf16⟩
  | .hbm, ⟨4, _⟩ => ⟨S2048x1024, .bf16⟩
  | .hbm, ⟨5, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x4096, .bf16⟩
  | .local _ .vmem, ⟨7, _⟩ => ⟨S1024x4096, .bf16⟩
  | .local _ .vmem, ⟨8, _⟩ => ⟨S1024x4096, .bf16⟩
  | .local _ .vmem, ⟨9, _⟩ => ⟨S1024x1024, .bf16⟩
  | .local _ .vmem, ⟨10, _⟩ => ⟨S1024x1024, .bf16⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S1024x1024, .bf16⟩
  | .local _ .vmem, ⟨15, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== FfUpIdeal.lean ====
abbrev S2048x1024 : Shape := ⟨2, ![2048, 1024]⟩
abbrev S1024x4096 : Shape := ⟨2, ![1024, 4096]⟩
abbrev S2048x4096 : Shape := ⟨2, ![2048, 4096]⟩
abbrev S1024x1024 : Shape := ⟨2, ![1024, 1024]⟩

abbrev nBuf : Space → Nat
  | .hbm => 6
  | .vmem => 16
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x4096, .bf16⟩
  | .hbm, ⟨3, _⟩ => ⟨S2048x4096, .bf16⟩
  | .hbm, ⟨4, _⟩ => ⟨S2048x1024, .bf16⟩
  | .hbm, ⟨5, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x4096, .bf16⟩
  | .local _ .vmem, ⟨7, _⟩ => ⟨S1024x4096, .bf16⟩
  | .local _ .vmem, ⟨8, _⟩ => ⟨S1024x4096, .bf16⟩
  | .local _ .vmem, ⟨9, _⟩ => ⟨S1024x1024, .bf16⟩
  | .local _ .vmem, ⟨10, _⟩ => ⟨S1024x1024, .bf16⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S1024x1024, .bf16⟩
  | .local _ .vmem, ⟨15, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== FfUpReferenceIdeal.lean ====
abbrev S2048x1024 : Shape := ⟨2, ![2048, 1024]⟩
abbrev S1024x4096 : Shape := ⟨2, ![1024, 4096]⟩
abbrev S2048x4096 : Shape := ⟨2, ![2048, 4096]⟩
abbrev S4096x1024 : Shape := ⟨2, ![4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x4096, .bf16⟩
  | .hbm, ⟨3, _⟩ => ⟨S2048x1024, .f32⟩
  | .hbm, ⟨4, _⟩ => ⟨S1024x4096, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S2048x1024, .f32⟩
  | .hbm, ⟨10, _⟩ => ⟨S2048x4096, .bf16⟩
  | .hbm, ⟨11, _⟩ => ⟨S2048x1024, .bf16⟩
  | .hbm, ⟨12, _⟩ => ⟨S1024x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== FfDown.lean ====
abbrev S2048x4096 : Shape := ⟨2, ![2048, 4096]⟩
abbrev S4096x1024 : Shape := ⟨2, ![4096, 1024]⟩
abbrev S2048x1024 : Shape := ⟨2, ![2048, 1024]⟩
abbrev S1024x4096 : Shape := ⟨2, ![1024, 4096]⟩
abbrev S1024x1024 : Shape := ⟨2, ![1024, 1024]⟩

abbrev nBuf : Space → Nat
  | .hbm => 6
  | .vmem => 16
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x1024, .f32⟩
  | .hbm, ⟨4, _⟩ => ⟨S2048x4096, .bf16⟩
  | .hbm, ⟨5, _⟩ => ⟨S4096x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S2048x1024, .bf16⟩
  | .local _ .vmem, ⟨12, _⟩ => ⟨S2048x1024, .bf16⟩
  | .local _ .vmem, ⟨13, _⟩ => ⟨S2048x1024, .f32⟩
  | .local _ .vmem, ⟨14, _⟩ => ⟨S1024x1024, .bf16⟩
  | .local _ .vmem, ⟨15, _⟩ => ⟨S1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== FfDownIdeal.lean ====
abbrev S2048x4096 : Shape := ⟨2, ![2048, 4096]⟩
abbrev S4096x1024 : Shape := ⟨2, ![4096, 1024]⟩
abbrev S2048x1024 : Shape := ⟨2, ![2048, 1024]⟩
abbrev S1024x4096 : Shape := ⟨2, ![1024, 4096]⟩
abbrev S1024x1024 : Shape := ⟨2, ![1024, 1024]⟩

abbrev nBuf : Space → Nat
  | .hbm => 6
  | .vmem => 16
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x1024, .f32⟩
  | .hbm, ⟨4, _⟩ => ⟨S2048x4096, .bf16⟩
  | .hbm, ⟨5, _⟩ => ⟨S4096x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S2048x1024, .bf16⟩
  | .local _ .vmem, ⟨12, _⟩ => ⟨S2048x1024, .bf16⟩
  | .local _ .vmem, ⟨13, _⟩ => ⟨S2048x1024, .f32⟩
  | .local _ .vmem, ⟨14, _⟩ => ⟨S1024x1024, .bf16⟩
  | .local _ .vmem, ⟨15, _⟩ => ⟨S1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== FfDownReferenceIdeal.lean ====
abbrev S2048x4096 : Shape := ⟨2, ![2048, 4096]⟩
abbrev S4096x1024 : Shape := ⟨2, ![4096, 1024]⟩
abbrev S2048x1024 : Shape := ⟨2, ![2048, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x4096, .f32⟩
  | .hbm, ⟨4, _⟩ => ⟨S4096x1024, .f32⟩
  | .hbm, ⟨5, _⟩ => ⟨S2048x1024, .f32⟩
  | .hbm, ⟨6, _⟩ => ⟨S1024x4096, .f32⟩
  | .hbm, ⟨7, _⟩ => ⟨S4096x1024, .f32⟩
  | .hbm, ⟨8, _⟩ => ⟨S2048x4096, .f32⟩
  | .hbm, ⟨9, _⟩ => ⟨S2048x4096, .bf16⟩
  | .hbm, ⟨10, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Mixer.lean ====
abbrev S2048x1024 : Shape := ⟨2, ![2048, 1024]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]
-- ==== MixerIdeal.lean ====
abbrev S2048x1024 : Shape := ⟨2, ![2048, 1024]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]
-- ==== MixerReferenceIdeal.lean ====
abbrev S2048x1024 : Shape := ⟨2, ![2048, 1024]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S2048x1024, .f32⟩
  | .hbm, ⟨10, _⟩ => ⟨S2048x1024, .bf16⟩
  | .hbm, ⟨11, _⟩ => ⟨S2048x1024, .bf16⟩
  | .hbm, ⟨12, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== MixerOut.lean ====
abbrev S2048x1024 : Shape := ⟨2, ![2048, 1024]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | .local _ .vmem, ⟨11, _⟩ => ⟨S2048x1024, .f32⟩
  | .local _ .vmem, ⟨12, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S2048x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]
-- ==== MixerOutReferenceIdeal.lean ====
abbrev S2048x1024 : Shape := ⟨2, ![2048, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S2048x1024, .f32⟩
  | .hbm, ⟨9, _⟩ => ⟨S2048x1024, .bf16⟩
  | .hbm, ⟨10, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InProj.lean ====
abbrev S2048x1024 : Shape := ⟨2, ![2048, 1024]⟩
abbrev S1024x1664 : Shape := ⟨2, ![1024, 1664]⟩
abbrev S1024x1024 : Shape := ⟨2, ![1024, 1024]⟩
abbrev S2048x1664 : Shape := ⟨2, ![2048, 1664]⟩

abbrev nBuf : Space → Nat
  | .hbm => 36
  | .vmem => 103
  | .smem => 0
  | _ => 0

abbrev bufTy : (tb : Table) → Fin (tcTables nBuf tb) → BufTy
  | .hbm, ⟨0, _⟩ => ⟨S2048x1024, .bf16⟩
  | .hbm, ⟨1, _⟩ => ⟨S1024x1664, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S2048x1664, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .hbm, ⟨15, _⟩ => ⟨S2048x1664, .bf16⟩
  | .hbm, ⟨16, _⟩ => ⟨S2048x1024, .bf16⟩
  | .hbm, ⟨17, _⟩ => ⟨S2048x1024, .bf16⟩
  | .hbm, ⟨18, _⟩ => ⟨S2048x1024, .bf16⟩
  | .hbm, ⟨19, _⟩ => ⟨S2048x1024, .bf16⟩
  | .hbm, ⟨20, _⟩ => ⟨S2048x1024, .bf16⟩
  | .hbm, ⟨21, _⟩ => ⟨S2048x1024, .bf16⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .bf16⟩
  | .hbm, ⟨29, _⟩ => ⟨S1024x1664, .bf16⟩
  | .hbm, ⟨30, _⟩ => ⟨S1024x1024, .bf16⟩
  | .hbm, ⟨31, _⟩ => ⟨S1024x1024, .bf16⟩
  | .hbm, ⟨32, _⟩ => ⟨S1024x1024, .bf16⟩
  | .hbm, ⟨33, _⟩ => ⟨S1024x1024, .bf16⟩
  | .hbm, ⟨34, _⟩ => ⟨S1024x1024, .bf16⟩
  | .hbm, ⟨35, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S1024x1024, .bf16⟩
  | .local _ .vmem, ⟨33, _⟩ => ⟨S1024x1024, .bf16⟩
  | .local _ .vmem, ⟨34, _⟩ => ⟨S1024x1024, .bf16⟩
  | .local _ .vmem, ⟨35, _⟩ => ⟨S1024x1664, .bf16⟩
  | .local _ .vmem, ⟨36, _⟩ => ⟨S1024x1664, .bf16⟩
  | .local _ .vmem, ⟨37, _⟩ => ⟨S1024x1664, .bf16⟩
  | .local _ .vmem, ⟨38, _⟩ => ⟨S1024x1024, .f32⟩
  | .local _ .vmem, ⟨39, _⟩ => ⟨S1024x1024, .f32⟩
  | .local _ .vmem, ⟨40, _⟩ => ⟨S1024x1024, .bf16⟩
  | .local _ .vmem, ⟨41, _⟩ => ⟨S1024x1024, .bf16⟩
  | .local _ .vmem, ⟨42, _⟩ => ⟨S1024x1024, .bf16⟩
  | .local _ .vmem, ⟨43, _⟩ => ⟨S1024x1024, .f32⟩
  | .local _ .vmem, ⟨44, _⟩ => ⟨S1024x1024, .f32⟩
  | .local _ .vmem, ⟨45, _⟩ => ⟨S1024x1024, .f32⟩
  | .local _ .vmem, ⟨46, _⟩ => ⟨S1024x1024, .f32⟩
  | .local _ .vmem, ⟨47, _⟩ => ⟨S1024x1024, .bf16⟩
  | .local _ .vmem, ⟨48, _⟩ => ⟨S1024x1024, .bf16⟩
  | .local _ .vmem, ⟨49, _⟩ => ⟨S1024x1024, .bf16⟩
  | .local _ .vmem, ⟨50, _⟩ => ⟨S1024x1024, .f32⟩
  | .local _ .vmem, ⟨51, _⟩ => ⟨S1024x1024, .f32⟩
  | .local _ .vmem, ⟨52, _⟩ => ⟨S1024x1024, .f32⟩
  | .local _ .vmem, ⟨53, _⟩ => ⟨S1024x1024, .f32⟩
  | .local _ .vmem, ⟨54, _⟩ => ⟨S1024x1024, .bf16⟩
  | .local _ .vmem, ⟨55, _⟩ => ⟨S1024x1024, .bf16⟩
  | .local _ .vmem, ⟨56, _⟩ => ⟨S1024x1024, .bf16⟩
  | .local _ .vmem, ⟨57, _⟩ => ⟨S1024x1024, .f32⟩
  | .local _ .vmem, ⟨58, _⟩ => ⟨S1024x1024, .f32⟩
  | .local _ .vmem, ⟨59, _⟩ => ⟨S1024x1024, .f32⟩
  | .local _ .vmem, ⟨60, _⟩ => ⟨S1024x1024, .f32⟩
  | .local _ .vmem, ⟨61, _⟩ => ⟨S1024x1024, .bf16⟩
  | .local _ .vmem, ⟨62, _⟩ => ⟨S1024x1024, .bf16⟩
  | .local _ .vmem, ⟨63, _⟩ => ⟨S1024x1024, .bf16⟩
  | .local _ .vmem, ⟨64, _⟩ => ⟨S1024x1024, .f32⟩
  | .local _ .vmem, ⟨65, _⟩ => ⟨S1024x1024, .f32⟩
  | .local _ .vmem, ⟨66, _⟩ => ⟨S1024x1024, .f32⟩
  | .local _ .vmem, ⟨67, _⟩ => ⟨S1024x1024, .f32⟩
  | .local _ .vmem, ⟨68, _⟩ => ⟨S1024x1024, .bf16⟩
  | .local _ .vmem, ⟨69, _⟩ => ⟨S1024x1024, .bf16⟩
  | .local _ .vmem, ⟨70, _⟩ => ⟨S1024x1024, .bf16⟩
  | .local _ .vmem, ⟨71, _⟩ => ⟨S1024x1024, .f32⟩
  | .local _ .vmem, ⟨72, _⟩ => ⟨S1024x1024, .f32⟩
  | .local _ .vmem, ⟨73, _⟩ => ⟨S1024x1024, .f32⟩
  | .local _ .vmem, ⟨74, _⟩ => ⟨S1024x1024, .f32⟩
  | .local _ .vmem, ⟨75, _⟩ => ⟨S1024x1024, .bf16⟩
  | .local _ .vmem, ⟨76, _⟩ => ⟨S1024x1024, .bf16⟩
  | .local _ .vmem, ⟨77, _⟩ => ⟨S1024x1024, .bf16⟩
  | .local _ .vmem, ⟨78, _⟩ => ⟨S1024x1024, .f32⟩
  | .local _ .vmem, ⟨79, _⟩ => ⟨S1024x1024, .f32⟩
  | .local _ .vmem, ⟨80, _⟩ => ⟨S1024x1024, .bf16⟩
  | .local _ .vmem, ⟨81, _⟩ => ⟨S1024x1024, .bf16⟩
  | .local _ .vmem, ⟨82, _⟩ => ⟨S2048x1024, .bf16⟩
  | .local _ .vmem, ⟨83, _⟩ => ⟨S2048x1664, .bf16⟩
  | .local _ .vmem, ⟨84, _⟩ => ⟨S1024x1664, .bf16⟩
  | .local _ .vmem, ⟨85, _⟩ => ⟨S2048x1024, .bf16⟩
  | .local _ .vmem, ⟨86, _⟩ => ⟨S2048x1024, .bf16⟩
  | .local _ .vmem, ⟨87, _⟩ => ⟨S1024x1024, .bf16⟩
  | .local _ .vmem, ⟨88, _⟩ => ⟨S2048x1024, .bf16⟩
  | .local _ .vmem, ⟨89, _⟩ => ⟨S2048x1024, .bf16⟩
  | .local _ .vmem, ⟨90, _⟩ => ⟨S1024x1024, .bf16⟩
  | .local _ .vmem, ⟨91, _⟩ => ⟨S2048x1024, .bf16⟩
  | .local _ .vmem, ⟨92, _⟩ => ⟨S2048x1024, .bf16⟩
  | .local _ .vmem, ⟨93, _⟩ => ⟨S1024x1024, .bf16⟩
  | .local _ .vmem, ⟨94, _⟩ => ⟨S2048x1024, .bf16⟩
  | .local _ .vmem, ⟨95, _⟩ => ⟨S2048x1024, .bf16⟩
  | .local _ .vmem, ⟨96, _⟩ => ⟨S1024x1024, .bf16⟩
  | .local _ .vmem, ⟨97, _⟩ => ⟨S2048x1024, .bf16⟩
  | .local _ .vmem, ⟨98, _⟩ => ⟨S2048x1024, .bf16⟩
  | .local _ .vmem, ⟨99, _⟩ => ⟨S1024x1024, .bf16⟩
  | .local _ .vmem, ⟨100, _⟩ => ⟨S2048x1024, .bf16⟩
  | .local _ .vmem, ⟨101, _⟩ => ⟨S2048x1024, .bf16⟩
  | .local _ .vmem, ⟨102, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | _, _ => false

abbrev semScoped : Fin 0 → Bool
  | ⟨_, h⟩ => absurd h (Nat.not_lt_zero _)

abbrev dmaSemScoped : Fin 103 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | _ => false

abbrev sig : RefSig :=
  ofTc nBuf bufTy 0 103 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc8_stg3_0 : Ref sig .tc := ⟨.vmem, 45, rfl⟩
abbrev cc8_stg3_1 : Ref sig .tc := ⟨.vmem, 46, rfl⟩
abbrev cc9_stg0_0 : Ref sig .tc := ⟨.vmem, 47, rfl⟩
abbrev cc9_stg0_1 : Ref sig .tc := ⟨.vmem, 48, rfl⟩
abbrev cc9_stg1_0 : Ref sig .tc := ⟨.vmem, 49, rfl⟩
abbrev cc9_stg2_0 : Ref sig .tc := ⟨.vmem, 50, rfl⟩
abbrev cc9_stg2_1 : Ref sig .tc := ⟨.vmem, 51, rfl⟩
abbrev cc9_stg3_0 : Ref sig .tc := ⟨.vmem, 52, rfl⟩
abbrev cc9_stg3_1 : Ref sig .tc := ⟨.vmem, 53, rfl⟩
abbrev cc10_stg0_0 : Ref sig .tc := ⟨.vmem, 54, rfl⟩
abbrev cc10_stg0_1 : Ref sig .tc := ⟨.vmem, 55, rfl⟩
abbrev cc10_stg1_0 : Ref sig .tc := ⟨.vmem, 56, rfl⟩
abbrev cc10_stg2_0 : Ref sig .tc := ⟨.vmem, 57, rfl⟩
abbrev cc10_stg2_1 : Ref sig .tc := ⟨.vmem, 58, rfl⟩
abbrev cc10_stg3_0 : Ref sig .tc := ⟨.vmem, 59, rfl⟩
abbrev cc10_stg3_1 : Ref sig .tc := ⟨.vmem, 60, rfl⟩
abbrev cc11_stg0_0 : Ref sig .tc := ⟨.vmem, 61, rfl⟩
abbrev cc11_stg0_1 : Ref sig .tc := ⟨.vmem, 62, rfl⟩
abbrev cc11_stg1_0 : Ref sig .tc := ⟨.vmem, 63, rfl⟩
abbrev cc11_stg2_0 : Ref sig .tc := ⟨.vmem, 64, rfl⟩
abbrev cc11_stg2_1 : Ref sig .tc := ⟨.vmem, 65, rfl⟩
abbrev cc11_stg3_0 : Ref sig .tc := ⟨.vmem, 66, rfl⟩
abbrev cc11_stg3_1 : Ref sig .tc := ⟨.vmem, 67, rfl⟩
abbrev cc12_stg0_0 : Ref sig .tc := ⟨.vmem, 68, rfl⟩
abbrev cc12_stg0_1 : Ref sig .tc := ⟨.vmem, 69, rfl⟩
abbrev cc12_stg1_0 : Ref sig .tc := ⟨.vmem, 70, rfl⟩
abbrev cc12_stg2_0 : Ref sig .tc := ⟨.vmem, 71, rfl⟩
abbrev cc12_stg2_1 : Ref sig .tc := ⟨.vmem, 72, rfl⟩
abbrev cc12_stg3_0 : Ref sig .tc := ⟨.vmem, 73, rfl⟩
abbrev cc12_stg3_1 : Ref sig .tc := ⟨.vmem, 74, rfl⟩
abbrev cc13_stg0_0 : Ref sig .tc := ⟨.vmem, 75, rfl⟩
abbrev cc13_stg0_1 : Ref sig .tc := ⟨.vmem, 76, rfl⟩
abbrev cc13_stg1_0 : Ref sig .tc := ⟨.vmem, 77, rfl⟩
abbrev cc13_stg2_0 : Ref sig .tc := ⟨.vmem, 78, rfl⟩
abbrev cc13_stg2_1 : Ref sig .tc := ⟨.vmem, 79, rfl⟩
abbrev cc13_stg3_0 : Ref sig .tc := ⟨.vmem, 80, rfl⟩
abbrev cc13_stg3_1 : Ref sig .tc := ⟨.vmem, 81, rfl⟩
abbrev cc14_stg0_0 : Ref sig .tc := ⟨.vmem, 82, rfl⟩
abbrev cc14_stg1_0 : Ref sig .tc := ⟨.vmem, 83, rfl⟩
abbrev cc14_stg2_0 : Ref sig .tc := ⟨.vmem, 84, rfl⟩
abbrev cc15_stg0_0 : Ref sig .tc := ⟨.vmem, 85, rfl⟩
abbrev cc15_stg1_0 : Ref sig .tc := ⟨.vmem, 86, rfl⟩
abbrev cc15_stg2_0 : Ref sig .tc := ⟨.vmem, 87, rfl⟩
abbrev cc16_stg0_0 : Ref sig .tc := ⟨.vmem, 88, rfl⟩
abbrev cc16_stg1_0 : Ref sig .tc := ⟨.vmem, 89, rfl⟩
abbrev cc16_stg2_0 : Ref sig .tc := ⟨.vmem, 90, rfl⟩
abbrev cc17_stg0_0 : Ref sig .tc := ⟨.vmem, 91, rfl⟩
abbrev cc17_stg1_0 : Ref sig .tc := ⟨.vmem, 92, rfl⟩
abbrev cc17_stg2_0 : Ref sig .tc := ⟨.vmem, 93, rfl⟩
abbrev cc18_stg0_0 : Ref sig .tc := ⟨.vmem, 94, rfl⟩
abbrev cc18_stg1_0 : Ref sig .tc := ⟨.vmem, 95, rfl⟩
abbrev cc18_stg2_0 : Ref sig .tc := ⟨.vmem, 96, rfl⟩
abbrev cc19_stg0_0 : Ref sig .tc := ⟨.vmem, 97, rfl⟩
abbrev cc19_stg1_0 : Ref sig .tc := ⟨.vmem, 98, rfl⟩
abbrev cc19_stg2_0 : Ref sig .tc := ⟨.vmem, 99, rfl⟩
abbrev cc20_stg0_0 : Ref sig .tc := ⟨.vmem, 100, rfl⟩
abbrev cc20_stg1_0 : Ref sig .tc := ⟨.vmem, 101, rfl⟩
abbrev cc20_stg2_0 : Ref sig .tc := ⟨.vmem, 102, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc8_sem3_0 : DmaSem sig := 45
abbrev cc8_sem3_1 : DmaSem sig := 46
abbrev cc9_sem0_0 : DmaSem sig := 47
abbrev cc9_sem0_1 : DmaSem sig := 48
abbrev cc9_sem1_0 : DmaSem sig := 49
abbrev cc9_sem2_0 : DmaSem sig := 50
abbrev cc9_sem2_1 : DmaSem sig := 51
abbrev cc9_sem3_0 : DmaSem sig := 52
abbrev cc9_sem3_1 : DmaSem sig := 53
abbrev cc10_sem0_0 : DmaSem sig := 54
abbrev cc10_sem0_1 : DmaSem sig := 55
abbrev cc10_sem1_0 : DmaSem sig := 56
abbrev cc10_sem2_0 : DmaSem sig := 57
abbrev cc10_sem2_1 : DmaSem sig := 58
abbrev cc10_sem3_0 : DmaSem sig := 59
abbrev cc10_sem3_1 : DmaSem sig := 60
abbrev cc11_sem0_0 : DmaSem sig := 61
abbrev cc11_sem0_1 : DmaSem sig := 62
abbrev cc11_sem1_0 : DmaSem sig := 63
abbrev cc11_sem2_0 : DmaSem sig := 64
abbrev cc11_sem2_1 : DmaSem sig := 65
abbrev cc11_sem3_0 : DmaSem sig := 66
abbrev cc11_sem3_1 : DmaSem sig := 67
abbrev cc12_sem0_0 : DmaSem sig := 68
abbrev cc12_sem0_1 : DmaSem sig := 69
abbrev cc12_sem1_0 : DmaSem sig := 70
abbrev cc12_sem2_0 : DmaSem sig := 71
abbrev cc12_sem2_1 : DmaSem sig := 72
abbrev cc12_sem3_0 : DmaSem sig := 73
abbrev cc12_sem3_1 : DmaSem sig := 74
abbrev cc13_sem0_0 : DmaSem sig := 75
abbrev cc13_sem0_1 : DmaSem sig := 76
abbrev cc13_sem1_0 : DmaSem sig := 77
abbrev cc13_sem2_0 : DmaSem sig := 78
abbrev cc13_sem2_1 : DmaSem sig := 79
abbrev cc13_sem3_0 : DmaSem sig := 80
abbrev cc13_sem3_1 : DmaSem sig := 81
abbrev cc14_sem0_0 : DmaSem sig := 82
abbrev cc14_sem1_0 : DmaSem sig := 83
abbrev cc14_sem2_0 : DmaSem sig := 84
abbrev cc15_sem0_0 : DmaSem sig := 85
abbrev cc15_sem1_0 : DmaSem sig := 86
abbrev cc15_sem2_0 : DmaSem sig := 87
abbrev cc16_sem0_0 : DmaSem sig := 88
abbrev cc16_sem1_0 : DmaSem sig := 89
abbrev cc16_sem2_0 : DmaSem sig := 90
abbrev cc17_sem0_0 : DmaSem sig := 91
abbrev cc17_sem1_0 : DmaSem sig := 92
abbrev cc17_sem2_0 : DmaSem sig := 93
abbrev cc18_sem0_0 : DmaSem sig := 94
abbrev cc18_sem1_0 : DmaSem sig := 95
abbrev cc18_sem2_0 : DmaSem sig := 96
abbrev cc19_sem0_0 : DmaSem sig := 97
abbrev cc19_sem1_0 : DmaSem sig := 98
abbrev cc19_sem2_0 : DmaSem sig := 99
abbrev cc20_sem0_0 : DmaSem sig := 100
abbrev cc20_sem1_0 : DmaSem sig := 101
abbrev cc20_sem2_0 : DmaSem sig := 102

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![2, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x1664 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S1024x1664 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc8_transform_3 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S1024x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev stage8_3 : Fin 2 → Memref sig .tc .vmem S1024x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true, false]

abbrev grid9 : Pipeline.Grid := ⟨3, ![2, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc9_transform_3 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S1024x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 1 → Memref sig .tc .vmem S1024x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 2 → Memref sig .tc .vmem S1024x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev stage9_3 : Fin 2 → Memref sig .tc .vmem S1024x1024 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true, false]

abbrev grid10 : Pipeline.Grid := ⟨3, ![2, 1, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc10_transform_3 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1024x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 1 → Memref sig .tc .vmem S1024x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true, true]

abbrev stage10_2 : Fin 2 → Memref sig .tc .vmem S1024x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev stage10_3 : Fin 2 → Memref sig .tc .vmem S1024x1024 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true, false]

abbrev grid11 : Pipeline.Grid := ⟨3, ![2, 1, 1], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc11_transform_3 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S1024x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 1 → Memref sig .tc .vmem S1024x1024 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true, true]

abbrev stage11_2 : Fin 2 → Memref sig .tc .vmem S1024x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev stage11_3 : Fin 2 → Memref sig .tc .vmem S1024x1024 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true, false]

abbrev grid12 : Pipeline.Grid := ⟨3, ![2, 1, 1], ![false, false, false]⟩

def cc12_transform_0 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc12_transform_1 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc12_transform_3 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage12_0 : Fin 2 → Memref sig .tc .vmem S1024x1024 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false, true]

abbrev stage12_1 : Fin 1 → Memref sig .tc .vmem S1024x1024 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, true, true]

abbrev stage12_2 : Fin 2 → Memref sig .tc .vmem S1024x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true, false]

abbrev stage12_3 : Fin 2 → Memref sig .tc .vmem S1024x1024 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, true, false]

abbrev grid13 : Pipeline.Grid := ⟨3, ![2, 1, 1], ![false, false, false]⟩

def cc13_transform_0 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc13_transform_1 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc13_transform_2 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc13_transform_3 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage13_0 : Fin 2 → Memref sig .tc .vmem S1024x1024 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, false, true]

abbrev stage13_1 : Fin 1 → Memref sig .tc .vmem S1024x1024 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false, true, true]

abbrev stage13_2 : Fin 2 → Memref sig .tc .vmem S1024x1024 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, true, false]

abbrev stage13_3 : Fin 2 → Memref sig .tc .vmem S1024x1024 .bf16 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true, true, false]

abbrev grid14 : Pipeline.Grid := ⟨3, ![1, 1, 1], ![false, false, false]⟩

def cc14_transform_0 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc14_transform_1 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc14_transform_2 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage14_0 : Fin 1 → Memref sig .tc .vmem S2048x1024 .bf16 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true, false, true]

abbrev stage14_1 : Fin 1 → Memref sig .tc .vmem S2048x1664 .bf16 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false, true, true]

abbrev stage14_2 : Fin 1 → Memref sig .tc .vmem S1024x1664 .bf16 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![true, true, false]

abbrev grid15 : Pipeline.Grid := ⟨3, ![1, 1, 1], ![false, false, false]⟩

def cc15_transform_0 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc15_transform_1 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc15_transform_2 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage15_0 : Fin 1 → Memref sig .tc .vmem S2048x1024 .bf16 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![true, false, true]

abbrev stage15_1 : Fin 1 → Memref sig .tc .vmem S2048x1024 .bf16 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false, true, true]

abbrev stage15_2 : Fin 1 → Memref sig .tc .vmem S1024x1024 .bf16 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![true, true, false]

abbrev grid16 : Pipeline.Grid := ⟨3, ![1, 1, 1], ![false, false, false]⟩

def cc16_transform_0 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc16_transform_1 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc16_transform_2 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage16_0 : Fin 1 → Memref sig .tc .vmem S2048x1024 .bf16 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![true, false, true]

abbrev stage16_1 : Fin 1 → Memref sig .tc .vmem S2048x1024 .bf16 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false, true, true]

abbrev stage16_2 : Fin 1 → Memref sig .tc .vmem S1024x1024 .bf16 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![true, true, false]

abbrev grid17 : Pipeline.Grid := ⟨3, ![1, 1, 1], ![false, false, false]⟩

def cc17_transform_0 (i : grid17.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc17_transform_1 (i : grid17.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc17_transform_2 (i : grid17.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage17_0 : Fin 1 → Memref sig .tc .vmem S2048x1024 .bf16 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![true, false, true]

abbrev stage17_1 : Fin 1 → Memref sig .tc .vmem S2048x1024 .bf16 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false, true, true]

abbrev stage17_2 : Fin 1 → Memref sig .tc .vmem S1024x1024 .bf16 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![true, true, false]

abbrev grid18 : Pipeline.Grid := ⟨3, ![1, 1, 1], ![false, false, false]⟩

def cc18_transform_0 (i : grid18.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc18_transform_1 (i : grid18.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc18_transform_2 (i : grid18.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage18_0 : Fin 1 → Memref sig .tc .vmem S2048x1024 .bf16 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))
abbrev reads18_0 : Fin grid18.rank → Bool := ![true, false, true]

abbrev stage18_1 : Fin 1 → Memref sig .tc .vmem S2048x1024 .bf16 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false, true, true]

abbrev stage18_2 : Fin 1 → Memref sig .tc .vmem S1024x1024 .bf16 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![true, true, false]

abbrev grid19 : Pipeline.Grid := ⟨3, ![1, 1, 1], ![false, false, false]⟩

def cc19_transform_0 (i : grid19.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc19_transform_1 (i : grid19.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc19_transform_2 (i : grid19.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage19_0 : Fin 1 → Memref sig .tc .vmem S2048x1024 .bf16 := fun | 0 => Memref.whole cc19_stg0_0 | ⟨_ + 1, h⟩ => absurd h (Nat.not_lt.2 (Nat.le_add_left _ _))
abbrev sem19_0 : Fin 1 → DmaSem sig := fun | 0 => cc19_sem0_0 | ⟨_ + 1, h⟩ => absurd h (Nat.not_lt.2 (Nat.le_add_left _ _))
abbrev reads19_0 : Fin grid19.rank → Bool := ![true, false, true]

abbrev stage19_1 : Fin 1 → Memref sig .tc .vmem S2048x1024 .bf16 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false, true, true]

abbrev stage19_2 : Fin 1 → Memref sig .tc .vmem S1024x1024 .bf16 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![true, true, false]

abbrev grid20 : Pipeline.Grid := ⟨3, ![1, 1, 1], ![false, false, false]⟩

def cc20_transform_0 (i : grid20.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc20_transform_1 (i : grid20.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc20_transform_2 (i : grid20.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage20_0 : Fin 1 → Memref sig .tc .vmem S2048x1024 .bf16 := fun | 0 => Memref.whole cc20_stg0_0 | ⟨_ + 1, h⟩ => absurd h (Nat.not_lt.2 (Nat.le_add_left _ _))
abbrev sem20_0 : Fin 1 → DmaSem sig := fun | 0 => cc20_sem0_0 | ⟨_ + 1, h⟩ => absurd h (Nat.not_lt.2 (Nat.le_add_left _ _))
abbrev reads20_0 : Fin grid20.rank → Bool := ![true, false, true]

abbrev stage20_1 : Fin 1 → Memref sig .tc .vmem S2048x1024 .bf16 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false, true, true]

abbrev stage20_2 : Fin 1 → Memref sig .tc .vmem S1024x1024 .bf16 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![true, true, false]
-- ==== InProjReferenceIdeal.lean ====
abbrev S2048x1024 : Shape := ⟨2, ![2048, 1024]⟩
abbrev S1024x1664 : Shape := ⟨2, ![1024, 1664]⟩
abbrev S1024x1024 : Shape := ⟨2, ![1024, 1024]⟩
abbrev S2048x1664 : Shape := ⟨2, ![2048, 1664]⟩
abbrev S1664x1024 : Shape := ⟨2, ![1664, 1024]⟩

abbrev nBuf : Space → Nat
  | .hbm => 79
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1664, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S2048x1664, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .hbm, ⟨15, _⟩ => ⟨S1024x1664, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S2048x1664, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1664, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S1024x1024, .f32⟩
  | .hbm, ⟨38, _⟩ => ⟨S1024x1024, .f32⟩
  | .hbm, ⟨39, _⟩ => ⟨S2048x1024, .f32⟩
  | .hbm, ⟨40, _⟩ => ⟨S1024x1024, .f32⟩
  | .hbm, ⟨41, _⟩ => ⟨S1024x1024, .f32⟩
  | .hbm, ⟨42, _⟩ => ⟨S2048x1024, .f32⟩
  | .hbm, ⟨43, _⟩ => ⟨S2048x1024, .f32⟩
  | .hbm, ⟨44, _⟩ => ⟨S1024x1024, .f32⟩
  | .hbm, ⟨45, _⟩ => ⟨S1024x1024, .f32⟩
  | .hbm, ⟨46, _⟩ => ⟨S2048x1024, .f32⟩
  | .hbm, ⟨47, _⟩ => ⟨S2048x1024, .f32⟩
  | .hbm, ⟨48, _⟩ => ⟨S1024x1024, .f32⟩
  | .hbm, ⟨49, _⟩ => ⟨S1024x1024, .f32⟩
  | .hbm, ⟨50, _⟩ => ⟨S2048x1024, .f32⟩
  | .hbm, ⟨51, _⟩ => ⟨S2048x1024, .f32⟩
  | .hbm, ⟨52, _⟩ => ⟨S1024x1024, .f32⟩
  | .hbm, ⟨53, _⟩ => ⟨S1024x1024, .f32⟩
  | .hbm, ⟨54, _⟩ => ⟨S2048x1024, .f32⟩
  | .hbm, ⟨55, _⟩ => ⟨S2048x1024, .f32⟩
  | .hbm, ⟨56, _⟩ => ⟨S1024x1024, .f32⟩
  | .hbm, ⟨57, _⟩ => ⟨S1024x1024, .f32⟩
  | .hbm, ⟨58, _⟩ => ⟨S2048x1024, .f32⟩
  | .hbm, ⟨59, _⟩ => ⟨S2048x1024, .f32⟩
  | .hbm, ⟨60, _⟩ => ⟨S1664x1024, .f32⟩
  | .hbm, ⟨61, _⟩ => ⟨S1024x1664, .f32⟩
  | .hbm, ⟨62, _⟩ => ⟨S2048x1024, .f32⟩
  | .hbm, ⟨63, _⟩ => ⟨S2048x1024, .f32⟩
  | .hbm, ⟨64, _⟩ => ⟨S2048x1664, .bf16⟩
  | .hbm, ⟨65, _⟩ => ⟨S2048x1024, .bf16⟩
  | .hbm, ⟨66, _⟩ => ⟨S2048x1024, .bf16⟩
  | .hbm, ⟨67, _⟩ => ⟨S2048x1024, .bf16⟩
  | .hbm, ⟨68, _⟩ => ⟨S2048x1024, .bf16⟩
  | .hbm, ⟨69, _⟩ => ⟨S2048x1024, .bf16⟩
  | .hbm, ⟨70, _⟩ => ⟨S2048x1024, .bf16⟩
  | .hbm, ⟨71, _⟩ => ⟨S2048x1024, .bf16⟩
  | .hbm, ⟨72, _⟩ => ⟨S1024x1664, .bf16⟩
  | .hbm, ⟨73, _⟩ => ⟨S1024x1024, .bf16⟩
  | .hbm, ⟨74, _⟩ => ⟨S1024x1024, .bf16⟩
  | .hbm, ⟨75, _⟩ => ⟨S1024x1024, .bf16⟩
  | .hbm, ⟨76, _⟩ => ⟨S1024x1024, .bf16⟩
  | .hbm, ⟨77, _⟩ => ⟨S1024x1024, .bf16⟩
  | .hbm, ⟨78, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]
-- ==== Gate.lean ====
abbrev S2048x1024 : Shape := ⟨2, ![2048, 1024]⟩
abbrev S512x1024 : Shape := ⟨2, ![512, 1024]⟩

abbrev nBuf : Space → Nat
  | .hbm => 10
  | .vmem => 28
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== GateReferenceIdeal.lean ====
abbrev S2048x1024 : Shape := ⟨2, ![2048, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .bf16⟩
  | .hbm, ⟨44, _⟩ => ⟨S2048x1024, .bf16⟩
  | .hbm, ⟨45, _⟩ => ⟨S2048x1024, .bf16⟩
  | .hbm, ⟨46, _⟩ => ⟨S2048x1024, .bf16⟩
  | .hbm, ⟨47, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Attention.lean ====
abbrev S2048x1024 : Shape := ⟨2, ![2048, 1024]⟩
abbrev S2048x256 : Shape := ⟨2, ![2048, 256]⟩
abbrev S1x16 : Shape := ⟨2, ![1, 16]⟩
abbrev S2048x16x64 : Shape := ⟨3, ![2048, 16, 64]⟩
abbrev S16x2048x64 : Shape := ⟨3, ![16, 2048, 64]⟩
abbrev S2048x4x64 : Shape := ⟨3, ![2048, 4, 64]⟩
abbrev S4x2048x64 : Shape := ⟨3, ![4, 2048, 64]⟩
abbrev S4x4x1x1 : Shape := ⟨4, ![4, 4, 1, 1]⟩
abbrev S4x4x128x1 : Shape := ⟨4, ![4, 4, 128, 1]⟩
abbrev S4x512x1 : Shape := ⟨3, ![4, 512, 1]⟩
abbrev S16x128x64 : Shape := ⟨3, ![16, 128, 64]⟩
abbrev S4x128x64 : Shape := ⟨3, ![4, 128, 64]⟩
abbrev S1x128x64 : Shape := ⟨3, ![1, 128, 64]⟩
abbrev S128x64 : Shape := ⟨2, ![128, 64]⟩
abbrev S1x512x1 : Shape := ⟨3, ![1, 512, 1]⟩
abbrev S512x1 : Shape := ⟨2, ![512, 1]⟩
abbrev S512x256 : Shape := ⟨2, ![512, 256]⟩
abbrev S512x64 : Shape := ⟨2, ![512, 64]⟩
abbrev S256x64 : Shape := ⟨2, ![256, 64]⟩
abbrev S512 : Shape := ⟨1, ![512]⟩

abbrev nBuf : Space → Nat
  | .hbm => 16
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S2048x256, .bf16⟩
  | .hbm, ⟨3, _⟩ => ⟨S1x16, .f32⟩
  | .hbm, ⟨4, _⟩ => ⟨S2048x16x64, .bf16⟩
  | .hbm, ⟨5, _⟩ => ⟨S16x2048x64, .bf16⟩
  | .hbm, ⟨6, _⟩ => ⟨S2048x4x64, .bf16⟩
  | .hbm, ⟨7, _⟩ => ⟨S4x2048x64, .bf16⟩
  | .hbm, ⟨8, _⟩ => ⟨S2048x4x64, .bf16⟩
  | .hbm, ⟨9, _⟩ => ⟨S4x2048x64, .bf16⟩
  | .hbm, ⟨10, _⟩ => ⟨S4x4x1x1, .f32⟩
  | .hbm, ⟨11, _⟩ => ⟨S4x4x128x1, .f32⟩
  | .hbm, ⟨12, _⟩ => ⟨S4x512x1, .f32⟩
  | .hbm, ⟨13, _⟩ => ⟨S16x2048x64, .bf16⟩
  | .hbm, ⟨14, _⟩ => ⟨S2048x16x64, .bf16⟩
  | .hbm, ⟨15, _⟩ => ⟨S2048x1024, .bf16⟩
  | .local _ .vmem, ⟨0, _⟩ => ⟨S16x128x64, .bf16⟩
  | .local _ .vmem, ⟨1, _⟩ => ⟨S16x128x64, .bf16⟩
  | .local _ .vmem, ⟨2, _⟩ => ⟨S4x128x64, .bf16⟩
  | .local _ .vmem, ⟨3, _⟩ => ⟨S4x128x64, .bf16⟩
  | .local _ .vmem, ⟨4, _⟩ => ⟨S4x128x64, .bf16⟩
  | .local _ .vmem, ⟨5, _⟩ => ⟨S4x128x64, .bf16⟩
  | .local _ .vmem, ⟨6, _⟩ => ⟨S4x128x64, .bf16⟩
  | .local _ .vmem, ⟨7, _⟩ => ⟨S4x128x64, .bf16⟩
  | .local _ .vmem, ⟨8, _⟩ => ⟨S4x128x64, .bf16⟩
  | .local _ .vmem, ⟨9, _⟩ => ⟨S4x128x64, .bf16⟩
  | .local _ .vmem, ⟨10, _⟩ => ⟨S4x512x1, .f32⟩
  | .local _ .vmem, ⟨11, _⟩ => ⟨S16x128x64, .bf16⟩
  | .local _ .vmem, ⟨12, _⟩ => ⟨S16x128x64, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttentionReferenceIdeal.lean ====
abbrev S2048x1024 : Shape := ⟨2, ![2048, 1024]⟩
abbrev S2048x256 : Shape := ⟨2, ![2048, 256]⟩
abbrev S1x16 : Shape := ⟨2, ![1, 16]⟩
abbrev S1x2048x1024 : Shape := ⟨3, ![1, 2048, 1024]⟩
abbrev S1x2048x256 : Shape := ⟨3, ![1, 2048, 256]⟩
abbrev S16 : Shape := ⟨1, ![16]⟩
abbrev S1x16x128x4x4x64 : Shape := ⟨6, ![1, 16, 128, 4, 4, 64]⟩
abbrev S_ : Shape := ⟨0, ![]⟩
abbrev S1x128x256 : Shape := ⟨3, ![1, 128, 256]⟩
abbrev S1x2176x256 : Shape := ⟨3, ![1, 2176, 256]⟩
abbrev S1x17x128x4x64 : Shape := ⟨5, ![1, 17, 128, 4, 64]⟩
abbrev S1x16x128x4x64 : Shape := ⟨5, ![1, 16, 128, 4, 64]⟩
abbrev S1x16x256x4x64 : Shape := ⟨5, ![1, 16, 256, 4, 64]⟩
abbrev S1x16x4x256x128x4 : Shape := ⟨6, ![1, 16, 4, 256, 128, 4]⟩
abbrev S1x16x4x4x128x256 : Shape := ⟨6, ![1, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S1x1x4x4x1x1 : Shape := ⟨6, ![1, 1, 4, 4, 1, 1]⟩
abbrev S1x16x4x4x128 : Shape := ⟨5, ![1, 16, 4, 4, 128]⟩
abbrev S1x16x4x4x128x1 : Shape := ⟨6, ![1, 16, 4, 4, 128, 1]⟩
abbrev S1x16x4x64x4x128 : Shape := ⟨6, ![1, 16, 4, 64, 4, 128]⟩

abbrev nBuf : Space → Nat
  | .hbm => 96
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S2048x256, .bf16⟩
  | .hbm, ⟨3, _⟩ => ⟨S1x16, .f32⟩
  | .hbm, ⟨4, _⟩ => ⟨S2048x1024, .f32⟩
  | .hbm, ⟨5, _⟩ => ⟨S1x2048x1024, .f32⟩
  | .hbm, ⟨6, _⟩ => ⟨S2048x256, .f32⟩
  | .hbm, ⟨7, _⟩ => ⟨S1x2048x256, .f32⟩
  | .hbm, ⟨8, _⟩ => ⟨S2048x256, .f32⟩
  | .hbm, ⟨9, _⟩ => ⟨S1x2048x256, .f32⟩
  | .hbm, ⟨10, _⟩ => ⟨S16, .f32⟩
  | .hbm, ⟨11, _⟩ => ⟨S1x16x128x4x4x64, .f32⟩
  | .hbm, ⟨12, _⟩ => ⟨S_, .f32⟩
  | .hbm, ⟨13, _⟩ => ⟨S1x128x256, .f32⟩
  | .hbm, ⟨14, _⟩ => ⟨S1x2176x256, .f32⟩
  | .hbm, ⟨15, _⟩ => ⟨S1x17x128x4x64, .f32⟩
  | .hbm, ⟨16, _⟩ => ⟨S1x16x128x4x64, .f32⟩
  | .hbm, ⟨17, _⟩ => ⟨S1x16x128x4x64, .f32⟩
  | .hbm, ⟨18, _⟩ => ⟨S1x16x256x4x64, .f32⟩
  | .hbm, ⟨19, _⟩ => ⟨S_, .f32⟩
  | .hbm, ⟨20, _⟩ => ⟨S1x128x256, .f32⟩
  | .hbm, ⟨21, _⟩ => ⟨S1x2176x256, .f32⟩
  | .hbm, ⟨22, _⟩ => ⟨S1x17x128x4x64, .f32⟩
  | .hbm, ⟨23, _⟩ => ⟨S1x16x128x4x64, .f32⟩
  | .hbm, ⟨24, _⟩ => ⟨S1x16x128x4x64, .f32⟩
  | .hbm, ⟨25, _⟩ => ⟨S1x16x256x4x64, .f32⟩
  | .hbm, ⟨26, _⟩ => ⟨S1x16x4x256x128x4, .f32⟩
  | .hbm, ⟨27, _⟩ => ⟨S1x16x4x4x128x256, .f32⟩
  | .hbm, ⟨28, _⟩ => ⟨S_, .f32⟩
  | .hbm, ⟨29, _⟩ => ⟨S1x16x4x4x128x256, .f32⟩
  | .hbm, ⟨30, _⟩ => ⟨S1x16x4x4x128x256, .f32⟩
  | .hbm, ⟨31, _⟩ => ⟨S128, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S16, .i32⟩
  | .hbm, ⟨42, _⟩ => ⟨S16x1x1, .i32⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S_, .i32⟩
  | .hbm, ⟨47, _⟩ => ⟨S128x256, .i32⟩
  | .hbm, ⟨48, _⟩ => ⟨S128x256, .i1⟩
  | .hbm, ⟨49, _⟩ => ⟨S128x256, .i1⟩
  | .hbm, ⟨50, _⟩ => ⟨S_, .i32⟩
  | .hbm, ⟨51, _⟩ => ⟨S16x1x1, .i32⟩
  | .hbm, ⟨52, _⟩ => ⟨S16x1x1, .i32⟩
  | .hbm, ⟨53, _⟩ => ⟨S1x1x256, .i32⟩
  | .hbm, ⟨54, _⟩ => ⟨S16x1x256, .i32⟩
  | .hbm, ⟨55, _⟩ => ⟨S16x1x256, .i32⟩
  | .hbm, ⟨56, _⟩ => ⟨S16x1x256, .i32⟩
  | .hbm, ⟨57, _⟩ => ⟨S_, .i32⟩
  | .hbm, ⟨58, _⟩ => ⟨S16x1x256, .i32⟩
  | .hbm, ⟨59, _⟩ => ⟨S16x1x256, .i32⟩
  | .hbm, ⟨60, _⟩ => ⟨S_, .i32⟩
  | .hbm, ⟨61, _⟩ => ⟨S16x1x256, .i32⟩
  | .hbm, ⟨62, _⟩ => ⟨S16x1x256, .i1⟩
  | .hbm, ⟨63, _⟩ => ⟨S1x128x256, .i1⟩
  | .hbm, ⟨64, _⟩ => ⟨S16x128x256, .i1⟩
  | .hbm, ⟨65, _⟩ => ⟨S16x128x256, .i1⟩
  | .hbm, ⟨66, _⟩ => ⟨S16x128x256, .i1⟩
  | .hbm, ⟨67, _⟩ => ⟨S1x16x1x1x128x256, .i1⟩
  | .hbm, ⟨68, _⟩ => ⟨S_, .f32⟩
  | .hbm, ⟨69, _⟩ => ⟨S_, .f32⟩
  | .hbm, ⟨70, _⟩ => ⟨S1x16x4x4x128x256, .i1⟩
  | .hbm, ⟨71, _⟩ => ⟨S1x16x4x4x128x256, .f32⟩
  | .hbm, ⟨72, _⟩ => ⟨S1x16x4x4x128x256, .f32⟩
  | .hbm, ⟨73, _⟩ => ⟨S1x1x4x4x1x1, .f32⟩
  | .hbm, ⟨74, _⟩ => ⟨S_, .f32⟩
  | .hbm, ⟨75, _⟩ => ⟨S1x16x4x4x128, .f32⟩
  | .hbm, ⟨76, _⟩ => ⟨S1x16x4x4x128x1, .f32⟩
  | .hbm, ⟨77, _⟩ => ⟨S1x16x4x4x128x1, .f32⟩
  | .hbm, ⟨78, _⟩ => ⟨S1x16x4x4x128x1, .f32⟩
  | .hbm, ⟨79, _⟩ => ⟨S1x16x4x4x128x256, .f32⟩
  | .hbm, ⟨80, _⟩ => ⟨S1x16x4x4x128x256, .f32⟩
  | .hbm, ⟨81, _⟩ => ⟨S1x16x4x4x128x256, .f32⟩
  | .hbm, ⟨82, _⟩ => ⟨S_, .f32⟩
  | .hbm, ⟨83, _⟩ => ⟨S1x16x4x4x128, .f32⟩
  | .hbm, ⟨84, _⟩ => ⟨S1x16x4x4x128x1, .f32⟩
  | .hbm, ⟨85, _⟩ => ⟨S1x16x4x4x128x1, .f32⟩
  | .hbm, ⟨86, _⟩ => ⟨S1x16x4x4x128x1, .f32⟩
  | .hbm, ⟨87, _⟩ => ⟨S1x16x4x4x128x1, .f32⟩
  | .hbm, ⟨88, _⟩ => ⟨S1x16x4x4x128x1, .f32⟩
  | .hbm, ⟨89, _⟩ => ⟨S1x16x4x4x128x256, .f32⟩
  | .hbm, ⟨90, _⟩ => ⟨S1x16x4x4x128x256, .f32⟩
  | .hbm, ⟨91, _⟩ => ⟨S1x16x4x64x4x128, .f32⟩
  | .hbm, ⟨92, _⟩ => ⟨S1x16x128x4x4x64, .f32⟩
  | .hbm, ⟨93, _⟩ => ⟨S1x2048x1024, .f32⟩
  | .hbm, ⟨94, _⟩ => ⟨S2048x1024, .f32⟩
  | .hbm, ⟨95, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_2 : Ref sig .tc := ⟨.hbm, 43, rfl⟩
abbrev main_v35 : Ref sig .tc := ⟨.hbm, 44, rfl⟩
abbrev main_v36 : Ref sig .tc := ⟨.hbm, 45, rfl⟩
abbrev main_c_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_5 : Ref sig .tc := ⟨.hbm, 57, rfl⟩
abbrev main_v46 : Ref sig .tc := ⟨.hbm, 58, rfl⟩
abbrev main_v47 : Ref sig .tc := ⟨.hbm, 59, rfl⟩
abbrev main_c_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== SquaredRelu.lean ====
abbrev S2048x4096 : Shape := ⟨2, ![2048, 4096]⟩
abbrev S1x4096 : Shape := ⟨2, ![1, 4096]⟩
abbrev S512x1024 : Shape := ⟨2, ![512, 1024]⟩
abbrev S1x1024 : Shape := ⟨2, ![1, 1024]⟩
abbrev S1024 : Shape := ⟨1, ![1024]⟩

abbrev nBuf : Space → Nat
  | .hbm => 6
  | .vmem => 16
  | .smem => 0
  | _ => 0

abbrev bufTy : (tb : Table) → Fin (tcTables nBuf tb) → BufTy
  | .hbm, ⟨0, _⟩ => ⟨S2048x4096, .bf16⟩
  | .hbm, ⟨1, _⟩ => ⟨S1x4096, .f32⟩
  | .hbm, ⟨2, _⟩ => ⟨S2048x4096, .bf16⟩
  | .hbm, ⟨3, _⟩ => ⟨S2048x4096, .bf16⟩
  | .hbm, ⟨4, _⟩ => ⟨S2048x4096, .bf16⟩
  | .hbm, ⟨5, _⟩ => ⟨S1x4096, .f32⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== SquaredReluReferenceIdeal.lean ====
abbrev S2048x4096 : Shape := ⟨2, ![2048, 4096]⟩
abbrev S1x4096 : Shape := ⟨2, ![1, 4096]⟩
abbrev S4096 : Shape := ⟨1, ![4096]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1x4096, .f32⟩
  | .hbm, ⟨2, _⟩ => ⟨S2048x4096, .bf16⟩
  | .hbm, ⟨3, _⟩ => ⟨S2048x4096, .f32⟩
  | .hbm, ⟨4, _⟩ => ⟨S4096, .f32⟩
  | .hbm, ⟨5, _⟩ => ⟨S1x4096, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .i1⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S_, .f32⟩
  | .hbm, ⟨18, _⟩ => ⟨S2048x4096, .f32⟩
  | .hbm, ⟨19, _⟩ => ⟨S2048x4096, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S_, .f32⟩
  | .hbm, ⟨29, _⟩ => ⟨S4096, .f32⟩
  | .hbm, ⟨30, _⟩ => ⟨S1x4096, .f32⟩
  | .hbm, ⟨31, _⟩ => ⟨S2048x4096, .bf16⟩
  | .hbm, ⟨32, _⟩ => ⟨S2048x4096, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Norm.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 18
  | .vmem => 35
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg14_0 : Ref sig .tc := ⟨.vmem, 33, rfl⟩
abbrev cc1_stg15_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem12_0 : DmaSem sig := 31
abbrev cc1_sem13_0 : DmaSem sig := 32
abbrev cc1_sem14_0 : DmaSem sig := 33
abbrev cc1_sem15_0 : DmaSem sig := 34

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true, false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![true, false]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![true, false]

abbrev stage1_15 : Fin 1 → Memref sig .tc .vmem S1x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![true, false]
-- ==== NormReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 121
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .bf16⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S2048x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S2048, .f32⟩
  | .hbm, ⟨84, _⟩ => ⟨S2048x1, .f32⟩
  | .hbm, ⟨85, _⟩ => ⟨S2048x1024, .f32⟩
  | .hbm, ⟨86, _⟩ => ⟨S2048x1024, .f32⟩
  | .hbm, ⟨87, _⟩ => ⟨S2048x1, .f32⟩
  | .hbm, ⟨88, _⟩ => ⟨S2048x1024, .f32⟩
  | .hbm, ⟨89, _⟩ => ⟨S_, .f32⟩
  | .hbm, ⟨90, _⟩ => ⟨S2048, .f32⟩
  | .hbm, ⟨91, _⟩ => ⟨S2048x1, .f32⟩
  | .hbm, ⟨92, _⟩ => ⟨S_, .f32⟩
  | .hbm, ⟨93, _⟩ => ⟨S2048x1, .f32⟩
  | .hbm, ⟨94, _⟩ => ⟨S2048x1, .f32⟩
  | .hbm, ⟨95, _⟩ => ⟨S_, .f32⟩
  | .hbm, ⟨96, _⟩ => ⟨S2048, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S_, .f32⟩
  | .hbm, ⟨101, _⟩ => ⟨S2048, .f32⟩
  | .hbm, ⟨102, _⟩ => ⟨S2048x1, .f32⟩
  | .hbm, ⟨103, _⟩ => ⟨S2048x1024, .f32⟩
  | .hbm, ⟨104, _⟩ => ⟨S2048x1, .f32⟩
  | .hbm, ⟨105, _⟩ => ⟨S_, .f32⟩
  | .hbm, ⟨106, _⟩ => ⟨S2048x1, .f32⟩
  | .hbm, ⟨107, _⟩ => ⟨S2048x1, .f32⟩
  | .hbm, ⟨108, _⟩ => ⟨S_, .f32⟩
  | .hbm, ⟨109, _⟩ => ⟨S2048, .f32⟩
  | .hbm, ⟨110, _⟩ => ⟨S2048x1024, .f32⟩
  | .hbm, ⟨111, _⟩ => ⟨S2048x1024, .f32⟩
  | .hbm, ⟨112, _⟩ => ⟨S2048x1024, .f32⟩
  | .hbm, ⟨113, _⟩ => ⟨S2048x1024, .f32⟩
  | .hbm, ⟨114, _⟩ => ⟨S2048x1024, .f32⟩
  | .hbm, ⟨115, _⟩ => ⟨S_, .f32⟩
  | .hbm, ⟨116, _⟩ => ⟨S1024, .f32⟩
  | .hbm, ⟨117, _⟩ => ⟨S1x1024, .f32⟩
  | .hbm, ⟨118, _⟩ => ⟨S_, .f32⟩
  | .hbm, ⟨119, _⟩ => ⟨S2048x1024, .f32⟩
  | .hbm, ⟨120, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_17 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_cst_19 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_20 : Ref sig .tc := ⟨.hbm, 115, rfl⟩
abbrev main_v85 : Ref sig .tc := ⟨.hbm, 116, rfl⟩
abbrev main_v86 : Ref sig .tc := ⟨.hbm, 117, rfl⟩
abbrev main_cst_21 : Ref sig .tc := ⟨.hbm, 118, rfl⟩
abbrev main_v87 : Ref sig .tc := ⟨.hbm, 119, rfl⟩
abbrev main_v88 : Ref sig .tc := ⟨.hbm, 120, rfl⟩

abbrev nD : Nat := 1
abbrev τ : Topo := Topo.v7x

variable {F : FTy → Type} [FloatOps F]
-- ==== Proof.Frames.lean ====
/- The frames of the three programs: each one runs to the end and leaves its arguments as they were. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Claim

@[expose] public section

namespace Cert.Proof

open Idealize.ShloMosaic Idealize.SL.Sem

/-- The kernel at its own floats runs and leaves its arguments alone: the generated frame. -/
theorem frame_kernel : Cert.quiescent_Kernel := fun m g _ => Cert.Kernel.Gen.frame m g

/-- The same for the kernel read over the extended reals. -/
theorem frame_ideal : Cert.quiescent_KernelIdeal := fun m g _ => Cert.KernelIdeal.Gen.frame m g

/-- The reference runs, leaves its arguments alone, and has no semaphore that could end above zero. -/
theorem frame_reference : Cert.quiescent_ReferenceIdeal := fun m g _ =>
  (θ_run Cert.ReferenceIdeal.defs _ _).mono
    (fun r h => ⟨fun c => (h c).2.2.2.2, sem_eq_zero_of_no_sems (by decide) r.2⟩)
    (Cert.ReferenceIdeal.Value.run m g)

end Cert.Proof
-- ==== Proof.Row.lean ====
/-
The mathematics of one head of the attention's gradient on one block of 128 positions, free of any program.

A `Cell` holds what the gradient of one group of heads on one block is made from: 512 query rows (4 heads of 128
positions), 256 key and value rows (the block before and the block itself), the incoming gradient of every query row,
the sink of every query row, and the mask. Its fields are extended reals, its functions the sums that the gradient is.
-/
module

public import Idealize.ShloMosaic.Lib.Pipeline.ValueKit
public import Idealize.ShloMosaic.Lib.Pointwise

@[expose] public section

noncomputable section

open Idealize.ShloMosaic

namespace Swa

/-- The largest of a row's scores and its sink. -/
def rowMax (s : Fin 256 → EReal) (σ : EReal) : EReal :=
  max (Finset.univ.fold max (Ideal.ofBits FTy.f32 4286578688#32) s) σ
/-- The exponential of a score below the largest. -/
def rowExp (s : Fin 256 → EReal) (σ : EReal) (j : Fin 256) : EReal := Ideal.exp (s j - rowMax s σ)
/-- The sink's exponential. -/
def sinkExp (s : Fin 256 → EReal) (σ : EReal) : EReal := Ideal.exp (σ - rowMax s σ)
/-- The softmax's denominator, the sink included. -/
def rowDen (s : Fin 256 → EReal) (σ : EReal) : EReal := (∑ x, rowExp s σ x) + sinkExp s σ
/-- The softmax. -/
def rowSoft (s : Fin 256 → EReal) (σ : EReal) (j : Fin 256) : EReal := Ideal.div (rowExp s σ j) (rowDen s σ)
/-- The gradient of the denominator. -/
def denGrad (s g : Fin 256 → EReal) (σ : EReal) : EReal :=
  0 - ∑ x, g x * Ideal.div 1 (rowDen s σ * rowDen s σ) * rowExp s σ x
/-- The gradient of a score, before the mask and the scale. -/
def scoreGrad (s g : Fin 256 → EReal) (σ : EReal) (j : Fin 256) : EReal :=
  (Ideal.div (g j) (rowDen s σ) + denGrad s g σ) * rowExp s σ j

/-- One group of four heads on one block. -/
structure Cell where
  /-- which scores count -/
  mask : Fin 512 → Fin 256 → BitVec 1
  /-- the query rows -/
  qry : Fin 512 → Fin 64 → EReal
  /-- the key rows -/
  key : Fin 256 → Fin 64 → EReal
  /-- the value rows -/
  val : Fin 256 → Fin 64 → EReal
  /-- the gradient that comes in -/
  out : Fin 512 → Fin 64 → EReal
  /-- the sinks -/
  sink : Fin 512 → EReal

namespace Cell

variable (c : Cell)

/-- The masked, scaled scores. -/
def score (i : Fin 512) (j : Fin 256) : EReal :=
  Scalar.select (c.mask i j) ((∑ x, c.qry i x * c.key j x) * Ideal.ofBits FTy.f32 1040187392#32)
    (Ideal.ofBits FTy.f32 4286578688#32)
/-- The gradient of the softmax. -/
def soft (i : Fin 512) (j : Fin 256) : EReal := ∑ x, c.out i x * c.val j x
/-- The gradient of the products of queries and keys. -/
def ds (i : Fin 512) (j : Fin 256) : EReal :=
  Scalar.select (c.mask i j) (scoreGrad (c.score i) (c.soft i) (c.sink i) j * Ideal.ofBits FTy.f32 1040187392#32) 0
/-- The softmax of the scores. -/
def pn (i : Fin 512) (j : Fin 256) : EReal := rowSoft (c.score i) (c.sink i) j
/-- The gradient of a row's sink. -/
def dsink (i : Fin 512) : EReal := denGrad (c.score i) (c.soft i) (c.sink i) * sinkExp (c.score i) (c.sink i)
/-- The gradient of a query row. -/
def dq (i : Fin 512) (d : Fin 64) : EReal := ∑ j, c.ds i j * c.key j d
/-- The gradient of a key row. -/
def dk (j : Fin 256) (d : Fin 64) : EReal := ∑ i, c.ds i j * c.qry i d
/-- The gradient of a value row. -/
def dv (j : Fin 256) (d : Fin 64) : EReal := ∑ i, c.pn i j * c.out i d

end Cell

/-- A sum over 256 is the sum over its two halves. -/
theorem sum_halves (f : Fin 256 → EReal) :
    ∑ j, f j = (∑ j : Fin 128, f ⟨j.val, by omega⟩) + ∑ j : Fin 128, f ⟨128 + j.val, by omega⟩ :=
  Fin.sum_univ_add (a := 128) (b := 128) f

end Swa
-- ==== Proof.Head.lean ====
/- One head of the attention's backward kernel, read at an index. -/
module

public import proofs.«01_k».proof.Proof.Gen.KernelIdeal.Skeleton
public import proofs.«01_k».proof.Proof.Row
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (b : BitVec 1) (q : FVec Ideal S4x128x64 .bf16) (kp kc vp vc : FVec Ideal S1x128x64 .bf16)
  (sk : FVec Ideal S1x512x1 .f32) (o : FVec Ideal S4x128x64 .bf16)

/-- What one head's tiles hold, as a cell. -/
def tileCell : Swa.Cell where
  mask i j := k0_pay25 b (ix2 i j)
  qry i d := q (ix3 ⟨i.val / 128, by omega⟩ ⟨i.val % 128, by omega⟩ d)
  key j d := if h : j.val < 128 then kp (ix3 0 ⟨j.val, by omega⟩ d) else kc (ix3 0 ⟨j.val - 128, by omega⟩ d)
  val j d := if h : j.val < 128 then vp (ix3 0 ⟨j.val, by omega⟩ d) else vc (ix3 0 ⟨j.val - 128, by omega⟩ d)
  out i d := o (ix3 ⟨i.val / 128, by omega⟩ ⟨i.val % 128, by omega⟩ d)
  sink i := sk (ix3 0 i 0)

/-- The scores. -/
def hs : FVec Ideal S512x256 .f32 := k0_pay38 b (k0_pay1 q) (k0_pay5 kp) (k0_pay9 kc)
/-- The gradient of the softmax. -/
def hg : FVec Ideal S512x256 .f32 := k0_pay81 (k0_pay34 (k0_pay13 vp) (k0_pay17 vc)) (k0_pay69 o)
/-- The exponentials. -/
def hp : FVec Ideal S512x256 .f32 := k0_pay48 (k0_pay21 sk) (hs b q kp kc)
/-- The gradient of the scores before the mask. -/
def hw : FVec Ideal S512x256 .f32 :=
  k0_pay95 (hp b q kp kc sk) (k0_pay53 (k0_pay21 sk) (hs b q kp kc)) (k0_pay55 (k0_pay21 sk) (hs b q kp kc)) (hg vp vc o)
/-- The softmax. -/
def hn : FVec Ideal S512x256 .f32 := k0_pay54 (k0_pay21 sk) (hs b q kp kc)
/-- The gradient of the sinks. -/
def hc : FVec Ideal S512x1 .f32 :=
  k0_pay93 (hp b q kp kc sk) (k0_pay52 (k0_pay21 sk) (hs b q kp kc)) (k0_pay55 (k0_pay21 sk) (hs b q kp kc)) (hg vp vc o)
/-- What is stored for the queries. -/
def hdq : FVec Ideal S4x128x64 .bf16 :=
  k0_pay125 (k0_pay25 b) (k0_pay30 (k0_pay5 kp) (k0_pay9 kc)) (hw b q kp kc vp vc sk o)
/-- What is stored for the keys of the block before. -/
def hdkp : FVec Ideal S1x128x64 .bf16 :=
  k0_pay127 (k0_pay120 (k0_pay25 b) (k0_pay26 (k0_pay1 q)) (hw b q kp kc vp vc sk o))
/-- What is stored for the keys of the block. -/
def hdkc : FVec Ideal S1x128x64 .bf16 :=
  k0_pay128 (k0_pay121 (k0_pay25 b) (k0_pay26 (k0_pay1 q)) (hw b q kp kc vp vc sk o))
/-- What is stored for the values of the block before. -/
def hdvp : FVec Ideal S1x128x64 .bf16 := k0_pay129 (k0_pay112 (k0_pay82 (hn b q kp kc sk) (k0_pay69 o)))
/-- What is stored for the values of the block. -/
def hdvc : FVec Ideal S1x128x64 .bf16 := k0_pay130 (k0_pay113 (k0_pay82 (hn b q kp kc sk) (k0_pay69 o)))
/-- What is stored for the sinks. -/
def hds (a : FVec Ideal S1x512x1 .f32) : FVec Ideal S1x512x1 .f32 := k0_pay131 (hc b q kp kc vp vc sk o) a

section pieces

variable (s g p : FVec Ideal S512x256 .f32) (σ τ : FVec Ideal S512x1 .f32) (u : FVec Ideal S512x64 .bf16)
  (x : IVec S512x256 1) (y z : FVec Ideal S128x64 .bf16)

theorem max_at (i : Fin 512) : k0_pay44 σ s (ix2 i 0) = Swa.rowMax (fun j => s (ix2 i j)) (σ (ix2 i 0)) := by
  pointwise [k0_pay44]; rfl
theorem exp_at (i : Fin 512) (j : Fin 256) :
    k0_pay48 σ s (ix2 i j) = Swa.rowExp (fun j => s (ix2 i j)) (σ (ix2 i 0)) j := by
  pointwise [k0_pay48]; rw [max_at]; rfl
theorem sinkExp_at (i : Fin 512) : k0_pay52 σ s (ix2 i 0) = Swa.sinkExp (fun j => s (ix2 i j)) (σ (ix2 i 0)) := by
  pointwise [k0_pay52]; rw [max_at]; rfl
theorem den_at (i : Fin 512) : k0_pay53 σ s (ix2 i 0) = Swa.rowDen (fun j => s (ix2 i j)) (σ (ix2 i 0)) := by
  pointwise [k0_pay53]; rw [sinkExp_at]; simp only [exp_at]; rfl
theorem soft_at (i : Fin 512) (j : Fin 256) :
    k0_pay54 σ s (ix2 i j) = Swa.rowSoft (fun j => s (ix2 i j)) (σ (ix2 i 0)) j := by
  pointwise [k0_pay54]; rw [exp_at, den_at]; rfl
theorem inv_at (i : Fin 512) : k0_pay55 σ s (ix2 i 0) =
    Ideal.div 1 (Swa.rowDen (fun j => s (ix2 i j)) (σ (ix2 i 0)) * Swa.rowDen (fun j => s (ix2 i j)) (σ (ix2 i 0))) := by
  pointwise [k0_pay55]; rw [den_at]
theorem dden_at (i : Fin 512) : k0_pay92 p τ g (ix2 i 0) = 0 - ∑ x, g (ix2 i x) * τ (ix2 i 0) * p (ix2 i x) := by
  pointwise [k0_pay92]
theorem wgt_at (i : Fin 512) (j : Fin 256) : k0_pay95 p σ τ g (ix2 i j) =
    (Ideal.div (g (ix2 i j)) (σ (ix2 i 0)) + (0 - ∑ x, g (ix2 i x) * τ (ix2 i 0) * p (ix2 i x))) * p (ix2 i j) := by
  pointwise [k0_pay95]
  simp only [Fin.sum_univ_one]
  rw [dden_at]
theorem dsk_at (i : Fin 512) : k0_pay93 p σ τ g (ix2 i 0) =
    (0 - ∑ x, g (ix2 i x) * τ (ix2 i 0) * p (ix2 i x)) * σ (ix2 i 0) := by
  pointwise [k0_pay93, k0_pay92]
theorem msk_at (i : Fin 512) (j : Fin 256) : k0_pay104 x s (ix2 i j) =
    Scalar.select (x (ix2 i j)) (s (ix2 i j) * Ideal.ofBits FTy.f32 1040187392#32) 0 := by
  pointwise [k0_pay104]
theorem dkp_at (h : Fin 1) (i : Fin 128) (d : Fin 64) : k0_pay127 (k0_pay120 x u s) (ix3 h i d) =
    ∑ r : Fin 512, k0_pay104 x s (ix2 r ⟨i.val, by omega⟩) * u (ix2 r d) := by
  pointwise [k0_pay120, k0_pay127, k0_pay105]
theorem dkc_at (h : Fin 1) (i : Fin 128) (d : Fin 64) : k0_pay128 (k0_pay121 x u s) (ix3 h i d) =
    ∑ r : Fin 512, k0_pay104 x s (ix2 r ⟨128 + i.val, by omega⟩) * u (ix2 r d) := by
  pointwise [k0_pay121, k0_pay128, k0_pay105]
theorem dvp_at (h : Fin 1) (i : Fin 128) (d : Fin 64) : k0_pay129 (k0_pay112 (k0_pay82 s o)) (ix3 h i d) =
    ∑ r : Fin 512, s (ix2 r ⟨i.val, by omega⟩) * o (ix3 ⟨r.val / 128, by omega⟩ ⟨r.val % 128, by omega⟩ d) := by
  pointwise [k0_pay112, k0_pay129, k0_pay82, k0_pay80]
theorem dvc_at (h : Fin 1) (i : Fin 128) (d : Fin 64) : k0_pay130 (k0_pay113 (k0_pay82 s o)) (ix3 h i d) =
    ∑ r : Fin 512, s (ix2 r ⟨128 + i.val, by omega⟩) * o (ix3 ⟨r.val / 128, by omega⟩ ⟨r.val % 128, by omega⟩ d) := by
  pointwise [k0_pay113, k0_pay130, k0_pay82, k0_pay80]
theorem dq_at (h : Fin 4) (i : Fin 128) (d : Fin 64) : k0_pay125 x (k0_pay30 y z) s (ix3 h i d) =
    (∑ j : Fin 128, k0_pay104 x s (ix2 ⟨h.val * 128 + i.val, by omega⟩ ⟨j.val, by omega⟩) * y (ix2 j d)) +
    ∑ j : Fin 128, k0_pay104 x s (ix2 ⟨h.val * 128 + i.val, by omega⟩ ⟨128 + j.val, by omega⟩) * z (ix2 j d) := by
  pointwise [k0_pay125, k0_pay30]
theorem rows_at (i : Fin 512) (d : Fin 64) : k0_pay26 (k0_pay1 q) (ix2 i d) =
    q (ix3 ⟨i.val / 128, by omega⟩ ⟨i.val % 128, by omega⟩ d) := by
  pointwise [k0_pay26, k0_pay1]
theorem keys_at (j : Fin 256) (d : Fin 64) : k0_pay30 (k0_pay5 kp) (k0_pay9 kc) (ix2 j d) =
    if h : j.val < 128 then kp (ix3 0 ⟨j.val, by omega⟩ d) else kc (ix3 0 ⟨j.val - 128, by omega⟩ d) := by
  pointwise [k0_pay30, k0_pay5, k0_pay9]
theorem key_at (j : Fin 128) (d : Fin 64) : k0_pay5 kp (ix2 j d) = kp (ix3 0 j d) := by pointwise [k0_pay5]
theorem key'_at (j : Fin 128) (d : Fin 64) : (k0_pay9 kc : FVec Ideal S128x64 .bf16) (ix2 j d) = kc (ix3 0 j d) := by pointwise [k0_pay9]
theorem sk_at (i : Fin 512) : k0_pay21 sk (ix2 i 0) = sk (ix3 0 i 0) := by pointwise [k0_pay21]
theorem id_at (h : Fin 4) (i : Fin 128) (d : Fin 64) : k0_pay69 o (ix3 h i d) = o (ix3 h i d) := by pointwise [k0_pay69]

end pieces

theorem hs_at (i : Fin 512) (j : Fin 256) :
    hs b q kp kc (ix2 i j) = (tileCell b q kp kc vp vc sk o).score i j := by
  have e : hs b q kp kc (ix2 i j) = Scalar.select (k0_pay25 b (ix2 i j))
      ((∑ x, k0_pay26 (k0_pay1 q) (ix2 i x) * k0_pay30 (F := Ideal) (k0_pay5 kp) (k0_pay9 kc) (ix2 j x)) *
        Ideal.ofBits FTy.f32 1040187392#32) (Ideal.ofBits FTy.f32 4286578688#32) := by
    unfold hs
    generalize k0_pay1 (F := Ideal) q = a
    generalize k0_pay5 (F := Ideal) kp = a1
    generalize k0_pay9 (F := Ideal) kc = a2
    pointwise [k0_pay38]
  rw [e]; simp only [rows_at, keys_at]; rfl
theorem hg_at (i : Fin 512) (j : Fin 256) :
    hg vp vc o (ix2 i j) = (tileCell b q kp kc vp vc sk o).soft i j := by
  pointwise [hg, k0_pay81, k0_pay34, k0_pay13, k0_pay17, k0_pay69, k0_pay80]; rfl

theorem hs_row (i : Fin 512) :
    (fun j => hs b q kp kc (ix2 i j)) = (tileCell b q kp kc vp vc sk o).score i :=
  funext fun j => hs_at b q kp kc vp vc sk o i j

theorem hp_at (i : Fin 512) (j : Fin 256) : hp b q kp kc sk (ix2 i j) =
    Swa.rowExp ((tileCell b q kp kc vp vc sk o).score i) ((tileCell b q kp kc vp vc sk o).sink i) j := by
  unfold hp; rw [exp_at, hs_row b q kp kc vp vc sk o, sk_at]; rfl
theorem hw_at (i : Fin 512) (j : Fin 256) : hw b q kp kc vp vc sk o (ix2 i j) =
    Swa.scoreGrad ((tileCell b q kp kc vp vc sk o).score i) ((tileCell b q kp kc vp vc sk o).soft i)
      ((tileCell b q kp kc vp vc sk o).sink i) j := by
  unfold hw; rw [wgt_at, inv_at, den_at, hs_row b q kp kc vp vc sk o, sk_at]
  simp only [hp_at b q kp kc vp vc sk o, hg_at b q kp kc vp vc sk o]; rfl
theorem hn_at (i : Fin 512) (j : Fin 256) :
    hn b q kp kc sk (ix2 i j) = (tileCell b q kp kc vp vc sk o).pn i j := by
  unfold hn; rw [soft_at, hs_row b q kp kc vp vc sk o, sk_at]; rfl
theorem hc_at (i : Fin 512) : hc b q kp kc vp vc sk o (ix2 i 0) = (tileCell b q kp kc vp vc sk o).dsink i := by
  unfold hc; rw [dsk_at, inv_at, sinkExp_at, hs_row b q kp kc vp vc sk o, sk_at]
  simp only [hp_at b q kp kc vp vc sk o, hg_at b q kp kc vp vc sk o]; rfl
theorem hm_at (i : Fin 512) (j : Fin 256) :
    k0_pay104 (k0_pay25 b) (hw b q kp kc vp vc sk o) (ix2 i j) = (tileCell b q kp kc vp vc sk o).ds i j := by
  rw [msk_at, hw_at]; rfl

theorem key_lo (j : Fin 128) (d : Fin 64) :
    kp (ix3 0 j d) = (tileCell b q kp kc vp vc sk o).key ⟨j.val, by omega⟩ d := by
  simp only [tileCell]
  rw [dif_pos j.isLt]
theorem key_hi (j : Fin 128) (d : Fin 64) :
    kc (ix3 0 j d) = (tileCell b q kp kc vp vc sk o).key ⟨128 + j.val, by omega⟩ d := by
  simp only [tileCell]
  rw [dif_neg (by omega)]
  exact congrArg (fun a => kc (ix3 0 a d)) (Fin.ext (by show j.val = 128 + j.val - 128; omega))

theorem hdq_at (h : Fin 4) (i : Fin 128) (d : Fin 64) : hdq b q kp kc vp vc sk o (ix3 h i d) =
    (tileCell b q kp kc vp vc sk o).dq ⟨h.val * 128 + i.val, by omega⟩ d := by
  unfold hdq; rw [dq_at]; simp only [hm_at, key_at, key'_at]
  unfold Swa.Cell.dq; rw [Swa.sum_halves]
  exact congrArg₂ (· + ·)
    (Finset.sum_congr rfl fun j _ => congrArg (HMul.hMul _) (key_lo b q kp kc vp vc sk o j d))
    (Finset.sum_congr rfl fun j _ => congrArg (HMul.hMul _) (key_hi b q kp kc vp vc sk o j d))
theorem hdkp_at (h : Fin 1) (i : Fin 128) (d : Fin 64) : hdkp b q kp kc vp vc sk o (ix3 h i d) =
    (tileCell b q kp kc vp vc sk o).dk ⟨i.val, by omega⟩ d := by
  unfold hdkp; rw [dkp_at]; simp only [hm_at, rows_at]; rfl
theorem hdkc_at (h : Fin 1) (i : Fin 128) (d : Fin 64) : hdkc b q kp kc vp vc sk o (ix3 h i d) =
    (tileCell b q kp kc vp vc sk o).dk ⟨128 + i.val, by omega⟩ d := by
  unfold hdkc; rw [dkc_at]; simp only [hm_at, rows_at]; rfl
theorem hdvp_at (h : Fin 1) (i : Fin 128) (d : Fin 64) : hdvp b q kp kc sk o (ix3 h i d) =
    (tileCell b q kp kc vp vc sk o).dv ⟨i.val, by omega⟩ d := by
  unfold hdvp; rw [dvp_at]; simp only [hn_at b q kp kc vp vc sk o, id_at]; rfl
theorem hdvc_at (h : Fin 1) (i : Fin 128) (d : Fin 64) : hdvc b q kp kc sk o (ix3 h i d) =
    (tileCell b q kp kc vp vc sk o).dv ⟨128 + i.val, by omega⟩ d := by
  unfold hdvc; rw [dvc_at]; simp only [hn_at b q kp kc vp vc sk o, id_at]; rfl
theorem hds_at (a : FVec Ideal S1x512x1 .f32) (i : Fin 512) : hds b q kp kc vp vc sk o a (ix3 0 i 0) =
    a (ix3 0 i 0) + (tileCell b q kp kc vp vc sk o).dsink i := by
  unfold hds; rw [← hc_at]
  pointwise [k0_pay131]

end Cert.KernelIdeal.Value
-- ==== Proof.Stored.lean ====
/- What the attention's backward kernel stores at a grid point, in every window. -/
module

public import proofs.«01_k».proof.Proof.Gen.KernelIdeal.Frame
public import proofs.«01_k».proof.Proof.Head
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The cell that four heads' tiles at one offset of the seven blocks hold. -/
def blkCell (b : BitVec 1) (q : FVec Ideal S16x128x64 .bf16) (kp kc vp vc : FVec Ideal S4x128x64 .bf16)
    (sk : FVec Ideal S4x512x1 .f32) (o : FVec Ideal S16x128x64 .bf16) (k : Fin 4) : Swa.Cell where
  mask i j := k0_pay25 b (ix2 i j)
  qry i d := q (ix3 ⟨k.val * 4 + i.val / 128, by omega⟩ ⟨i.val % 128, by omega⟩ d)
  key j d := if h : j.val < 128 then kp (ix3 k ⟨j.val, by omega⟩ d) else kc (ix3 k ⟨j.val - 128, by omega⟩ d)
  val j d := if h : j.val < 128 then vp (ix3 k ⟨j.val, by omega⟩ d) else vc (ix3 k ⟨j.val - 128, by omega⟩ d)
  out i d := o (ix3 ⟨k.val * 4 + i.val / 128, by omega⟩ ⟨i.val % 128, by omega⟩ d)
  sink i := sk (ix3 k i 0)

section cells

variable (b : BitVec 1) (q : FVec Ideal S16x128x64 .bf16) (kp kc vp vc : FVec Ideal S4x128x64 .bf16)
  (sk : FVec Ideal S4x512x1 .f32) (o : FVec Ideal S16x128x64 .bf16)

/-- The query tile of the heads at offset 0. -/
def tq0 : FVec Ideal S4x128x64 .bf16 :=
  View.ld (Val := Elt Ideal) (S := S16x128x64) (e' := .bf16) q (Rect.unit (s := S16x128x64) ![0, 0, 0] ![4, 128, 64] inb_S16x128x64_S4x128x64_0_0_0)
/-- The key tile of head 0. -/
def tk0 : FVec Ideal S1x128x64 .bf16 :=
  View.ld (Val := Elt Ideal) (S := S4x128x64) (e' := .bf16) kp (Rect.unit (s := S4x128x64) ![0, 0, 0] ![1, 128, 64] inb_S4x128x64_S1x128x64_0_0_0)
/-- The sink tile of head 0. -/
def ts0 : FVec Ideal S1x512x1 .f32 :=
  View.ld (Val := Elt Ideal) (S := S4x512x1) (e' := .f32) sk (Rect.unit (s := S4x512x1) ![0, 0, 0] ![1, 512, 1] inb_S4x512x1_S1x512x1_0_0_0)
theorem tq0_at (h : Fin 4) (i : Fin 128) (d : Fin 64) : tq0 q (ix3 h i d) = q (ix3 ⟨0 * 4 + h.val, by omega⟩ i d) := by
  pointwise [tq0]
theorem tk0_at (i : Fin 128) (d : Fin 64) : tk0 kp (ix3 0 i d) = kp (ix3 0 i d) := by
  pointwise [tk0]
theorem ts0_at (i : Fin 512) : ts0 sk (ix3 0 i 0) = sk (ix3 0 i 0) := by
  pointwise [ts0]
theorem cell0 : tileCell b (tq0 q) (tk0 kp) (tk0 kc) (tk0 vp) (tk0 vc) (ts0 sk) (tq0 o) =
    blkCell b q kp kc vp vc sk o 0 := by
  unfold tileCell blkCell
  simp only [tq0_at, tk0_at, ts0_at]
  rfl

/-- The query tile of the heads at offset 4. -/
def tq1 : FVec Ideal S4x128x64 .bf16 :=
  View.ld (Val := Elt Ideal) (S := S16x128x64) (e' := .bf16) q (Rect.unit (s := S16x128x64) ![4, 0, 0] ![4, 128, 64] inb_S16x128x64_S4x128x64_4_0_0)
/-- The key tile of head 1. -/
def tk1 : FVec Ideal S1x128x64 .bf16 :=
  View.ld (Val := Elt Ideal) (S := S4x128x64) (e' := .bf16) kp (Rect.unit (s := S4x128x64) ![1, 0, 0] ![1, 128, 64] inb_S4x128x64_S1x128x64_1_0_0)
/-- The sink tile of head 1. -/
def ts1 : FVec Ideal S1x512x1 .f32 :=
  View.ld (Val := Elt Ideal) (S := S4x512x1) (e' := .f32) sk (Rect.unit (s := S4x512x1) ![1, 0, 0] ![1, 512, 1] inb_S4x512x1_S1x512x1_1_0_0)
theorem tq1_at (h : Fin 4) (i : Fin 128) (d : Fin 64) : tq1 q (ix3 h i d) = q (ix3 ⟨1 * 4 + h.val, by omega⟩ i d) := by
  pointwise [tq1]
theorem tk1_at (i : Fin 128) (d : Fin 64) : tk1 kp (ix3 0 i d) = kp (ix3 1 i d) := by
  pointwise [tk1]
theorem ts1_at (i : Fin 512) : ts1 sk (ix3 0 i 0) = sk (ix3 1 i 0) := by
  pointwise [ts1]
theorem cell1 : tileCell b (tq1 q) (tk1 kp) (tk1 kc) (tk1 vp) (tk1 vc) (ts1 sk) (tq1 o) =
    blkCell b q kp kc vp vc sk o 1 := by
  unfold tileCell blkCell
  simp only [tq1_at, tk1_at, ts1_at]
  rfl

/-- The query tile of the heads at offset 8. -/
def tq2 : FVec Ideal S4x128x64 .bf16 :=
  View.ld (Val := Elt Ideal) (S := S16x128x64) (e' := .bf16) q (Rect.unit (s := S16x128x64) ![8, 0, 0] ![4, 128, 64] inb_S16x128x64_S4x128x64_8_0_0)
/-- The key tile of head 2. -/
def tk2 : FVec Ideal S1x128x64 .bf16 :=
  View.ld (Val := Elt Ideal) (S := S4x128x64) (e' := .bf16) kp (Rect.unit (s := S4x128x64) ![2, 0, 0] ![1, 128, 64] inb_S4x128x64_S1x128x64_2_0_0)
/-- The sink tile of head 2. -/
def ts2 : FVec Ideal S1x512x1 .f32 :=
  View.ld (Val := Elt Ideal) (S := S4x512x1) (e' := .f32) sk (Rect.unit (s := S4x512x1) ![2, 0, 0] ![1, 512, 1] inb_S4x512x1_S1x512x1_2_0_0)
theorem tq2_at (h : Fin 4) (i : Fin 128) (d : Fin 64) : tq2 q (ix3 h i d) = q (ix3 ⟨2 * 4 + h.val, by omega⟩ i d) := by
  pointwise [tq2]
theorem tk2_at (i : Fin 128) (d : Fin 64) : tk2 kp (ix3 0 i d) = kp (ix3 2 i d) := by
  pointwise [tk2]
theorem ts2_at (i : Fin 512) : ts2 sk (ix3 0 i 0) = sk (ix3 2 i 0) := by
  pointwise [ts2]
theorem cell2 : tileCell b (tq2 q) (tk2 kp) (tk2 kc) (tk2 vp) (tk2 vc) (ts2 sk) (tq2 o) =
    blkCell b q kp kc vp vc sk o 2 := by
  unfold tileCell blkCell
  simp only [tq2_at, tk2_at, ts2_at]
  rfl

/-- The query tile of the heads at offset 12. -/
def tq3 : FVec Ideal S4x128x64 .bf16 :=
  View.ld (Val := Elt Ideal) (S := S16x128x64) (e' := .bf16) q (Rect.unit (s := S16x128x64) ![12, 0, 0] ![4, 128, 64] inb_S16x128x64_S4x128x64_12_0_0)
/-- The key tile of head 3. -/
def tk3 : FVec Ideal S1x128x64 .bf16 :=
  View.ld (Val := Elt Ideal) (S := S4x128x64) (e' := .bf16) kp (Rect.unit (s := S4x128x64) ![3, 0, 0] ![1, 128, 64] inb_S4x128x64_S1x128x64_3_0_0)
/-- The sink tile of head 3. -/
def ts3 : FVec Ideal S1x512x1 .f32 :=
  View.ld (Val := Elt Ideal) (S := S4x512x1) (e' := .f32) sk (Rect.unit (s := S4x512x1) ![3, 0, 0] ![1, 512, 1] inb_S4x512x1_S1x512x1_3_0_0)
theorem tq3_at (h : Fin 4) (i : Fin 128) (d : Fin 64) : tq3 q (ix3 h i d) = q (ix3 ⟨3 * 4 + h.val, by omega⟩ i d) := by
  pointwise [tq3]
theorem tk3_at (i : Fin 128) (d : Fin 64) : tk3 kp (ix3 0 i d) = kp (ix3 3 i d) := by
  pointwise [tk3]
theorem ts3_at (i : Fin 512) : ts3 sk (ix3 0 i 0) = sk (ix3 3 i 0) := by
  pointwise [ts3]
theorem cell3 : tileCell b (tq3 q) (tk3 kp) (tk3 kc) (tk3 vp) (tk3 vc) (ts3 sk) (tq3 o) =
    blkCell b q kp kc vp vc sk o 3 := by
  unfold tileCell blkCell
  simp only [tq3_at, tk3_at, ts3_at]
  rfl

end cells

variable (m : (ℓ : Loc nD τ sig) → Buf (Elt Ideal) ℓ)

/-- Whether a grid point is the first. -/
def fst0 (t : Fin cfg0.N) : BitVec 1 := Scalar.cmpi CmpIPredicate.eq (BitVec.ofNat 32 ((grid0.coords t 0).val)) 0#32

/-- The cell of four heads at a grid point. -/
def ptCell (c : Dev nD) (t : Fin cfg0.N) (k : Fin 4) : Swa.Cell :=
  blkCell (fst0 t) (iblk m c 0 t) (iblk m c 1 t) (iblk m c 2 t) (iblk m c 3 t) (iblk m c 4 t) (iblk m c 5 t)
    (iblk m c 6 t) k

/-- A function of head, row and lane, read at a piece of the block that holds one head. -/
theorem at_piece (G : Fin 4 → Fin 128 → Fin 64 → EReal) (k : Fin 4) (x : S1x128x64.Idx) (y : S4x128x64.Idx)
    (h0 : (y 0).val = k.val + (x 0).val) (h1 : (y 1).val = (x 1).val) (h2 : (y 2).val = (x 2).val) :
    G k (x 1) (x 2) = G (y 0) (y 1) (y 2) := by
  have e0 : k = y 0 := Fin.ext (by have : (x 0).val < 1 := (x 0).isLt; omega)
  have e1 : x 1 = y 1 := Fin.ext h1.symm
  have e2 : x 2 = y 2 := Fin.ext h2.symm
  exact congr (congr (congrArg G e0) e1) e2
theorem one_head (x : S1x128x64.Idx) : x = ix3 0 (x 1) (x 2) := by
  have e : x 0 = (0 : Fin 1) := Subsingleton.elim (α := Fin 1) _ _
  exact (ix3_eta x).symm.trans (congrArg (fun a : Fin 1 => ix3 a (x 1) (x 2)) e)

/-- What window 8 holds. -/
def sp8 (c : Dev nD) (t : Fin cfg0.N) (k : Fin 4) (i : Fin 128) (d : Fin 64) : EReal :=
  (ptCell m c t k).dk ⟨i.val, by omega⟩ d

theorem piece8_0 (c : Dev nD) (t : Fin cfg0.N) (x : S1x128x64.Idx) (y : S4x128x64.Idx)
    (h0 : (y 0).val = 0 + (x 0).val) (h1 : (y 1).val = (x 1).val) (h2 : (y 2).val = (x 2).val) :
    hdkp (fst0 t) (tq0 (iblk m c 0 t)) (tk0 (iblk m c 1 t)) (tk0 (iblk m c 2 t)) (tk0 (iblk m c 3 t)) (tk0 (iblk m c 4 t))
    (ts0 (iblk m c 5 t)) (tq0 (iblk m c 6 t)) x = sp8 m c t (y 0) (y 1) (y 2) := by
  refine Eq.trans ?_ (at_piece (sp8 m c t) 0 x y h0 h1 h2)
  rw [one_head x]
  refine (hdkp_at _ _ _ _ _ _ _ _ _ _ _).trans ?_
  rw [cell0]
  rfl

theorem piece8_1 (c : Dev nD) (t : Fin cfg0.N) (x : S1x128x64.Idx) (y : S4x128x64.Idx)
    (h0 : (y 0).val = 1 + (x 0).val) (h1 : (y 1).val = (x 1).val) (h2 : (y 2).val = (x 2).val) :
    hdkp (fst0 t) (tq1 (iblk m c 0 t)) (tk1 (iblk m c 1 t)) (tk1 (iblk m c 2 t)) (tk1 (iblk m c 3 t)) (tk1 (iblk m c 4 t))
    (ts1 (iblk m c 5 t)) (tq1 (iblk m c 6 t)) x = sp8 m c t (y 0) (y 1) (y 2) := by
  refine Eq.trans ?_ (at_piece (sp8 m c t) 1 x y h0 h1 h2)
  rw [one_head x]
  refine (hdkp_at _ _ _ _ _ _ _ _ _ _ _).trans ?_
  rw [cell1]
  rfl

theorem piece8_2 (c : Dev nD) (t : Fin cfg0.N) (x : S1x128x64.Idx) (y : S4x128x64.Idx)
    (h0 : (y 0).val = 2 + (x 0).val) (h1 : (y 1).val = (x 1).val) (h2 : (y 2).val = (x 2).val) :
    hdkp (fst0 t) (tq2 (iblk m c 0 t)) (tk2 (iblk m c 1 t)) (tk2 (iblk m c 2 t)) (tk2 (iblk m c 3 t)) (tk2 (iblk m c 4 t))
    (ts2 (iblk m c 5 t)) (tq2 (iblk m c 6 t)) x = sp8 m c t (y 0) (y 1) (y 2) := by
  refine Eq.trans ?_ (at_piece (sp8 m c t) 2 x y h0 h1 h2)
  rw [one_head x]
  refine (hdkp_at _ _ _ _ _ _ _ _ _ _ _).trans ?_
  rw [cell2]
  rfl

theorem piece8_3 (c : Dev nD) (t : Fin cfg0.N) (x : S1x128x64.Idx) (y : S4x128x64.Idx)
    (h0 : (y 0).val = 3 + (x 0).val) (h1 : (y 1).val = (x 1).val) (h2 : (y 2).val = (x 2).val) :
    hdkp (fst0 t) (tq3 (iblk m c 0 t)) (tk3 (iblk m c 1 t)) (tk3 (iblk m c 2 t)) (tk3 (iblk m c 3 t)) (tk3 (iblk m c 4 t))
    (ts3 (iblk m c 5 t)) (tq3 (iblk m c 6 t)) x = sp8 m c t (y 0) (y 1) (y 2) := by
  refine Eq.trans ?_ (at_piece (sp8 m c t) 3 x y h0 h1 h2)
  rw [one_head x]
  refine (hdkp_at _ _ _ _ _ _ _ _ _ _ _).trans ?_
  rw [cell3]
  rfl

/-- What window 9 holds. -/
def sp9 (c : Dev nD) (t : Fin cfg0.N) (k : Fin 4) (i : Fin 128) (d : Fin 64) : EReal :=
  (ptCell m c t k).dk ⟨128 + i.val, by omega⟩ d

theorem piece9_0 (c : Dev nD) (t : Fin cfg0.N) (x : S1x128x64.Idx) (y : S4x128x64.Idx)
    (h0 : (y 0).val = 0 + (x 0).val) (h1 : (y 1).val = (x 1).val) (h2 : (y 2).val = (x 2).val) :
    hdkc (fst0 t) (tq0 (iblk m c 0 t)) (tk0 (iblk m c 1 t)) (tk0 (iblk m c 2 t)) (tk0 (iblk m c 3 t)) (tk0 (iblk m c 4 t))
    (ts0 (iblk m c 5 t)) (tq0 (iblk m c 6 t)) x = sp9 m c t (y 0) (y 1) (y 2) := by
  refine Eq.trans ?_ (at_piece (sp9 m c t) 0 x y h0 h1 h2)
  rw [one_head x]
  refine (hdkc_at _ _ _ _ _ _ _ _ _ _ _).trans ?_
  rw [cell0]
  rfl

theorem piece9_1 (c : Dev nD) (t : Fin cfg0.N) (x : S1x128x64.Idx) (y : S4x128x64.Idx)
    (h0 : (y 0).val = 1 + (x 0).val) (h1 : (y 1).val = (x 1).val) (h2 : (y 2).val = (x 2).val) :
    hdkc (fst0 t) (tq1 (iblk m c 0 t)) (tk1 (iblk m c 1 t)) (tk1 (iblk m c 2 t)) (tk1 (iblk m c 3 t)) (tk1 (iblk m c 4 t))
    (ts1 (iblk m c 5 t)) (tq1 (iblk m c 6 t)) x = sp9 m c t (y 0) (y 1) (y 2) := by
  refine Eq.trans ?_ (at_piece (sp9 m c t) 1 x y h0 h1 h2)
  rw [one_head x]
  refine (hdkc_at _ _ _ _ _ _ _ _ _ _ _).trans ?_
  rw [cell1]
  rfl

theorem piece9_2 (c : Dev nD) (t : Fin cfg0.N) (x : S1x128x64.Idx) (y : S4x128x64.Idx)
    (h0 : (y 0).val = 2 + (x 0).val) (h1 : (y 1).val = (x 1).val) (h2 : (y 2).val = (x 2).val) :
    hdkc (fst0 t) (tq2 (iblk m c 0 t)) (tk2 (iblk m c 1 t)) (tk2 (iblk m c 2 t)) (tk2 (iblk m c 3 t)) (tk2 (iblk m c 4 t))
    (ts2 (iblk m c 5 t)) (tq2 (iblk m c 6 t)) x = sp9 m c t (y 0) (y 1) (y 2) := by
  refine Eq.trans ?_ (at_piece (sp9 m c t) 2 x y h0 h1 h2)
  rw [one_head x]
  refine (hdkc_at _ _ _ _ _ _ _ _ _ _ _).trans ?_
  rw [cell2]
  rfl

theorem piece9_3 (c : Dev nD) (t : Fin cfg0.N) (x : S1x128x64.Idx) (y : S4x128x64.Idx)
    (h0 : (y 0).val = 3 + (x 0).val) (h1 : (y 1).val = (x 1).val) (h2 : (y 2).val = (x 2).val) :
    hdkc (fst0 t) (tq3 (iblk m c 0 t)) (tk3 (iblk m c 1 t)) (tk3 (iblk m c 2 t)) (tk3 (iblk m c 3 t)) (tk3 (iblk m c 4 t))
    (ts3 (iblk m c 5 t)) (tq3 (iblk m c 6 t)) x = sp9 m c t (y 0) (y 1) (y 2) := by
  refine Eq.trans ?_ (at_piece (sp9 m c t) 3 x y h0 h1 h2)
  rw [one_head x]
  refine (hdkc_at _ _ _ _ _ _ _ _ _ _ _).trans ?_
  rw [cell3]
  rfl

/-- What window 10 holds. -/
def sp10 (c : Dev nD) (t : Fin cfg0.N) (k : Fin 4) (i : Fin 128) (d : Fin 64) : EReal :=
  (ptCell m c t k).dv ⟨i.val, by omega⟩ d

theorem piece10_0 (c : Dev nD) (t : Fin cfg0.N) (x : S1x128x64.Idx) (y : S4x128x64.Idx)
    (h0 : (y 0).val = 0 + (x 0).val) (h1 : (y 1).val = (x 1).val) (h2 : (y 2).val = (x 2).val) :
    hdvp (fst0 t) (tq0 (iblk m c 0 t)) (tk0 (iblk m c 1 t)) (tk0 (iblk m c 2 t))
    (ts0 (iblk m c 5 t)) (tq0 (iblk m c 6 t)) x = sp10 m c t (y 0) (y 1) (y 2) := by
  refine Eq.trans ?_ (at_piece (sp10 m c t) 0 x y h0 h1 h2)
  rw [one_head x]
  refine (hdvp_at _ _ _ _ (tk0 (iblk m c 3 t)) (tk0 (iblk m c 4 t)) _ _ _ _ _).trans ?_
  rw [cell0]
  rfl

theorem piece10_1 (c : Dev nD) (t : Fin cfg0.N) (x : S1x128x64.Idx) (y : S4x128x64.Idx)
    (h0 : (y 0).val = 1 + (x 0).val) (h1 : (y 1).val = (x 1).val) (h2 : (y 2).val = (x 2).val) :
    hdvp (fst0 t) (tq1 (iblk m c 0 t)) (tk1 (iblk m c 1 t)) (tk1 (iblk m c 2 t))
    (ts1 (iblk m c 5 t)) (tq1 (iblk m c 6 t)) x = sp10 m c t (y 0) (y 1) (y 2) := by
  refine Eq.trans ?_ (at_piece (sp10 m c t) 1 x y h0 h1 h2)
  rw [one_head x]
  refine (hdvp_at _ _ _ _ (tk1 (iblk m c 3 t)) (tk1 (iblk m c 4 t)) _ _ _ _ _).trans ?_
  rw [cell1]
  rfl

theorem piece10_2 (c : Dev nD) (t : Fin cfg0.N) (x : S1x128x64.Idx) (y : S4x128x64.Idx)
    (h0 : (y 0).val = 2 + (x 0).val) (h1 : (y 1).val = (x 1).val) (h2 : (y 2).val = (x 2).val) :
    hdvp (fst0 t) (tq2 (iblk m c 0 t)) (tk2 (iblk m c 1 t)) (tk2 (iblk m c 2 t))
    (ts2 (iblk m c 5 t)) (tq2 (iblk m c 6 t)) x = sp10 m c t (y 0) (y 1) (y 2) := by
  refine Eq.trans ?_ (at_piece (sp10 m c t) 2 x y h0 h1 h2)
  rw [one_head x]
  refine (hdvp_at _ _ _ _ (tk2 (iblk m c 3 t)) (tk2 (iblk m c 4 t)) _ _ _ _ _).trans ?_
  rw [cell2]
  rfl

theorem piece10_3 (c : Dev nD) (t : Fin cfg0.N) (x : S1x128x64.Idx) (y : S4x128x64.Idx)
    (h0 : (y 0).val = 3 + (x 0).val) (h1 : (y 1).val = (x 1).val) (h2 : (y 2).val = (x 2).val) :
    hdvp (fst0 t) (tq3 (iblk m c 0 t)) (tk3 (iblk m c 1 t)) (tk3 (iblk m c 2 t))
    (ts3 (iblk m c 5 t)) (tq3 (iblk m c 6 t)) x = sp10 m c t (y 0) (y 1) (y 2) := by
  refine Eq.trans ?_ (at_piece (sp10 m c t) 3 x y h0 h1 h2)
  rw [one_head x]
  refine (hdvp_at _ _ _ _ (tk3 (iblk m c 3 t)) (tk3 (iblk m c 4 t)) _ _ _ _ _).trans ?_
  rw [cell3]
  rfl

/-- What window 11 holds. -/
def sp11 (c : Dev nD) (t : Fin cfg0.N) (k : Fin 4) (i : Fin 128) (d : Fin 64) : EReal :=
  (ptCell m c t k).dv ⟨128 + i.val, by omega⟩ d

theorem piece11_0 (c : Dev nD) (t : Fin cfg0.N) (x : S1x128x64.Idx) (y : S4x128x64.Idx)
    (h0 : (y 0).val = 0 + (x 0).val) (h1 : (y 1).val = (x 1).val) (h2 : (y 2).val = (x 2).val) :
    hdvc (fst0 t) (tq0 (iblk m c 0 t)) (tk0 (iblk m c 1 t)) (tk0 (iblk m c 2 t))
    (ts0 (iblk m c 5 t)) (tq0 (iblk m c 6 t)) x = sp11 m c t (y 0) (y 1) (y 2) := by
  refine Eq.trans ?_ (at_piece (sp11 m c t) 0 x y h0 h1 h2)
  rw [one_head x]
  refine (hdvc_at _ _ _ _ (tk0 (iblk m c 3 t)) (tk0 (iblk m c 4 t)) _ _ _ _ _).trans ?_
  rw [cell0]
  rfl

theorem piece11_1 (c : Dev nD) (t : Fin cfg0.N) (x : S1x128x64.Idx) (y : S4x128x64.Idx)
    (h0 : (y 0).val = 1 + (x 0).val) (h1 : (y 1).val = (x 1).val) (h2 : (y 2).val = (x 2).val) :
    hdvc (fst0 t) (tq1 (iblk m c 0 t)) (tk1 (iblk m c 1 t)) (tk1 (iblk m c 2 t))
    (ts1 (iblk m c 5 t)) (tq1 (iblk m c 6 t)) x = sp11 m c t (y 0) (y 1) (y 2) := by
  refine Eq.trans ?_ (at_piece (sp11 m c t) 1 x y h0 h1 h2)
  rw [one_head x]
  refine (hdvc_at _ _ _ _ (tk1 (iblk m c 3 t)) (tk1 (iblk m c 4 t)) _ _ _ _ _).trans ?_
  rw [cell1]
  rfl

theorem piece11_2 (c : Dev nD) (t : Fin cfg0.N) (x : S1x128x64.Idx) (y : S4x128x64.Idx)
    (h0 : (y 0).val = 2 + (x 0).val) (h1 : (y 1).val = (x 1).val) (h2 : (y 2).val = (x 2).val) :
    hdvc (fst0 t) (tq2 (iblk m c 0 t)) (tk2 (iblk m c 1 t)) (tk2 (iblk m c 2 t))
    (ts2 (iblk m c 5 t)) (tq2 (iblk m c 6 t)) x = sp11 m c t (y 0) (y 1) (y 2) := by
  refine Eq.trans ?_ (at_piece (sp11 m c t) 2 x y h0 h1 h2)
  rw [one_head x]
  refine (hdvc_at _ _ _ _ (tk2 (iblk m c 3 t)) (tk2 (iblk m c 4 t)) _ _ _ _ _).trans ?_
  rw [cell2]
  rfl

theorem piece11_3 (c : Dev nD) (t : Fin cfg0.N) (x : S1x128x64.Idx) (y : S4x128x64.Idx)
    (h0 : (y 0).val = 3 + (x 0).val) (h1 : (y 1).val = (x 1).val) (h2 : (y 2).val = (x 2).val) :
    hdvc (fst0 t) (tq3 (iblk m c 0 t)) (tk3 (iblk m c 1 t)) (tk3 (iblk m c 2 t))
    (ts3 (iblk m c 5 t)) (tq3 (iblk m c 6 t)) x = sp11 m c t (y 0) (y 1) (y 2) := by
  refine Eq.trans ?_ (at_piece (sp11 m c t) 3 x y h0 h1 h2)
  rw [one_head x]
  refine (hdvc_at _ _ _ _ (tk3 (iblk m c 3 t)) (tk3 (iblk m c 4 t)) _ _ _ _ _).trans ?_
  rw [cell3]
  rfl

/-- What window 7 holds. -/
def sp7 (c : Dev nD) (t : Fin cfg0.N) (h : Fin 16) (i : Fin 128) (d : Fin 64) : EReal :=
  (ptCell m c t ⟨h.val / 4, by omega⟩).dq ⟨h.val % 4 * 128 + i.val, by omega⟩ d

theorem piece7_0 (c : Dev nD) (t : Fin cfg0.N) (x : S4x128x64.Idx) (y : S16x128x64.Idx)
    (h0 : (y 0).val = 0 + (x 0).val) (h1 : (y 1).val = (x 1).val) (h2 : (y 2).val = (x 2).val) :
    hdq (fst0 t) (tq0 (iblk m c 0 t)) (tk0 (iblk m c 1 t)) (tk0 (iblk m c 2 t)) (tk0 (iblk m c 3 t)) (tk0 (iblk m c 4 t))
    (ts0 (iblk m c 5 t)) (tq0 (iblk m c 6 t)) x = sp7 m c t (y 0) (y 1) (y 2) := by
  have e1 : x 1 = y 1 := Fin.ext h1.symm
  have e2 : x 2 = y 2 := Fin.ext h2.symm
  have hx : (x 0).val < 4 := (x 0).isLt
  have e0 : (⟨0 + (x 0).val, by omega⟩ : Fin 16) = y 0 := Fin.ext h0.symm
  refine Eq.trans ?_ (congr (congr (congrArg (sp7 m c t) e0) e1) e2)
  refine (congrArg (hdq (fst0 t) (tq0 (iblk m c 0 t)) (tk0 (iblk m c 1 t)) (tk0 (iblk m c 2 t)) (tk0 (iblk m c 3 t)) (tk0 (iblk m c 4 t))
    (ts0 (iblk m c 5 t)) (tq0 (iblk m c 6 t))) (eq_ix3 x)).trans ?_
  refine (hdq_at _ _ _ _ _ _ _ _ _ _ _).trans ?_
  rw [cell0]
  have a : (⟨(0 + (x 0).val) / 4, by omega⟩ : Fin 4) = 0 := Fin.ext (by show (0 + (x 0).val) / 4 = 0; omega)
  have b : (⟨(0 + (x 0).val) % 4 * 128 + (x 1).val, by have : (x 1).val < 128 := (x 1).isLt; omega⟩ : Fin 512) =
      ⟨(x 0).val * 128 + (x 1).val, by have : (x 1).val < 128 := (x 1).isLt; omega⟩ :=
    Fin.ext (by show (0 + (x 0).val) % 4 * 128 + (x 1).val = (x 0).val * 128 + (x 1).val; omega)
  exact (congr (congr (congrArg (fun k i d => (ptCell m c t k).dq i d) a) b) rfl).symm

theorem piece7_1 (c : Dev nD) (t : Fin cfg0.N) (x : S4x128x64.Idx) (y : S16x128x64.Idx)
    (h0 : (y 0).val = 4 + (x 0).val) (h1 : (y 1).val = (x 1).val) (h2 : (y 2).val = (x 2).val) :
    hdq (fst0 t) (tq1 (iblk m c 0 t)) (tk1 (iblk m c 1 t)) (tk1 (iblk m c 2 t)) (tk1 (iblk m c 3 t)) (tk1 (iblk m c 4 t))
    (ts1 (iblk m c 5 t)) (tq1 (iblk m c 6 t)) x = sp7 m c t (y 0) (y 1) (y 2) := by
  have e1 : x 1 = y 1 := Fin.ext h1.symm
  have e2 : x 2 = y 2 := Fin.ext h2.symm
  have hx : (x 0).val < 4 := (x 0).isLt
  have e0 : (⟨4 + (x 0).val, by omega⟩ : Fin 16) = y 0 := Fin.ext h0.symm
  refine Eq.trans ?_ (congr (congr (congrArg (sp7 m c t) e0) e1) e2)
  refine (congrArg (hdq (fst0 t) (tq1 (iblk m c 0 t)) (tk1 (iblk m c 1 t)) (tk1 (iblk m c 2 t)) (tk1 (iblk m c 3 t)) (tk1 (iblk m c 4 t))
    (ts1 (iblk m c 5 t)) (tq1 (iblk m c 6 t))) (eq_ix3 x)).trans ?_
  refine (hdq_at _ _ _ _ _ _ _ _ _ _ _).trans ?_
  rw [cell1]
  have a : (⟨(4 + (x 0).val) / 4, by omega⟩ : Fin 4) = 1 := Fin.ext (by show (4 + (x 0).val) / 4 = 1; omega)
  have b : (⟨(4 + (x 0).val) % 4 * 128 + (x 1).val, by have : (x 1).val < 128 := (x 1).isLt; omega⟩ : Fin 512) =
      ⟨(x 0).val * 128 + (x 1).val, by have : (x 1).val < 128 := (x 1).isLt; omega⟩ :=
    Fin.ext (by show (4 + (x 0).val) % 4 * 128 + (x 1).val = (x 0).val * 128 + (x 1).val; omega)
  exact (congr (congr (congrArg (fun k i d => (ptCell m c t k).dq i d) a) b) rfl).symm

theorem piece7_2 (c : Dev nD) (t : Fin cfg0.N) (x : S4x128x64.Idx) (y : S16x128x64.Idx)
    (h0 : (y 0).val = 8 + (x 0).val) (h1 : (y 1).val = (x 1).val) (h2 : (y 2).val = (x 2).val) :
    hdq (fst0 t) (tq2 (iblk m c 0 t)) (tk2 (iblk m c 1 t)) (tk2 (iblk m c 2 t)) (tk2 (iblk m c 3 t)) (tk2 (iblk m c 4 t))
    (ts2 (iblk m c 5 t)) (tq2 (iblk m c 6 t)) x = sp7 m c t (y 0) (y 1) (y 2) := by
  have e1 : x 1 = y 1 := Fin.ext h1.symm
  have e2 : x 2 = y 2 := Fin.ext h2.symm
  have hx : (x 0).val < 4 := (x 0).isLt
  have e0 : (⟨8 + (x 0).val, by omega⟩ : Fin 16) = y 0 := Fin.ext h0.symm
  refine Eq.trans ?_ (congr (congr (congrArg (sp7 m c t) e0) e1) e2)
  refine (congrArg (hdq (fst0 t) (tq2 (iblk m c 0 t)) (tk2 (iblk m c 1 t)) (tk2 (iblk m c 2 t)) (tk2 (iblk m c 3 t)) (tk2 (iblk m c 4 t))
    (ts2 (iblk m c 5 t)) (tq2 (iblk m c 6 t))) (eq_ix3 x)).trans ?_
  refine (hdq_at _ _ _ _ _ _ _ _ _ _ _).trans ?_
  rw [cell2]
  have a : (⟨(8 + (x 0).val) / 4, by omega⟩ : Fin 4) = 2 := Fin.ext (by show (8 + (x 0).val) / 4 = 2; omega)
  have b : (⟨(8 + (x 0).val) % 4 * 128 + (x 1).val, by have : (x 1).val < 128 := (x 1).isLt; omega⟩ : Fin 512) =
      ⟨(x 0).val * 128 + (x 1).val, by have : (x 1).val < 128 := (x 1).isLt; omega⟩ :=
    Fin.ext (by show (8 + (x 0).val) % 4 * 128 + (x 1).val = (x 0).val * 128 + (x 1).val; omega)
  exact (congr (congr (congrArg (fun k i d => (ptCell m c t k).dq i d) a) b) rfl).symm

theorem piece7_3 (c : Dev nD) (t : Fin cfg0.N) (x : S4x128x64.Idx) (y : S16x128x64.Idx)
    (h0 : (y 0).val = 12 + (x 0).val) (h1 : (y 1).val = (x 1).val) (h2 : (y 2).val = (x 2).val) :
    hdq (fst0 t) (tq3 (iblk m c 0 t)) (tk3 (iblk m c 1 t)) (tk3 (iblk m c 2 t)) (tk3 (iblk m c 3 t)) (tk3 (iblk m c 4 t))
    (ts3 (iblk m c 5 t)) (tq3 (iblk m c 6 t)) x = sp7 m c t (y 0) (y 1) (y 2) := by
  have e1 : x 1 = y 1 := Fin.ext h1.symm
  have e2 : x 2 = y 2 := Fin.ext h2.symm
  have hx : (x 0).val < 4 := (x 0).isLt
  have e0 : (⟨12 + (x 0).val, by omega⟩ : Fin 16) = y 0 := Fin.ext h0.symm
  refine Eq.trans ?_ (congr (congr (congrArg (sp7 m c t) e0) e1) e2)
  refine (congrArg (hdq (fst0 t) (tq3 (iblk m c 0 t)) (tk3 (iblk m c 1 t)) (tk3 (iblk m c 2 t)) (tk3 (iblk m c 3 t)) (tk3 (iblk m c 4 t))
    (ts3 (iblk m c 5 t)) (tq3 (iblk m c 6 t))) (eq_ix3 x)).trans ?_
  refine (hdq_at _ _ _ _ _ _ _ _ _ _ _).trans ?_
  rw [cell3]
  have a : (⟨(12 + (x 0).val) / 4, by omega⟩ : Fin 4) = 3 := Fin.ext (by show (12 + (x 0).val) / 4 = 3; omega)
  have b : (⟨(12 + (x 0).val) % 4 * 128 + (x 1).val, by have : (x 1).val < 128 := (x 1).isLt; omega⟩ : Fin 512) =
      ⟨(x 0).val * 128 + (x 1).val, by have : (x 1).val < 128 := (x 1).isLt; omega⟩ :=
    Fin.ext (by show (12 + (x 0).val) % 4 * 128 + (x 1).val = (x 0).val * 128 + (x 1).val; omega)
  exact (congr (congr (congrArg (fun k i d => (ptCell m c t k).dq i d) a) b) rfl).symm

theorem outA7 (c : Dev nD) (t : Fin cfg0.N) (h : t.val % 16 = 0) (y : S16x128x64.Idx) :
    (outsAt0 m c t.val t.isLt).1 y = sp7 m c t (y 0) (y 1) (y 2) := by
  rw [outsAt0_A m c t h]; frame_out; canon_tiles x h
  · refine Eq.trans ?_ (piece7_3 m c t x y (by omega) (by omega) (by omega))
    rfl
  · refine Eq.trans ?_ (piece7_2 m c t x y (by omega) (by omega) (by omega))
    rfl
  · refine Eq.trans ?_ (piece7_1 m c t x y (by omega) (by omega) (by omega))
    rfl
  · refine Eq.trans ?_ (piece7_0 m c t x y (by omega) (by omega) (by omega))
    rfl

theorem outA8 (c : Dev nD) (t : Fin cfg0.N) (h : t.val % 16 = 0) (y : S4x128x64.Idx) :
    (outsAt0 m c t.val t.isLt).2.1 y = sp8 m c t (y 0) (y 1) (y 2) := by
  rw [outsAt0_A m c t h]; frame_out; canon_tiles x h
  · refine Eq.trans ?_ (piece8_3 m c t x y (by omega) (by omega) (by omega))
    rfl
  · refine Eq.trans ?_ (piece8_2 m c t x y (by omega) (by omega) (by omega))
    rfl
  · refine Eq.trans ?_ (piece8_1 m c t x y (by omega) (by omega) (by omega))
    rfl
  · refine Eq.trans ?_ (piece8_0 m c t x y (by omega) (by omega) (by omega))
    rfl

theorem outA9 (c : Dev nD) (t : Fin cfg0.N) (h : t.val % 16 = 0) (y : S4x128x64.Idx) :
    (outsAt0 m c t.val t.isLt).2.2.1 y = sp9 m c t (y 0) (y 1) (y 2) := by
  rw [outsAt0_A m c t h]; frame_out; canon_tiles x h
  · refine Eq.trans ?_ (piece9_3 m c t x y (by omega) (by omega) (by omega))
    rfl
  · refine Eq.trans ?_ (piece9_2 m c t x y (by omega) (by omega) (by omega))
    rfl
  · refine Eq.trans ?_ (piece9_1 m c t x y (by omega) (by omega) (by omega))
    rfl
  · refine Eq.trans ?_ (piece9_0 m c t x y (by omega) (by omega) (by omega))
    rfl

theorem outA10 (c : Dev nD) (t : Fin cfg0.N) (h : t.val % 16 = 0) (y : S4x128x64.Idx) :
    (outsAt0 m c t.val t.isLt).2.2.2.1 y = sp10 m c t (y 0) (y 1) (y 2) := by
  rw [outsAt0_A m c t h]; frame_out; canon_tiles x h
  · refine Eq.trans ?_ (piece10_3 m c t x y (by omega) (by omega) (by omega))
    rfl
  · refine Eq.trans ?_ (piece10_2 m c t x y (by omega) (by omega) (by omega))
    rfl
  · refine Eq.trans ?_ (piece10_1 m c t x y (by omega) (by omega) (by omega))
    rfl
  · refine Eq.trans ?_ (piece10_0 m c t x y (by omega) (by omega) (by omega))
    rfl

theorem outA11 (c : Dev nD) (t : Fin cfg0.N) (h : t.val % 16 = 0) (y : S4x128x64.Idx) :
    (outsAt0 m c t.val t.isLt).2.2.2.2.1 y = sp11 m c t (y 0) (y 1) (y 2) := by
  rw [outsAt0_A m c t h]; frame_out; canon_tiles x h
  · refine Eq.trans ?_ (piece11_3 m c t x y (by omega) (by omega) (by omega))
    rfl
  · refine Eq.trans ?_ (piece11_2 m c t x y (by omega) (by omega) (by omega))
    rfl
  · refine Eq.trans ?_ (piece11_1 m c t x y (by omega) (by omega) (by omega))
    rfl
  · refine Eq.trans ?_ (piece11_0 m c t x y (by omega) (by omega) (by omega))
    rfl

theorem outB7 (c : Dev nD) (t : Fin cfg0.N) (h : ¬ t.val % 16 = 0) (y : S16x128x64.Idx) :
    (outsAt0 m c t.val t.isLt).1 y = sp7 m c t (y 0) (y 1) (y 2) := by
  rw [outsAt0_B m c t h]; frame_out; canon_tiles x h
  · refine Eq.trans ?_ (piece7_3 m c t x y (by omega) (by omega) (by omega))
    rfl
  · refine Eq.trans ?_ (piece7_2 m c t x y (by omega) (by omega) (by omega))
    rfl
  · refine Eq.trans ?_ (piece7_1 m c t x y (by omega) (by omega) (by omega))
    rfl
  · refine Eq.trans ?_ (piece7_0 m c t x y (by omega) (by omega) (by omega))
    rfl

theorem outB8 (c : Dev nD) (t : Fin cfg0.N) (h : ¬ t.val % 16 = 0) (y : S4x128x64.Idx) :
    (outsAt0 m c t.val t.isLt).2.1 y = sp8 m c t (y 0) (y 1) (y 2) := by
  rw [outsAt0_B m c t h]; frame_out; canon_tiles x h
  · refine Eq.trans ?_ (piece8_3 m c t x y (by omega) (by omega) (by omega))
    rfl
  · refine Eq.trans ?_ (piece8_2 m c t x y (by omega) (by omega) (by omega))
    rfl
  · refine Eq.trans ?_ (piece8_1 m c t x y (by omega) (by omega) (by omega))
    rfl
  · refine Eq.trans ?_ (piece8_0 m c t x y (by omega) (by omega) (by omega))
    rfl

theorem outB9 (c : Dev nD) (t : Fin cfg0.N) (h : ¬ t.val % 16 = 0) (y : S4x128x64.Idx) :
    (outsAt0 m c t.val t.isLt).2.2.1 y = sp9 m c t (y 0) (y 1) (y 2) := by
  rw [outsAt0_B m c t h]; frame_out; canon_tiles x h
  · refine Eq.trans ?_ (piece9_3 m c t x y (by omega) (by omega) (by omega))
    rfl
  · refine Eq.trans ?_ (piece9_2 m c t x y (by omega) (by omega) (by omega))
    rfl
  · refine Eq.trans ?_ (piece9_1 m c t x y (by omega) (by omega) (by omega))
    rfl
  · refine Eq.trans ?_ (piece9_0 m c t x y (by omega) (by omega) (by omega))
    rfl

theorem outB10 (c : Dev nD) (t : Fin cfg0.N) (h : ¬ t.val % 16 = 0) (y : S4x128x64.Idx) :
    (outsAt0 m c t.val t.isLt).2.2.2.1 y = sp10 m c t (y 0) (y 1) (y 2) := by
  rw [outsAt0_B m c t h]; frame_out; canon_tiles x h
  · refine Eq.trans ?_ (piece10_3 m c t x y (by omega) (by omega) (by omega))
    rfl
  · refine Eq.trans ?_ (piece10_2 m c t x y (by omega) (by omega) (by omega))
    rfl
  · refine Eq.trans ?_ (piece10_1 m c t x y (by omega) (by omega) (by omega))
    rfl
  · refine Eq.trans ?_ (piece10_0 m c t x y (by omega) (by omega) (by omega))
    rfl

theorem outB11 (c : Dev nD) (t : Fin cfg0.N) (h : ¬ t.val % 16 = 0) (y : S4x128x64.Idx) :
    (outsAt0 m c t.val t.isLt).2.2.2.2.1 y = sp11 m c t (y 0) (y 1) (y 2) := by
  rw [outsAt0_B m c t h]; frame_out; canon_tiles x h
  · refine Eq.trans ?_ (piece11_3 m c t x y (by omega) (by omega) (by omega))
    rfl
  · refine Eq.trans ?_ (piece11_2 m c t x y (by omega) (by omega) (by omega))
    rfl
  · refine Eq.trans ?_ (piece11_1 m c t x y (by omega) (by omega) (by omega))
    rfl
  · refine Eq.trans ?_ (piece11_0 m c t x y (by omega) (by omega) (by omega))
    rfl

/-- What a grid point adds in window 12. -/
def sp12 (c : Dev nD) (t : Fin cfg0.N) (k : Fin 4) (i : Fin 512) : EReal := (ptCell m c t k).dsink i
theorem one_sink (x : S1x512x1.Idx) : x = ix3 0 (x 1) 0 := by
  have e : x 0 = (0 : Fin 1) := Subsingleton.elim (α := Fin 1) _ _
  have e' : x 2 = (0 : Fin 1) := Subsingleton.elim (α := Fin 1) _ _
  exact (ix3_eta x).symm.trans (congr (congrArg (fun (a b : Fin 1) => ix3 a (x 1) b) e) e')
/-- Stores that cover an index hide the earlier ones. -/
theorem canon_append_covered {S : Shape} {e : EltTy} (A B : List (View.Piece (Elt Ideal) S e)) (y : S.Idx)
    (h : ∃ p ∈ A, y ∈ p.1.set) : View.canon (A ++ B) y = View.canon A y := by
  induction A with
  | nil => obtain ⟨p, hp, _⟩ := h; exact absurd hp List.not_mem_nil
  | cons p A ih =>
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem p _ hy, View.canon_cons_of_not_mem p _ hy]
      refine ih ?_
      obtain ⟨q, hq, hy'⟩ := h
      rcases List.mem_cons.mp hq with rfl | hq
      · exact absurd hy' hy
      · exact ⟨q, hq, hy'⟩

theorem piece12_0 (c : Dev nD) (t : Fin cfg0.N) (a : FVec Ideal S4x512x1 .f32) (x : S1x512x1.Idx) (y : S4x512x1.Idx)
    (h0 : (y 0).val = 0 + (x 0).val) (h1 : (y 1).val = (x 1).val) :
    hds (fst0 t) (tq0 (iblk m c 0 t)) (tk0 (iblk m c 1 t)) (tk0 (iblk m c 2 t)) (tk0 (iblk m c 3 t)) (tk0 (iblk m c 4 t))
    (ts0 (iblk m c 5 t)) (tq0 (iblk m c 6 t)) (ts0 a) x = a (ix3 (y 0) (y 1) 0) + sp12 m c t (y 0) (y 1) := by
  have e0 : (0 : Fin 4) = y 0 := Fin.ext (by have : (x 0).val < 1 := (x 0).isLt; show 0 = _; omega)
  have e1 : x 1 = y 1 := Fin.ext h1.symm
  have e := congrArg₂ (fun (k : Fin 4) (i : Fin 512) => a (ix3 k i 0) + sp12 m c t k i) e0 e1
  refine Eq.trans ?_ e
  refine (congrArg (hds (fst0 t) (tq0 (iblk m c 0 t)) (tk0 (iblk m c 1 t)) (tk0 (iblk m c 2 t)) (tk0 (iblk m c 3 t)) (tk0 (iblk m c 4 t))
    (ts0 (iblk m c 5 t)) (tq0 (iblk m c 6 t)) (ts0 a)) (one_sink x)).trans ?_
  refine (hds_at _ _ _ _ _ _ _ _ _ _).trans ?_
  rw [cell0]
  exact congrArg (fun z : EReal => z + sp12 m c t 0 (x 1)) (ts0_at a (x 1))

theorem piece12_1 (c : Dev nD) (t : Fin cfg0.N) (a : FVec Ideal S4x512x1 .f32) (x : S1x512x1.Idx) (y : S4x512x1.Idx)
    (h0 : (y 0).val = 1 + (x 0).val) (h1 : (y 1).val = (x 1).val) :
    hds (fst0 t) (tq1 (iblk m c 0 t)) (tk1 (iblk m c 1 t)) (tk1 (iblk m c 2 t)) (tk1 (iblk m c 3 t)) (tk1 (iblk m c 4 t))
    (ts1 (iblk m c 5 t)) (tq1 (iblk m c 6 t)) (ts1 a) x = a (ix3 (y 0) (y 1) 0) + sp12 m c t (y 0) (y 1) := by
  have e0 : (1 : Fin 4) = y 0 := Fin.ext (by have : (x 0).val < 1 := (x 0).isLt; show 1 = _; omega)
  have e1 : x 1 = y 1 := Fin.ext h1.symm
  have e := congrArg₂ (fun (k : Fin 4) (i : Fin 512) => a (ix3 k i 0) + sp12 m c t k i) e0 e1
  refine Eq.trans ?_ e
  refine (congrArg (hds (fst0 t) (tq1 (iblk m c 0 t)) (tk1 (iblk m c 1 t)) (tk1 (iblk m c 2 t)) (tk1 (iblk m c 3 t)) (tk1 (iblk m c 4 t))
    (ts1 (iblk m c 5 t)) (tq1 (iblk m c 6 t)) (ts1 a)) (one_sink x)).trans ?_
  refine (hds_at _ _ _ _ _ _ _ _ _ _).trans ?_
  rw [cell1]
  exact congrArg (fun z : EReal => z + sp12 m c t 1 (x 1)) (ts1_at a (x 1))

theorem piece12_2 (c : Dev nD) (t : Fin cfg0.N) (a : FVec Ideal S4x512x1 .f32) (x : S1x512x1.Idx) (y : S4x512x1.Idx)
    (h0 : (y 0).val = 2 + (x 0).val) (h1 : (y 1).val = (x 1).val) :
    hds (fst0 t) (tq2 (iblk m c 0 t)) (tk2 (iblk m c 1 t)) (tk2 (iblk m c 2 t)) (tk2 (iblk m c 3 t)) (tk2 (iblk m c 4 t))
    (ts2 (iblk m c 5 t)) (tq2 (iblk m c 6 t)) (ts2 a) x = a (ix3 (y 0) (y 1) 0) + sp12 m c t (y 0) (y 1) := by
  have e0 : (2 : Fin 4) = y 0 := Fin.ext (by have : (x 0).val < 1 := (x 0).isLt; show 2 = _; omega)
  have e1 : x 1 = y 1 := Fin.ext h1.symm
  have e := congrArg₂ (fun (k : Fin 4) (i : Fin 512) => a (ix3 k i 0) + sp12 m c t k i) e0 e1
  refine Eq.trans ?_ e
  refine (congrArg (hds (fst0 t) (tq2 (iblk m c 0 t)) (tk2 (iblk m c 1 t)) (tk2 (iblk m c 2 t)) (tk2 (iblk m c 3 t)) (tk2 (iblk m c 4 t))
    (ts2 (iblk m c 5 t)) (tq2 (iblk m c 6 t)) (ts2 a)) (one_sink x)).trans ?_
  refine (hds_at _ _ _ _ _ _ _ _ _ _).trans ?_
  rw [cell2]
  exact congrArg (fun z : EReal => z + sp12 m c t 2 (x 1)) (ts2_at a (x 1))

theorem piece12_3 (c : Dev nD) (t : Fin cfg0.N) (a : FVec Ideal S4x512x1 .f32) (x : S1x512x1.Idx) (y : S4x512x1.Idx)
    (h0 : (y 0).val = 3 + (x 0).val) (h1 : (y 1).val = (x 1).val) :
    hds (fst0 t) (tq3 (iblk m c 0 t)) (tk3 (iblk m c 1 t)) (tk3 (iblk m c 2 t)) (tk3 (iblk m c 3 t)) (tk3 (iblk m c 4 t))
    (ts3 (iblk m c 5 t)) (tq3 (iblk m c 6 t)) (ts3 a) x = a (ix3 (y 0) (y 1) 0) + sp12 m c t (y 0) (y 1) := by
  have e0 : (3 : Fin 4) = y 0 := Fin.ext (by have : (x 0).val < 1 := (x 0).isLt; show 3 = _; omega)
  have e1 : x 1 = y 1 := Fin.ext h1.symm
  have e := congrArg₂ (fun (k : Fin 4) (i : Fin 512) => a (ix3 k i 0) + sp12 m c t k i) e0 e1
  refine Eq.trans ?_ e
  refine (congrArg (hds (fst0 t) (tq3 (iblk m c 0 t)) (tk3 (iblk m c 1 t)) (tk3 (iblk m c 2 t)) (tk3 (iblk m c 3 t)) (tk3 (iblk m c 4 t))
    (ts3 (iblk m c 5 t)) (tq3 (iblk m c 6 t)) (ts3 a)) (one_sink x)).trans ?_
  refine (hds_at _ _ _ _ _ _ _ _ _ _).trans ?_
  rw [cell3]
  exact congrArg (fun z : EReal => z + sp12 m c t 3 (x 1)) (ts3_at a (x 1))

theorem outA12 (c : Dev nD) (t : Fin cfg0.N) (h : t.val % 16 = 0) (y : S4x512x1.Idx) :
    (outsAt0 m c t.val t.isLt).2.2.2.2.2 y = k0_pay126 (F := Ideal) (ix3 (y 0) (y 1) 0) + sp12 m c t (y 0) (y 1) := by
  rw [outsAt0_A m c t h]; frame_open
  simp (disch := decide) only [↓ View.readCov_skip, ↓ View.readCov_cons_toLoadRect, ↓ View.readCov_fill]
  frame_out
  refine (canon_append_covered [_, _, _, _] [_] y (View.cover_of_tiled_head _ _ _ (by rfl) _)).trans ?_
  canon_tiles x h
  · refine Eq.trans ?_ (piece12_3 m c t (k0_pay126 (F := Ideal)) x y (by omega) (by omega))
    rfl
  · refine Eq.trans ?_ (piece12_2 m c t (k0_pay126 (F := Ideal)) x y (by omega) (by omega))
    rfl
  · refine Eq.trans ?_ (piece12_1 m c t (k0_pay126 (F := Ideal)) x y (by omega) (by omega))
    rfl
  · refine Eq.trans ?_ (piece12_0 m c t (k0_pay126 (F := Ideal)) x y (by omega) (by omega))
    rfl

theorem outB12 (c : Dev nD) (t : Fin cfg0.N) (h : ¬ t.val % 16 = 0) (y : S4x512x1.Idx) :
    (outsAt0 m c t.val t.isLt).2.2.2.2.2 y =
      (outsAt0 m c (t.val - 1) (by omega)).2.2.2.2.2 (ix3 (y 0) (y 1) 0) + sp12 m c t (y 0) (y 1) := by
  rw [outsAt0_B m c t h]; frame_out; canon_tiles x h
  · refine Eq.trans ?_ (piece12_3 m c t _ x y (by omega) (by omega))
    rfl
  · refine Eq.trans ?_ (piece12_2 m c t _ x y (by omega) (by omega))
    rfl
  · refine Eq.trans ?_ (piece12_1 m c t _ x y (by omega) (by omega))
    rfl
  · refine Eq.trans ?_ (piece12_0 m c t _ x y (by omega) (by omega))
    rfl

end Cert.KernelIdeal.Value
-- ==== Proof.Words.lean ====
/- The attention's mask, computed on 32-bit words, as comparisons of numbers: each fact is decided over its range. -/
module

public import Idealize.ShloMosaic.Lib.Pointwise

@[expose] public section

open Idealize.ShloMosaic

namespace Swa

/-! The masks' rows and columns. -/

/-- Which scores count, in block `n`: the key is no later than the query, fewer than 128 positions before it, and not
    before the sequence's start. -/
def okBit (n : Nat) (i : Fin 512) (j : Fin 256) : BitVec 1 :=
  if j.val ≤ i.val % 128 + 128 ∧ i.val % 128 < j.val ∧ 128 ≤ n * 128 + j.val then 1#1 else 0#1

theorem word_row : ∀ i : Fin 512, IntOp.andi (BitVec.ofNat 32 i.val) 127#32 = BitVec.ofNat 32 (i.val % 128) := by
  decide +kernel
theorem word_diff : ∀ (a : Fin 128) (j : Fin 256), IntOp.andi
    (IntOp.cmpi CmpIPredicate.sge (IntOp.subi (IntOp.addi (BitVec.ofNat 32 a.val) 128#32) (BitVec.ofNat 32 j.val)) 0#32)
    (IntOp.cmpi CmpIPredicate.slt (IntOp.subi (IntOp.addi (BitVec.ofNat 32 a.val) 128#32) (BitVec.ofNat 32 j.val)) 128#32)
    = if j.val ≤ a.val + 128 ∧ a.val < j.val then 1#1 else 0#1 := by
  decide +kernel
theorem word_start : ∀ (n : Fin 16) (j : Fin 256), IntOp.cmpi CmpIPredicate.sge (BitVec.ofNat 32 j.val)
    (Scalar.select (Scalar.cmpi CmpIPredicate.eq (BitVec.ofNat 32 n.val) 0#32) 128#32 0#32)
    = if 128 ≤ n.val * 128 + j.val then 1#1 else 0#1 := by
  decide +kernel

/-- The reference's form of the start of the sequence. -/
theorem word_start' : ∀ (n : Fin 16) (j : Fin 256), IntOp.cmpi CmpIPredicate.sge
    (IntOp.subi (IntOp.addi (IntOp.muli (BitVec.ofNat 32 n.val) 128#32) (BitVec.ofNat 32 j.val)) 128#32) 0#32
    = if 128 ≤ n.val * 128 + j.val then 1#1 else 0#1 := by
  decide +kernel
theorem and_bits (p q r : Prop) [Decidable p] [Decidable q] [Decidable r] :
    IntOp.andi (if p ∧ q then 1#1 else 0#1) (if r then 1#1 else 0#1) = if p ∧ q ∧ r then 1#1 else 0#1 := by
  by_cases hp : p <;> by_cases hq : q <;> by_cases hr : r <;> simp [hp, hq, hr, IntOp.andi]

end Swa
-- ==== Proof.Arrays.lean ====
/- The arrays that the attention's backward kernel leaves, as functions of the arguments. -/
module

public import proofs.«01_k».proof.Proof.Stored
public import proofs.«01_k».proof.Proof.Words

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The cell of four heads in one block, off the arguments; the block before the first is the first itself. -/
def argCell (q : FVec Ideal S2048x1024 .bf16) (k v : FVec Ideal S2048x256 .bf16) (s : FVec Ideal S1x16 .f32)
    (o : FVec Ideal S2048x1024 .bf16) (n : Fin 16) (h : Fin 4) : Swa.Cell where
  mask i j := Swa.okBit n.val i j
  qry i d := q (ix2 ⟨n.val * 128 + i.val % 128, by omega⟩ ⟨(h.val * 4 + i.val / 128) * 64 + d.val, by omega⟩)
  key j d := if hj : j.val < 128 then k (ix2 ⟨(n.val - 1) * 128 + j.val, by omega⟩ ⟨h.val * 64 + d.val, by omega⟩)
    else k (ix2 ⟨n.val * 128 + (j.val - 128), by omega⟩ ⟨h.val * 64 + d.val, by omega⟩)
  val j d := if hj : j.val < 128 then v (ix2 ⟨(n.val - 1) * 128 + j.val, by omega⟩ ⟨h.val * 64 + d.val, by omega⟩)
    else v (ix2 ⟨n.val * 128 + (j.val - 128), by omega⟩ ⟨h.val * 64 + d.val, by omega⟩)
  out i d := o (ix2 ⟨n.val * 128 + i.val % 128, by omega⟩ ⟨(h.val * 4 + i.val / 128) * 64 + d.val, by omega⟩)
  sink i := s (ix2 0 ⟨h.val * 4 + i.val / 128, by omega⟩)

variable (m : (ℓ : Loc nD τ sig) → Buf (Elt Ideal) ℓ)

theorem V_v1 (c : Dev nD) (h : Fin 16) (s : Fin 2048) (d : Fin 64) :
    (V m c main_v1 : FVec Ideal S16x2048x64 .bf16) (ix3 h s d) =
      (m ((c : Thread nD τ).loc main_arg0) : FVec Ideal S2048x1024 .bf16) (ix2 s ⟨h.val * 64 + d.val, by omega⟩) := by
  have e : V m c main_v1 = (transpose S16x2048x64 [1, 0, 2] (shapeCast S2048x16x64
      (m ((c : Thread nD τ).loc main_arg0) : FVec Ideal S2048x1024 .bf16) shapeCasts_S2048x1024_S2048x16x64)
      transposes_S2048x16x64_S16x2048x64_1_0_2 : FVec Ideal S16x2048x64 .bf16) := by
    unfold_abbrev_sides; after_results; try rfl
  rw [e]
  generalize (m ((c : Thread nD τ).loc main_arg0) : FVec Ideal S2048x1024 .bf16) = x
  pointwise

theorem V_v10 (c : Dev nD) (h : Fin 16) (s : Fin 2048) (d : Fin 64) :
    (V m c main_v10 : FVec Ideal S16x2048x64 .bf16) (ix3 h s d) =
      (m ((c : Thread nD τ).loc main_arg4) : FVec Ideal S2048x1024 .bf16) (ix2 s ⟨h.val * 64 + d.val, by omega⟩) := by
  have e : V m c main_v10 = (transpose S16x2048x64 [1, 0, 2] (shapeCast S2048x16x64
      (m ((c : Thread nD τ).loc main_arg4) : FVec Ideal S2048x1024 .bf16) shapeCasts_S2048x1024_S2048x16x64)
      transposes_S2048x16x64_S16x2048x64_1_0_2 : FVec Ideal S16x2048x64 .bf16) := by
    unfold_abbrev_sides; after_results; try rfl
  rw [e]
  generalize (m ((c : Thread nD τ).loc main_arg4) : FVec Ideal S2048x1024 .bf16) = x
  pointwise

theorem V_v3 (c : Dev nD) (h : Fin 4) (s : Fin 2048) (d : Fin 64) :
    (V m c main_v3 : FVec Ideal S4x2048x64 .bf16) (ix3 h s d) =
      (m ((c : Thread nD τ).loc main_arg1) : FVec Ideal S2048x256 .bf16) (ix2 s ⟨h.val * 64 + d.val, by omega⟩) := by
  have e : V m c main_v3 = (transpose S4x2048x64 [1, 0, 2] (shapeCast S2048x4x64
      (m ((c : Thread nD τ).loc main_arg1) : FVec Ideal S2048x256 .bf16) shapeCasts_S2048x256_S2048x4x64)
      transposes_S2048x4x64_S4x2048x64_1_0_2 : FVec Ideal S4x2048x64 .bf16) := by
    unfold_abbrev_sides; after_results; try rfl
  rw [e]
  generalize (m ((c : Thread nD τ).loc main_arg1) : FVec Ideal S2048x256 .bf16) = x
  pointwise

theorem V_v5 (c : Dev nD) (h : Fin 4) (s : Fin 2048) (d : Fin 64) :
    (V m c main_v5 : FVec Ideal S4x2048x64 .bf16) (ix3 h s d) =
      (m ((c : Thread nD τ).loc main_arg2) : FVec Ideal S2048x256 .bf16) (ix2 s ⟨h.val * 64 + d.val, by omega⟩) := by
  have e : V m c main_v5 = (transpose S4x2048x64 [1, 0, 2] (shapeCast S2048x4x64
      (m ((c : Thread nD τ).loc main_arg2) : FVec Ideal S2048x256 .bf16) shapeCasts_S2048x256_S2048x4x64)
      transposes_S2048x4x64_S4x2048x64_1_0_2 : FVec Ideal S4x2048x64 .bf16) := by
    unfold_abbrev_sides; after_results; try rfl
  rw [e]
  generalize (m ((c : Thread nD τ).loc main_arg2) : FVec Ideal S2048x256 .bf16) = x
  pointwise

theorem V_v8 (c : Dev nD) (h : Fin 4) (i : Fin 512) :
    (V m c main_v8 : FVec Ideal S4x512x1 .f32) (ix3 h i 0) =
      (m ((c : Thread nD τ).loc main_arg3) : FVec Ideal S1x16 .f32) (ix2 0 ⟨h.val * 4 + i.val / 128, by omega⟩) := by
  have e : V m c main_v8 = (shapeCast S4x512x1 (broadcastInDim S4x4x128x1 ![0, 1, 2, 3] bcast_S4x4x1x1_S4x4x128x1_0_1_2_3
      (shapeCast S4x4x1x1 (m ((c : Thread nD τ).loc main_arg3) : FVec Ideal S1x16 .f32) shapeCasts_S1x16_S4x4x1x1
        : FVec Ideal S4x4x1x1 .f32))
      shapeCasts_S4x4x128x1_S4x512x1 : FVec Ideal S4x512x1 .f32) := by
    unfold_abbrev_sides; after_results; try rfl
  rw [e]
  generalize (m ((c : Thread nD τ).loc main_arg3) : FVec Ideal S1x16 .f32) = x
  pointwise

theorem gridN (t : Fin cfg0.N) : t.val < 16 := lt_of_lt_of_eq t.isLt N_0

theorem win0_index : ∀ t : Fin cfg0.N, win0_0.index t = ![0, t.val, 0] := (by decide +kernel : ∀ t : Fin grid0.N, _)
theorem win1_index : ∀ t : Fin cfg0.N, win0_1.index t = ![0, t.val - 1, 0] := (by decide +kernel : ∀ t : Fin grid0.N, _)
theorem win2_index : ∀ t : Fin cfg0.N, win0_2.index t = ![0, t.val, 0] := (by decide +kernel : ∀ t : Fin grid0.N, _)
theorem win3_index : ∀ t : Fin cfg0.N, win0_3.index t = ![0, t.val - 1, 0] := (by decide +kernel : ∀ t : Fin grid0.N, _)
theorem win4_index : ∀ t : Fin cfg0.N, win0_4.index t = ![0, t.val, 0] := (by decide +kernel : ∀ t : Fin grid0.N, _)
theorem win6_index : ∀ t : Fin cfg0.N, win0_6.index t = ![0, t.val, 0] := (by decide +kernel : ∀ t : Fin grid0.N, _)
theorem win5_index : ∀ t : Fin cfg0.N, win0_5.index t = ![0, 0, 0] := (by decide +kernel : ∀ t : Fin grid0.N, _)

theorem blk0 (c : Dev nD) (t : Fin cfg0.N) (h : Fin 16) (i : Fin 128) (d : Fin 64) :
    (iblk m c 0 t : FVec Ideal S16x128x64 .bf16) (ix3 h i d) =
      (m ((c : Thread nD τ).loc main_arg0) : FVec Ideal S2048x1024 .bf16)
        (ix2 ⟨t.val * 128 + i.val, by have := gridN t; omega⟩ ⟨h.val * 64 + d.val, by omega⟩) := by
  refine Eq.trans ?_ (V_v1 m c h ⟨t.val * 128 + i.val, by have := gridN t; omega⟩ d)
  unfold iblk
  blk_simp
  refine congrArg (V m c main_v1 : FVec Ideal S16x2048x64 .bf16) ?_
  blk_ext [win0_index t]

theorem blk6 (c : Dev nD) (t : Fin cfg0.N) (h : Fin 16) (i : Fin 128) (d : Fin 64) :
    (iblk m c 6 t : FVec Ideal S16x128x64 .bf16) (ix3 h i d) =
      (m ((c : Thread nD τ).loc main_arg4) : FVec Ideal S2048x1024 .bf16)
        (ix2 ⟨t.val * 128 + i.val, by have := gridN t; omega⟩ ⟨h.val * 64 + d.val, by omega⟩) := by
  refine Eq.trans ?_ (V_v10 m c h ⟨t.val * 128 + i.val, by have := gridN t; omega⟩ d)
  unfold iblk
  blk_simp
  refine congrArg (V m c main_v10 : FVec Ideal S16x2048x64 .bf16) ?_
  blk_ext [win6_index t]

theorem blk1 (c : Dev nD) (t : Fin cfg0.N) (h : Fin 4) (i : Fin 128) (d : Fin 64) :
    (iblk m c 1 t : FVec Ideal S4x128x64 .bf16) (ix3 h i d) =
      (m ((c : Thread nD τ).loc main_arg1) : FVec Ideal S2048x256 .bf16)
        (ix2 ⟨(t.val - 1) * 128 + i.val, by have := gridN t; omega⟩ ⟨h.val * 64 + d.val, by omega⟩) := by
  refine Eq.trans ?_ (V_v3 m c h ⟨(t.val - 1) * 128 + i.val, by have := gridN t; omega⟩ d)
  unfold iblk
  blk_simp
  refine congrArg (V m c main_v3 : FVec Ideal S4x2048x64 .bf16) ?_
  blk_ext [win1_index t]

theorem blk2 (c : Dev nD) (t : Fin cfg0.N) (h : Fin 4) (i : Fin 128) (d : Fin 64) :
    (iblk m c 2 t : FVec Ideal S4x128x64 .bf16) (ix3 h i d) =
      (m ((c : Thread nD τ).loc main_arg1) : FVec Ideal S2048x256 .bf16)
        (ix2 ⟨t.val * 128 + i.val, by have := gridN t; omega⟩ ⟨h.val * 64 + d.val, by omega⟩) := by
  refine Eq.trans ?_ (V_v3 m c h ⟨t.val * 128 + i.val, by have := gridN t; omega⟩ d)
  unfold iblk
  blk_simp
  refine congrArg (V m c main_v3 : FVec Ideal S4x2048x64 .bf16) ?_
  blk_ext [win2_index t]

theorem blk3 (c : Dev nD) (t : Fin cfg0.N) (h : Fin 4) (i : Fin 128) (d : Fin 64) :
    (iblk m c 3 t : FVec Ideal S4x128x64 .bf16) (ix3 h i d) =
      (m ((c : Thread nD τ).loc main_arg2) : FVec Ideal S2048x256 .bf16)
        (ix2 ⟨(t.val - 1) * 128 + i.val, by have := gridN t; omega⟩ ⟨h.val * 64 + d.val, by omega⟩) := by
  refine Eq.trans ?_ (V_v5 m c h ⟨(t.val - 1) * 128 + i.val, by have := gridN t; omega⟩ d)
  unfold iblk
  blk_simp
  refine congrArg (V m c main_v5 : FVec Ideal S4x2048x64 .bf16) ?_
  blk_ext [win3_index t]

theorem blk4 (c : Dev nD) (t : Fin cfg0.N) (h : Fin 4) (i : Fin 128) (d : Fin 64) :
    (iblk m c 4 t : FVec Ideal S4x128x64 .bf16) (ix3 h i d) =
      (m ((c : Thread nD τ).loc main_arg2) : FVec Ideal S2048x256 .bf16)
        (ix2 ⟨t.val * 128 + i.val, by have := gridN t; omega⟩ ⟨h.val * 64 + d.val, by omega⟩) := by
  refine Eq.trans ?_ (V_v5 m c h ⟨t.val * 128 + i.val, by have := gridN t; omega⟩ d)
  unfold iblk
  blk_simp
  refine congrArg (V m c main_v5 : FVec Ideal S4x2048x64 .bf16) ?_
  blk_ext [win4_index t]

theorem blk5 (c : Dev nD) (t : Fin cfg0.N) (h : Fin 4) (i : Fin 512) :
    (iblk m c 5 t : FVec Ideal S4x512x1 .f32) (ix3 h i 0) =
      (m ((c : Thread nD τ).loc main_arg3) : FVec Ideal S1x16 .f32) (ix2 0 ⟨h.val * 4 + i.val / 128, by omega⟩) := by
  refine Eq.trans ?_ (V_v8 m c h i)
  unfold iblk
  blk_simp
  refine congrArg (V m c main_v8 : FVec Ideal S4x512x1 .f32) ?_
  blk_ext [win5_index t]

theorem grid_coord : ∀ t : Fin cfg0.N, (grid0.coords t 0).val = t.val := (by decide +kernel : ∀ t : Fin grid0.N, _)
theorem mask_at (t : Fin cfg0.N) (i : Fin 512) (j : Fin 256) : k0_pay25 (fst0 t) (ix2 i j) = Swa.okBit t.val i j := by
  unfold fst0
  pointwise [k0_pay25]
  rw [Swa.word_row i, Swa.word_diff ⟨i.val % 128, by omega⟩ j, grid_coord t, Swa.word_start ⟨t.val, gridN t⟩ j]
  exact Swa.and_bits _ _ _

theorem ptCell_eq (c : Dev nD) (t : Fin cfg0.N) (k : Fin 4) : ptCell m c t k =
    argCell (m ((c : Thread nD τ).loc main_arg0)) (m ((c : Thread nD τ).loc main_arg1)) (m ((c : Thread nD τ).loc main_arg2))
      (m ((c : Thread nD τ).loc main_arg3)) (m ((c : Thread nD τ).loc main_arg4)) ⟨t.val, gridN t⟩ k := by
  unfold ptCell blkCell argCell
  simp only [mask_at, blk0, blk1, blk2, blk3, blk4, blk5, blk6]

end Cert.KernelIdeal.Value
-- ==== Proof.Final.lean ====
/- The arrays that the attention's backward kernel leaves. -/
module

public import proofs.«01_k».proof.Proof.Arrays

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The cell of block `n` and key head `k`, off the arguments that the memory holds on device `c`. -/
def memCell (c : Dev nD) (n : Fin 16) (k : Fin 4) : Swa.Cell :=
  argCell (m ((c : Thread nD τ).loc main_arg0)) (m ((c : Thread nD τ).loc main_arg1)) (m ((c : Thread nD τ).loc main_arg2))
    (m ((c : Thread nD τ).loc main_arg3)) (m ((c : Thread nD τ).loc main_arg4)) n k

/-- The grid point's cell, with the block named by a position in it. -/
theorem ptCell_mem (c : Dev nD) (t : Fin cfg0.N) (k : Fin 4) (n : Fin 16) (hn : n.val = t.val) :
    ptCell m c t k = memCell m c n k := by
  rw [ptCell_eq, memCell]
  exact congrArg (fun n => argCell _ _ _ _ _ n k) (Fin.ext hn.symm)

theorem win7_index : ∀ t : Fin cfg0.N, win0_7.index t = ![0, t.val, 0] := (by decide +kernel : ∀ t : Fin grid0.N, _)
theorem win8_index : ∀ t : Fin cfg0.N, win0_8.index t = ![0, t.val, 0] := (by decide +kernel : ∀ t : Fin grid0.N, _)
theorem win9_index : ∀ t : Fin cfg0.N, win0_9.index t = ![0, t.val, 0] := (by decide +kernel : ∀ t : Fin grid0.N, _)
theorem win10_index : ∀ t : Fin cfg0.N, win0_10.index t = ![0, t.val, 0] := (by decide +kernel : ∀ t : Fin grid0.N, _)
theorem win11_index : ∀ t : Fin cfg0.N, win0_11.index t = ![0, t.val, 0] := (by decide +kernel : ∀ t : Fin grid0.N, _)
theorem win12_index : ∀ t : Fin cfg0.N, win0_12.index t = ![0, 0, 0] := (by decide +kernel : ∀ t : Fin grid0.N, _)

/-- What window 7's array holds at the end. -/
def fin7 (c : Dev nD) (h : Fin 16) (s : Fin 2048) (d : Fin 64) : EReal :=
  (memCell m c ⟨s.val / 128, by omega⟩ ⟨h.val / 4, by omega⟩).dq ⟨h.val % 4 * 128 + s.val % 128, by omega⟩ d

theorem sp7_eq (c : Dev nD) (t : Fin cfg0.N) (h : Fin 16) (i : Fin 128) (d : Fin 64) (h' : Fin 16) (s : Fin 2048) (d' : Fin 64)
    (hh : h.val = h'.val) (hs : s.val = t.val * 128 + i.val) (hd : d.val = d'.val) : sp7 m c t h i d = fin7 m c h' s d' := by
  obtain rfl := Fin.ext hh
  obtain rfl := Fin.ext hd
  unfold sp7 fin7
  rw [ptCell_mem m c t _ ⟨s.val / 128, by omega⟩ (by show s.val / 128 = _; omega)]
  refine congrArg (fun r => (memCell m c _ _).dq r d) (Fin.ext ?_)
  dsimp only
  omega

theorem arr7 (c : Dev nD) : (dats m 0 c).arrAt 7 cfg0.N = (fun x => fin7 m c (x 0) (x 1) (x 2) : FVec Ideal S16x2048x64 .bf16) := by
  refine (dats m 0 c).arrAt_eq_of_covers 7 _ (by decide +kernel) fun t hf y => ?_
  blk_simp
  rw [after0_7]
  refine Eq.trans (?_ : _ = sp7 m c t (y 0) (y 1) (y 2)) (sp7_eq m c t _ _ _ _ _ _ ?_ ?_ ?_)
  · rcases Nat.eq_zero_or_pos (t.val % 16) with h0 | h0
    · exact outA7 m c t h0 y
    · exact outB7 m c t (by omega) y
  all_goals blk_simp [win7_index t]
  all_goals simp

/-- What window 8's array holds at the end. -/
def fin8 (c : Dev nD) (h : Fin 4) (s : Fin 2048) (d : Fin 64) : EReal :=
  (memCell m c ⟨s.val / 128, by omega⟩ h).dk ⟨s.val % 128, by omega⟩ d

theorem sp8_eq (c : Dev nD) (t : Fin cfg0.N) (h : Fin 4) (i : Fin 128) (d : Fin 64) (h' : Fin 4) (s : Fin 2048) (d' : Fin 64)
    (hh : h.val = h'.val) (hs : s.val = t.val * 128 + i.val) (hd : d.val = d'.val) : sp8 m c t h i d = fin8 m c h' s d' := by
  obtain rfl := Fin.ext hh
  obtain rfl := Fin.ext hd
  unfold sp8 fin8
  rw [ptCell_mem m c t _ ⟨s.val / 128, by omega⟩ (by show s.val / 128 = _; omega)]
  refine congrArg (fun r => (memCell m c _ _).dk r d) (Fin.ext ?_)
  dsimp only
  omega

theorem arr8 (c : Dev nD) : (dats m 0 c).arrAt 8 cfg0.N = (fun x => fin8 m c (x 0) (x 1) (x 2) : FVec Ideal S4x2048x64 .bf16) := by
  refine (dats m 0 c).arrAt_eq_of_covers 8 _ (by decide +kernel) fun t hf y => ?_
  blk_simp
  rw [after0_8]
  refine Eq.trans (?_ : _ = sp8 m c t (y 0) (y 1) (y 2)) (sp8_eq m c t _ _ _ _ _ _ ?_ ?_ ?_)
  · rcases Nat.eq_zero_or_pos (t.val % 16) with h0 | h0
    · exact outA8 m c t h0 y
    · exact outB8 m c t (by omega) y
  all_goals blk_simp [win8_index t]
  all_goals simp

/-- What window 9's array holds at the end. -/
def fin9 (c : Dev nD) (h : Fin 4) (s : Fin 2048) (d : Fin 64) : EReal :=
  (memCell m c ⟨s.val / 128, by omega⟩ h).dk ⟨128 + s.val % 128, by omega⟩ d

theorem sp9_eq (c : Dev nD) (t : Fin cfg0.N) (h : Fin 4) (i : Fin 128) (d : Fin 64) (h' : Fin 4) (s : Fin 2048) (d' : Fin 64)
    (hh : h.val = h'.val) (hs : s.val = t.val * 128 + i.val) (hd : d.val = d'.val) : sp9 m c t h i d = fin9 m c h' s d' := by
  obtain rfl := Fin.ext hh
  obtain rfl := Fin.ext hd
  unfold sp9 fin9
  rw [ptCell_mem m c t _ ⟨s.val / 128, by omega⟩ (by show s.val / 128 = _; omega)]
  refine congrArg (fun r => (memCell m c _ _).dk r d) (Fin.ext ?_)
  dsimp only
  omega

theorem arr9 (c : Dev nD) : (dats m 0 c).arrAt 9 cfg0.N = (fun x => fin9 m c (x 0) (x 1) (x 2) : FVec Ideal S4x2048x64 .bf16) := by
  refine (dats m 0 c).arrAt_eq_of_covers 9 _ (by decide +kernel) fun t hf y => ?_
  blk_simp
  rw [after0_9]
  refine Eq.trans (?_ : _ = sp9 m c t (y 0) (y 1) (y 2)) (sp9_eq m c t _ _ _ _ _ _ ?_ ?_ ?_)
  · rcases Nat.eq_zero_or_pos (t.val % 16) with h0 | h0
    · exact outA9 m c t h0 y
    · exact outB9 m c t (by omega) y
  all_goals blk_simp [win9_index t]
  all_goals simp

/-- What window 10's array holds at the end. -/
def fin10 (c : Dev nD) (h : Fin 4) (s : Fin 2048) (d : Fin 64) : EReal :=
  (memCell m c ⟨s.val / 128, by omega⟩ h).dv ⟨s.val % 128, by omega⟩ d

theorem sp10_eq (c : Dev nD) (t : Fin cfg0.N) (h : Fin 4) (i : Fin 128) (d : Fin 64) (h' : Fin 4) (s : Fin 2048) (d' : Fin 64)
    (hh : h.val = h'.val) (hs : s.val = t.val * 128 + i.val) (hd : d.val = d'.val) : sp10 m c t h i d = fin10 m c h' s d' := by
  obtain rfl := Fin.ext hh
  obtain rfl := Fin.ext hd
  unfold sp10 fin10
  rw [ptCell_mem m c t _ ⟨s.val / 128, by omega⟩ (by show s.val / 128 = _; omega)]
  refine congrArg (fun r => (memCell m c _ _).dv r d) (Fin.ext ?_)
  dsimp only
  omega

theorem arr10 (c : Dev nD) : (dats m 0 c).arrAt 10 cfg0.N = (fun x => fin10 m c (x 0) (x 1) (x 2) : FVec Ideal S4x2048x64 .bf16) := by
  refine (dats m 0 c).arrAt_eq_of_covers 10 _ (by decide +kernel) fun t hf y => ?_
  blk_simp
  rw [after0_10]
  refine Eq.trans (?_ : _ = sp10 m c t (y 0) (y 1) (y 2)) (sp10_eq m c t _ _ _ _ _ _ ?_ ?_ ?_)
  · rcases Nat.eq_zero_or_pos (t.val % 16) with h0 | h0
    · exact outA10 m c t h0 y
    · exact outB10 m c t (by omega) y
  all_goals blk_simp [win10_index t]
  all_goals simp

/-- What window 11's array holds at the end. -/
def fin11 (c : Dev nD) (h : Fin 4) (s : Fin 2048) (d : Fin 64) : EReal :=
  (memCell m c ⟨s.val / 128, by omega⟩ h).dv ⟨128 + s.val % 128, by omega⟩ d

theorem sp11_eq (c : Dev nD) (t : Fin cfg0.N) (h : Fin 4) (i : Fin 128) (d : Fin 64) (h' : Fin 4) (s : Fin 2048) (d' : Fin 64)
    (hh : h.val = h'.val) (hs : s.val = t.val * 128 + i.val) (hd : d.val = d'.val) : sp11 m c t h i d = fin11 m c h' s d' := by
  obtain rfl := Fin.ext hh
  obtain rfl := Fin.ext hd
  unfold sp11 fin11
  rw [ptCell_mem m c t _ ⟨s.val / 128, by omega⟩ (by show s.val / 128 = _; omega)]
  refine congrArg (fun r => (memCell m c _ _).dv r d) (Fin.ext ?_)
  dsimp only
  omega

theorem arr11 (c : Dev nD) : (dats m 0 c).arrAt 11 cfg0.N = (fun x => fin11 m c (x 0) (x 1) (x 2) : FVec Ideal S4x2048x64 .bf16) := by
  refine (dats m 0 c).arrAt_eq_of_covers 11 _ (by decide +kernel) fun t hf y => ?_
  blk_simp
  rw [after0_11]
  refine Eq.trans (?_ : _ = sp11 m c t (y 0) (y 1) (y 2)) (sp11_eq m c t _ _ _ _ _ _ ?_ ?_ ?_)
  · rcases Nat.eq_zero_or_pos (t.val % 16) with h0 | h0
    · exact outA11 m c t h0 y
    · exact outB11 m c t (by omega) y
  all_goals blk_simp [win11_index t]
  all_goals simp

/-- What window 12's array holds at the end. -/
def fin12 (c : Dev nD) (k : Fin 4) (i : Fin 512) : EReal := ∑ n : Fin 16, (memCell m c n k).dsink i

theorem ix3_last (y : S4x512x1.Idx) : (ix3 (y 0) (y 1) 0 : S4x512x1.Idx) = y := by
  funext a
  match a with
  | 0 => rfl
  | 1 => rfl
  | 2 => exact Fin.ext (by have : (y 2).val < 1 := (y 2).isLt; show 0 = (y 2).val; omega)

theorem sum_points (c : Dev nD) (k : Fin 4) (i : Fin 512) : ∑ p : Fin cfg0.N, sp12 m c p k i = fin12 m c k i := by
  unfold fin12 sp12
  exact Fintype.sum_equiv (finCongr N_0) _ _ fun t => by rw [ptCell_mem m c t k (finCongr N_0 t) rfl]

theorem arr12 (c : Dev nD) : (dats m 0 c).arrAt 12 cfg0.N = (fun x => fin12 m c (x 0) (x 1) : FVec Ideal S4x512x1 .f32) := by
  refine (dats m 0 c).arrAt_eq_of_after_last 12 t0_15 (by decide +kernel) _ fun j => ?_
  blk_simp
  rw [after0_12, Pipeline.eq_sum_fin_of_reset_step_apply_last (fun n h => (outsAt0 m c n h).2.2.2.2.2) 16 (fun _ => 0)
    (fun t j => sp12 m c t (j 0) (j 1))
    (fun t h j => (outA12 m c t h j).trans (congrArg (· + _) (by pointwise [k0_pay126])))
    (fun t h j => (outB12 m c t h j).trans (congrArg (fun x => (outsAt0 m c (t.val - 1) _).2.2.2.2.2 x + _) (ix3_last _)))
    (le_of_eq N_0) t0_15 rfl j, zero_add]
  exact sum_points m c (j 0) (j 1)

/-- The host's last lines read the kernel's arrays. -/
theorem tailArr (c : Dev nD) (w : Fin cfg0.W) :
    Pipeline.withArrays (cfgs 0).spec c (V0 m c) (fun w => (dats m 0 c).arrAt w (cfgs 0).N) (Proc.devRef .tc (Pipeline.arrRef spec0 w)) =
      (dats m 0 c).arrAt w cfg0.N :=
  (dats m 0 c).withArrays_arrAt launch₀0.sharedIn (V0 m c) (fun w => A_eq m c w) w

/-- The last line of the query gradient: the heads come back to the columns. -/
def host29 (x : FVec Ideal S16x2048x64 .bf16) : FVec Ideal S2048x1024 .bf16 :=
  (shapeCast S2048x1024 (transpose S2048x16x64 [1, 0, 2] x transposes_S16x2048x64_S2048x16x64_1_0_2)
      shapeCasts_S2048x16x64_S2048x1024 : FVec Ideal S2048x1024 .bf16)
/-- The last lines of the key and value gradients: the share of the block after joins, the heads come back to the columns. -/
def hostFold (x y : FVec Ideal S4x2048x64 .bf16) : FVec Ideal S2048x256 .bf16 :=
  (shapeCast S2048x256 (transpose S2048x4x64 [1, 0, 2] (truncf .bf16 (addf (extf .f32 x bitsLt_bf16_f32)
      (extf .f32 (concatenate S4x2048x64 1 [⟨S4x1920x64, extractStridedSlice S4x1920x64 ![0, 128, 0] y slices_S4x2048x64_S4x1920x64_0_128_0⟩,
        ⟨S4x128x64, broadcastInDim S4x128x64 ![] bcast_S_S4x128x64 (constant S_ .bf16 0x0000#16 : FVec Ideal S_ .bf16)⟩]
        concatenates_S4x1920x64_S4x128x64_S4x2048x64_d1) bitsLt_bf16_f32)) bitsLt_bf16_f32)
      transposes_S4x2048x64_S2048x4x64_1_0_2) shapeCasts_S2048x4x64_S2048x256 : FVec Ideal S2048x256 .bf16)
/-- The last lines of the sinks' gradient: the sum over a head's positions in a block. -/
def host36 (x : FVec Ideal S4x512x1 .f32) : FVec Ideal S1x16 .f32 :=
  (shapeCast S1x16 (Host.reduceAdd (shapeCast S16x128 x shapeCasts_S4x512x1_S16x128) (constant S_ .f32 0x00000000#32 : FVec Ideal S_ .f32)
      reducesTo_S16x128_S16_d1 h_S_) shapeCasts_S16_S1x16 : FVec Ideal S1x16 .f32)

theorem after29 (A : Valuation τ sig (Elt Ideal)) : StableHlo.after hostOps1 A (Proc.devRef .tc main_v29) =
    host29 (A (Proc.devRef .tc main_v11_0)) := by
  after_results; rfl
theorem after31 (A : Valuation τ sig (Elt Ideal)) : StableHlo.after hostOps1 A (Proc.devRef .tc main_v31) =
    hostFold (A (Proc.devRef .tc main_v11_2)) (A (Proc.devRef .tc main_v11_1)) := by
  after_results; rfl
theorem after33 (A : Valuation τ sig (Elt Ideal)) : StableHlo.after hostOps1 A (Proc.devRef .tc main_v33) =
    hostFold (A (Proc.devRef .tc main_v11_4)) (A (Proc.devRef .tc main_v11_3)) := by
  after_results; rfl
theorem after36 (A : Valuation τ sig (Elt Ideal)) : StableHlo.after hostOps1 A (Proc.devRef .tc main_v36) =
    host36 (A (Proc.devRef .tc main_v11_5)) := by
  after_results; rfl

theorem tail29 (c : Dev nD) : Pipeline.afterTail₀ cfgs (dats m) 0 (V0 m) [hostOps1] c main_v29 =
    host29 (fun x => fin7 m c (x 0) (x 1) (x 2)) :=
  (after29 _).trans (congrArg host29 ((tailArr m c 7).trans (arr7 m c)))
theorem tail31 (c : Dev nD) : Pipeline.afterTail₀ cfgs (dats m) 0 (V0 m) [hostOps1] c main_v31 =
    hostFold (fun x => fin9 m c (x 0) (x 1) (x 2)) (fun x => fin8 m c (x 0) (x 1) (x 2)) :=
  (after31 _).trans (congrArg₂ hostFold ((tailArr m c 9).trans (arr9 m c)) ((tailArr m c 8).trans (arr8 m c)))
theorem tail33 (c : Dev nD) : Pipeline.afterTail₀ cfgs (dats m) 0 (V0 m) [hostOps1] c main_v33 =
    hostFold (fun x => fin11 m c (x 0) (x 1) (x 2)) (fun x => fin10 m c (x 0) (x 1) (x 2)) :=
  (after33 _).trans (congrArg₂ hostFold ((tailArr m c 11).trans (arr11 m c)) ((tailArr m c 10).trans (arr10 m c)))
theorem tail36 (c : Dev nD) : Pipeline.afterTail₀ cfgs (dats m) 0 (V0 m) [hostOps1] c main_v36 =
    host36 (fun x => fin12 m c (x 0) (x 1)) :=
  (after36 _).trans (congrArg host36 ((tailArr m c 12).trans (arr12 m c)))

theorem host29_at (x : FVec Ideal S16x2048x64 .bf16) (s : Fin 2048) (e : Fin 1024) :
    host29 x (ix2 s e) = x (ix3 ⟨e.val / 64, by omega⟩ s ⟨e.val % 64, by omega⟩) := by
  pointwise [host29]

theorem hostFold_at (x y : FVec Ideal S4x2048x64 .bf16) (s : Fin 2048) (e : Fin 256) :
    hostFold x y (ix2 s e) = x (ix3 ⟨e.val / 64, by omega⟩ s ⟨e.val % 64, by omega⟩) +
      (if h : s.val < 1920 then y (ix3 ⟨e.val / 64, by omega⟩ ⟨128 + s.val, by omega⟩ ⟨e.val % 64, by omega⟩) else 0) := by
  pointwise [hostFold]

theorem host36_at (x : FVec Ideal S4x512x1 .f32) (h : Fin 16) :
    host36 x (ix2 0 h) = ∑ q : Fin 128, x (ix3 ⟨h.val / 4, by omega⟩ ⟨h.val % 4 * 128 + q.val, by omega⟩ 0) := by
  pointwise [host36]

end Cert.KernelIdeal.Value
-- ==== Proof.Finite.lean ====
/-
What finiteness gives a row of scores: its exponentials and its denominator are real numbers, and so the gradient of the
row's maximum is zero. Cells that differ only in masked rows have the same gradients.
-/
module

public import proofs.«01_k».proof.Proof.Row

@[expose] public section

noncomputable section

open Idealize.ShloMosaic

namespace Swa

/-- An extended real that is a real number. -/
def IsReal (x : EReal) : Prop := ∃ r : ℝ, x = (r : EReal)

theorem IsReal.of_ne {x : EReal} (h : x ≠ ⊥) (h' : x ≠ ⊤) : IsReal x := ⟨x.toReal, (EReal.coe_toReal h' h).symm⟩
theorem IsReal.ne_bot {x : EReal} : IsReal x → x ≠ ⊥ := by rintro ⟨r, rfl⟩; exact EReal.coe_ne_bot r
theorem IsReal.ne_top {x : EReal} : IsReal x → x ≠ ⊤ := by rintro ⟨r, rfl⟩; exact EReal.coe_ne_top r
theorem IsReal.mul {x y : EReal} : IsReal x → IsReal y → IsReal (x * y) := by
  rintro ⟨r, rfl⟩ ⟨t, rfl⟩; exact ⟨r * t, (EReal.coe_mul r t).symm⟩
theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]
theorem IsReal.sum {ι : Type} [Fintype ι] {f : ι → EReal} (h : ∀ i, IsReal (f i)) : IsReal (∑ i, f i) := by
  choose r hr using h
  exact ⟨∑ i, r i, by rw [coe_sum]; exact Finset.sum_congr rfl fun i _ => hr i⟩

/-- The filling of the scores that do not count. -/
theorem low_bits : Ideal.ofBits FTy.f32 4286578688#32 = ⊥ := by
  simp [Ideal.ofBits, Ideal.ieee]
/-- The scale of the scores. -/
theorem scale_bits : IsReal (Ideal.ofBits FTy.f32 1040187392#32) := by
  exact ⟨8388608 * (2 ^ 26)⁻¹, by simp [Ideal.ofBits, Ideal.ieee]⟩

section Row

variable (s g : Fin 256 → EReal) (σ : EReal)

/-- The maximum of a row is reached. -/
theorem fold_reached : ∃ j, Finset.univ.fold max (Ideal.ofBits FTy.f32 4286578688#32) s = s j := by
  rw [low_bits]
  obtain ⟨j, hj, h⟩ := Finset.exists_max_image (Finset.univ : Finset (Fin 256)) s ⟨0, Finset.mem_univ _⟩
  refine ⟨j, le_antisymm ?_ ?_⟩
  · exact Finset.fold_max_le _ |>.2 ⟨bot_le, fun x hx => h x hx⟩
  · exact Finset.le_fold_max _ |>.2 (Or.inr ⟨j, hj, le_refl _⟩)

variable {s g σ} (hs : ∀ j, s j ≠ ⊤) (hσ : IsReal σ)
include hs hσ

theorem rowMax_real : IsReal (rowMax s σ) := by
  obtain ⟨j, hj⟩ := fold_reached s
  unfold rowMax
  rw [hj]
  rcases max_choice (s j) σ with h | h
  · rw [h]
    refine IsReal.of_ne (fun hb => ?_) (hs j)
    rw [hb] at h
    exact hσ.ne_bot (le_bot_iff.1 (h ▸ le_max_right (⊥ : EReal) σ))
  · rw [h]; exact hσ

theorem rowExp_real (j : Fin 256) : ∃ r : ℝ, 0 ≤ r ∧ rowExp s σ j = (r : EReal) := by
  obtain ⟨M, hM⟩ := rowMax_real hs hσ
  unfold rowExp
  rw [hM]
  rcases eq_or_ne (s j) ⊥ with h | h
  · exact ⟨0, le_refl _, by rw [h, EReal.bot_sub, Ideal.exp_bot]; rfl⟩
  · obtain ⟨x, hx⟩ := IsReal.of_ne h (hs j)
    exact ⟨Real.exp (x - M), (Real.exp_pos _).le, by rw [hx, ← EReal.coe_sub, Ideal.exp_coe]⟩

theorem rowExp_masked (j : Fin 256) (h : s j = ⊥) : rowExp s σ j = 0 := by
  obtain ⟨M, hM⟩ := rowMax_real hs hσ
  unfold rowExp
  rw [hM, h, EReal.bot_sub, Ideal.exp_bot]

theorem sinkExp_real : ∃ r : ℝ, 0 < r ∧ sinkExp s σ = (r : EReal) := by
  obtain ⟨M, hM⟩ := rowMax_real hs hσ
  obtain ⟨x, hx⟩ := hσ
  unfold sinkExp
  exact ⟨Real.exp (x - M), Real.exp_pos _, by rw [hM, hx, ← EReal.coe_sub, Ideal.exp_coe]⟩

/-- The gradient of a row's maximum is zero. -/
theorem maxGrad_zero (hg : ∀ j, IsReal (g j)) :
    -(denGrad s g σ * sinkExp s σ) + ∑ j, -scoreGrad s g σ j = 0 := by
  choose p hp0 hp using rowExp_real hs hσ
  obtain ⟨E, hE0, hE⟩ := sinkExp_real hs hσ
  choose r hr using hg
  have hD : rowDen s σ = ((∑ x, p x) + E : ℝ) := by
    unfold rowDen
    rw [hE, EReal.coe_add, coe_sum]
    exact congrArg (· + _) (Finset.sum_congr rfl fun x _ => hp x)
  have hpos : 0 < (∑ x, p x) + E := add_pos_of_nonneg_of_pos (Finset.sum_nonneg fun x _ => hp0 x) hE0
  generalize hDD : (∑ x, p x) + E = D at hD hpos
  have hT : denGrad s g σ = (-(∑ x, r x * (1 / (D * D)) * p x) : ℝ) := by
    unfold denGrad
    rw [EReal.coe_neg, coe_sum, zero_sub, hD, ← EReal.coe_mul]
    refine congrArg _ (Finset.sum_congr rfl fun x _ => ?_)
    rw [Ideal.div_coe (mul_pos hpos hpos).ne', one_mul, hr, hp, EReal.coe_mul, EReal.coe_mul]
  generalize hTT : -(∑ x, r x * (1 / (D * D)) * p x) = T at hT
  have hS : ∀ j, -scoreGrad s g σ j = ((-((r j * (1 / D) + T) * p j) : ℝ) : EReal) := fun j => by
    unfold scoreGrad
    rw [hT, hD, Ideal.div_coe hpos.ne', hr, hp, EReal.coe_neg, EReal.coe_mul, EReal.coe_add, EReal.coe_mul]
  rw [Finset.sum_congr rfl fun j _ => hS j, ← coe_sum, hT, hE, ← EReal.coe_mul, ← EReal.coe_neg, ← EReal.coe_add,
    ← EReal.coe_zero]
  refine congrArg _ ?_
  have e1 : ∑ j, -((r j * (1 / D) + T) * p j) = -((∑ j, r j * p j) * (1 / D)) - T * ∑ j, p j := by
    rw [Finset.sum_mul, Finset.mul_sum, ← Finset.sum_neg_distrib, ← Finset.sum_sub_distrib]
    exact Finset.sum_congr rfl fun j _ => by ring
  have e2 : T = -((∑ j, r j * p j) * (1 / (D * D))) := by
    rw [← hTT, Finset.sum_mul]
    exact congrArg _ (Finset.sum_congr rfl fun j _ => by ring)
  have e3 : ∑ j, p j = D - E := by rw [← hDD]; ring
  rw [e1, e3]
  have e4 : T * D = -((∑ j, r j * p j) * (1 / D)) := by
    rw [e2]; field_simp
  linear_combination -e4

end Row

/-- How many of a row's scores are its largest. -/
theorem count_ne_zero (b : Fin 256 → BitVec 1) (h : ∃ j, b j = 1#1) :
    (0 : EReal) + ∑ j, (((b j).toNat : ℝ) : EReal) ≠ 0 := by
  obtain ⟨j, hj⟩ := h
  rw [zero_add, ← coe_sum, ← EReal.coe_zero]
  refine fun e => ?_
  have e' := EReal.coe_eq_coe_iff.1 e
  have := (Finset.sum_eq_zero_iff_of_nonneg (fun i _ => Nat.cast_nonneg _)).1 e' j (Finset.mem_univ _)
  rw [hj] at this
  norm_num at this

theorem div_zero_left {x : EReal} (h : x ≠ 0) : Ideal.div 0 x = 0 := by
  rw [Ideal.div, if_neg h, zero_mul]

namespace Cell

variable {a b : Cell}

/-- Every number of a cell is real. -/
structure Real (c : Cell) : Prop where
  qry : ∀ i d, IsReal (c.qry i d)
  key : ∀ j d, IsReal (c.key j d)
  val : ∀ j d, IsReal (c.val j d)
  out : ∀ i d, IsReal (c.out i d)
  sink : ∀ i, IsReal (c.sink i)

theorem Real.score {c : Cell} (h : c.Real) (i : Fin 512) (j : Fin 256) : c.score i j ≠ ⊤ := by
  unfold Cell.score Scalar.select
  split
  · exact ((IsReal.sum fun x => (h.qry i x).mul (h.key j x)).mul scale_bits).ne_top
  · rw [low_bits]; exact bot_ne_top
theorem Real.soft {c : Cell} (h : c.Real) (i : Fin 512) (j : Fin 256) : IsReal (c.soft i j) :=
  IsReal.sum fun x => (h.out i x).mul (h.val j x)

/-- Two cells that differ at most in keys and values that no query of theirs sees. -/
structure Agree (a b : Cell) : Prop where
  mask : a.mask = b.mask
  qry : a.qry = b.qry
  out : a.out = b.out
  sink : a.sink = b.sink
  key : ∀ i j, a.mask i j = 1#1 → a.key j = b.key j
  val : ∀ i j, a.mask i j = 1#1 → a.val j = b.val j

variable (h : Agree a b)
include h

theorem Agree.score : a.score = b.score := by
  funext i j
  unfold Cell.score Scalar.select
  rw [← h.mask]
  split
  · next e => rw [h.qry, h.key i j e]
  · rfl

theorem Agree.pn : a.pn = b.pn := by
  funext i j; unfold Cell.pn; rw [h.score, h.sink]

theorem Agree.dv : a.dv = b.dv := by
  funext j d; unfold Cell.dv; rw [h.pn, h.out]

omit h in
theorem score_masked {c : Cell} {i : Fin 512} {j : Fin 256} (e : c.mask i j ≠ 1#1) : c.score i j = ⊥ := by
  unfold Cell.score Scalar.select
  exact (if_neg e).trans low_bits

variable (hr : a.Real)
include hr

theorem Agree.soft_exp (i : Fin 512) (j : Fin 256) (y : EReal) :
    a.soft i j * y * rowExp (a.score i) (a.sink i) j = b.soft i j * y * rowExp (a.score i) (a.sink i) j := by
  by_cases e : a.mask i j = 1#1
  · unfold Cell.soft; rw [h.out, h.val i j e]
  · rw [rowExp_masked (hr.score i) (hr.sink i) j (score_masked e), mul_zero, mul_zero]

theorem Agree.denGrad (i : Fin 512) :
    denGrad (a.score i) (a.soft i) (a.sink i) = denGrad (b.score i) (b.soft i) (b.sink i) := by
  unfold Swa.denGrad
  rw [← h.score, ← h.sink]
  exact congrArg (0 - ·) (Finset.sum_congr rfl fun x _ => h.soft_exp hr i x _)

theorem Agree.dsink : a.dsink = b.dsink := by
  funext i; unfold Cell.dsink; rw [h.denGrad hr, h.score, h.sink]

theorem Agree.ds : a.ds = b.ds := by
  funext i j
  unfold Cell.ds Scalar.select
  rw [← h.mask]
  split
  · next e =>
    unfold scoreGrad
    rw [h.denGrad hr, h.score, h.sink]
    unfold Cell.soft
    rw [h.out, h.val i j e]
  · rfl

theorem Agree.dk : a.dk = b.dk := by
  funext j d; unfold Cell.dk; rw [h.ds hr, h.qry]

theorem Agree.dq : a.dq = b.dq := by
  funext i d
  unfold Cell.dq
  rw [← h.ds hr]
  refine Finset.sum_congr rfl fun j _ => ?_
  by_cases e : a.mask i j = 1#1
  · rw [h.key i j e]
  · have : a.ds i j = 0 := by unfold Cell.ds Scalar.select; exact if_neg e
    rw [this, zero_mul, zero_mul]

end Cell

end Swa
-- ==== Proof.Sums.lean ====
/- Sums and maxima over the axes of the reference's arrays of scores, read at an index. -/
module

public import Idealize.ShloMosaic.Lib.Pipeline.ValueKit
public import Idealize.ShloMosaic.Lib.Pointwise

@[expose] public section

noncomputable section

open Idealize.ShloMosaic

namespace Swa

/-- Scores: one value for each block, key head, head of the group, query and key. -/
abbrev TScore : Shape := ⟨6, ![1, 16, 4, 4, 128, 256]⟩
/-- One value for each row of scores. -/
abbrev TRow : Shape := ⟨5, ![1, 16, 4, 4, 128]⟩
/-- The same with an axis of one element at the end. -/
abbrev TCol : Shape := ⟨6, ![1, 16, 4, 4, 128, 1]⟩

theorem drop_keys (H : TScore.ReducesTo [5] TRow) (n : Fin 16) (h g : Fin 4) (q : Fin 128) (i : TScore.Idx) :
    H.drop i = (ix5 0 n h g q : TRow.Idx) ↔ ∃ k : Fin 256, (ix6 0 n h g q k : TScore.Idx) = i := by
  constructor
  · intro e
    refine ⟨i 5, ?_⟩
    funext a; apply Fin.ext
    match a with
    | 0 => exact (congrArg Fin.val (congrFun e 0)).symm
    | 1 => exact (congrArg Fin.val (congrFun e 1)).symm
    | 2 => exact (congrArg Fin.val (congrFun e 2)).symm
    | 3 => exact (congrArg Fin.val (congrFun e 3)).symm
    | 4 => exact (congrArg Fin.val (congrFun e 4)).symm
    | 5 => rfl
  · rintro ⟨k, rfl⟩
    funext b; apply Fin.ext
    match b with
    | 0 => rfl
    | 1 => rfl
    | 2 => rfl
    | 3 => rfl
    | 4 => rfl

/-- A sum along the keys. -/
theorem sum_keys (H : TScore.ReducesTo [5] TRow) (x : TScore.Idx → EReal) (b : EReal) (n : Fin 16) (h g : Fin 4) (q : Fin 128) :
    Ideal.hostReduceAdd H x b (ix5 0 n h g q : TRow.Idx) = b + ∑ k : Fin 256, x (ix6 0 n h g q k) :=
  congrArg (b + ·) (Finset.sum_filter_eq_sum_of_fiber _ (fun k : Fin 256 => (ix6 0 n h g q k : TScore.Idx))
    (fun _ _ e => congrFun e 5) (drop_keys H n h g q) x)

/-- A maximum along the keys. -/
theorem max_keys (H : TScore.ReducesTo [5] TRow) (x : TScore.Idx → EReal) (b : EReal) (n : Fin 16) (h g : Fin 4) (q : Fin 128) :
    (Finset.univ.filter fun i => H.drop i = (ix5 0 n h g q : TRow.Idx)).fold max b x =
      (Finset.univ : Finset (Fin 256)).fold max b fun k => x (ix6 0 n h g q k) :=
  Finset.fold_filter_eq_fold_of_fiber max _ (fun k : Fin 256 => (ix6 0 n h g q k : TScore.Idx))
    (fun _ _ e => congrFun e 5) (drop_keys H n h g q) b x

/-- A sum along axes of one element each. -/
theorem sum_unit (H : TCol.ReducesTo [0, 5] ⟨4, ![16, 4, 4, 128]⟩) (x : TCol.Idx → EReal) (b : EReal) (n : Fin 16) (h g : Fin 4)
    (q : Fin 128) : Ideal.hostReduceAdd H x b (ix4 n h g q : (⟨4, ![16, 4, 4, 128]⟩ : Shape).Idx) = b + x (ix6 0 n h g q 0) := by
  refine (congrArg (b + ·) (Finset.sum_filter_eq_sum_of_fiber _ (fun k : Fin 1 => (ix6 0 n h g q 0 : TCol.Idx))
    (fun _ _ e => Subsingleton.elim _ _) (fun i => ?_) x)).trans (congrArg (b + ·) (by simp))
  constructor
  · intro e
    refine ⟨0, ?_⟩
    funext a; apply Fin.ext
    match a with
    | 0 => have : (i 0).val < 1 := (i 0).isLt; show 0 = (i 0).val; omega
    | 1 => exact (congrArg Fin.val (congrFun e 0)).symm
    | 2 => exact (congrArg Fin.val (congrFun e 1)).symm
    | 3 => exact (congrArg Fin.val (congrFun e 2)).symm
    | 4 => exact (congrArg Fin.val (congrFun e 3)).symm
    | 5 => have : (i 5).val < 1 := (i 5).isLt; show 0 = (i 5).val; omega
  · rintro ⟨k, rfl⟩
    funext b; apply Fin.ext
    match b with
    | 0 => rfl
    | 1 => rfl
    | 2 => rfl
    | 3 => rfl

/-- A sum over the blocks and the queries. -/
theorem sum_rows_blocks (H : TCol.ReducesTo [1, 4] ⟨4, ![1, 4, 4, 1]⟩) (x : TCol.Idx → EReal) (b : EReal) (h g : Fin 4) :
    Ideal.hostReduceAdd H x b (ix4 0 h g 0 : (⟨4, ![1, 4, 4, 1]⟩ : Shape).Idx) = b + ∑ n : Fin 16, ∑ q : Fin 128, x (ix6 0 n h g q 0) := by
  refine (congrArg (b + ·) ((Finset.sum_filter_eq_sum_of_fiber _ (fun k : Fin 16 × Fin 128 => (ix6 0 k.1 h g k.2 0 : TCol.Idx))
    (fun _ _ e => Prod.ext (congrFun e 1) (congrFun e 4)) (fun i => ?_) x).trans (Fintype.sum_prod_type _)))
  constructor
  · intro e
    refine ⟨(i 1, i 4), ?_⟩
    funext a; apply Fin.ext
    match a with
    | 0 => exact (congrArg Fin.val (congrFun e 0)).symm
    | 1 => rfl
    | 2 => exact (congrArg Fin.val (congrFun e 1)).symm
    | 3 => exact (congrArg Fin.val (congrFun e 2)).symm
    | 4 => rfl
    | 5 => exact (congrArg Fin.val (congrFun e 3)).symm
  · rintro ⟨k, rfl⟩
    funext b; apply Fin.ext
    match b with
    | 0 => rfl
    | 1 => rfl
    | 2 => rfl
    | 3 => rfl

/-- A sum over 512 rows is the sum over four heads of 128 positions. -/
theorem sum_rows (f : Fin 512 → EReal) : ∑ i, f i = ∑ g : Fin 4, ∑ q : Fin 128, f ⟨g.val * 128 + q.val, by omega⟩ := by
  rw [← Fintype.sum_prod_type']
  refine (Fintype.sum_equiv (finProdFinEquiv (m := 4) (n := 128)) _ f fun x => congrArg f (Fin.ext ?_)).symm
  show x.1.val * 128 + x.2.val = x.2.val + 128 * x.1.val
  omega

end Swa
-- ==== Proof.RefRead.lean ====
/- The reference's stages, read at an index: each is what the cell of its block and its heads says. -/
module

public import proofs.«01_k».proof.Proof.Gen.ReferenceIdeal.Run
public import Idealize.ShloMosaic.Lib.Pointwise
public import Idealize.ShloMosaic.Lib.Claim
public import proofs.«01_k».proof.Proof.Finite
public import proofs.«01_k».proof.Proof.Words
public import proofs.«01_k».proof.Proof.Sums

@[expose] public section

set_option maxRecDepth 16384

noncomputable section

open Idealize.ShloMosaic Idealize.ShloMosaic.TcCoe Idealize.SL.Sem

namespace Cert.ReferenceIdeal.Value

open Cert.ReferenceIdeal

/-- The cell of four heads in one block, off the arguments; the block before the first is zero. -/
def refCell (q : FVec Ideal S2048x1024 .bf16) (k v : FVec Ideal S2048x256 .bf16) (s : FVec Ideal S1x16 .f32)
    (o : FVec Ideal S2048x1024 .bf16) (n : Fin 16) (h : Fin 4) : Swa.Cell where
  mask i j := Swa.okBit n.val i j
  qry i d := q (ix2 ⟨n.val * 128 + i.val % 128, by omega⟩ ⟨(h.val * 4 + i.val / 128) * 64 + d.val, by omega⟩)
  key j d := if hj : n.val * 128 + j.val < 128 then 0
    else k (ix2 ⟨n.val * 128 + j.val - 128, by omega⟩ ⟨h.val * 64 + d.val, by omega⟩)
  val j d := if hj : n.val * 128 + j.val < 128 then 0
    else v (ix2 ⟨n.val * 128 + j.val - 128, by omega⟩ ⟨h.val * 64 + d.val, by omega⟩)
  out i d := o (ix2 ⟨n.val * 128 + i.val % 128, by omega⟩ ⟨(h.val * 4 + i.val / 128) * 64 + d.val, by omega⟩)
  sink i := s (ix2 0 ⟨h.val * 4 + i.val / 128, by omega⟩)

/-- A query row of a cell: a head of the group and a position. -/
abbrev row (g : Fin 4) (q : Fin 128) : Fin 512 := ⟨g.val * 128 + q.val, by omega⟩

variable (V0 : Valuation τ sig (Elt Ideal))

/-- The cell off a program's arguments. -/
abbrev cellOf (n : Fin 16) (h : Fin 4) : Swa.Cell :=
  refCell (V0 (Proc.devRef .tc main_arg0)) (V0 (Proc.devRef .tc main_arg1)) (V0 (Proc.devRef .tc main_arg2))
    (V0 (Proc.devRef .tc main_arg3)) (V0 (Proc.devRef .tc main_arg4)) n h

theorem at_ix2 {a b : Nat} (x : (⟨2, ![a, b]⟩ : Shape).Idx → EReal) {i i' : Fin a} {j j' : Fin b} (hi : i.val = i'.val)
    (hj : j.val = j'.val) : x (ix2 i j) = x (ix2 i' j') := by
  rw [Fin.ext hi, Fin.ext hj]

theorem at7 (n : Fin 16) (q : Fin 128) (h g : Fin 4) (d : Fin 64) :
    (res_main_v7 V0 (ix6 0 n q h g d) : EReal) = (cellOf V0 n h).qry (row g q) d := by
  pointwise [res_main_v7]
  exact at_ix2 _ (by simp only [row]; omega) (by simp only [row]; omega)
theorem at106 (n : Fin 16) (q : Fin 128) (h g : Fin 4) (d : Fin 64) :
    (res_main_v106 V0 (ix6 0 n h d g q) : EReal) = (cellOf V0 n h).out (row g q) d := by
  pointwise [res_main_v106]
  exact at_ix2 _ (by simp only [row]; omega) (by simp only [row]; omega)

/-- A key or value array with a block of zeros before it. -/
def padded (x : FVec Ideal S2048x256 .bf16) (p : Fin 2176) (e : Fin 256) : EReal :=
  if hj : p.val < 128 then 0 else x (ix2 ⟨p.val - 128, by omega⟩ e)
theorem padded_eq (x : FVec Ideal S2048x256 .bf16) {p p' : Fin 2176} {e e' : Fin 256} (hp : p.val = p'.val) (he : e.val = e'.val) :
    padded x p e = padded x p' e' := by
  rw [Fin.ext hp, Fin.ext he]
theorem at11 (n : Fin 17) (j : Fin 128) (h : Fin 4) (d : Fin 64) :
    (res_main_v11 V0 (ix5 0 n j h d) : EReal) =
      padded (V0 (Proc.devRef .tc main_arg1)) ⟨n.val * 128 + j.val, by omega⟩ ⟨h.val * 64 + d.val, by omega⟩ := by
  pointwise [res_main_v11]
  rfl
theorem at18 (n : Fin 17) (j : Fin 128) (h : Fin 4) (d : Fin 64) :
    (res_main_v18 V0 (ix5 0 n j h d) : EReal) =
      padded (V0 (Proc.devRef .tc main_arg2)) ⟨n.val * 128 + j.val, by omega⟩ ⟨h.val * 64 + d.val, by omega⟩ := by
  pointwise [res_main_v18]
  rfl
theorem key_eq (n : Fin 16) (j : Fin 256) (h : Fin 4) (d : Fin 64) : (cellOf V0 n h).key j d =
    padded (V0 (Proc.devRef .tc main_arg1)) ⟨n.val * 128 + j.val, by omega⟩ ⟨h.val * 64 + d.val, by omega⟩ := rfl
theorem val_eq (n : Fin 16) (j : Fin 256) (h : Fin 4) (d : Fin 64) : (cellOf V0 n h).val j d =
    padded (V0 (Proc.devRef .tc main_arg2)) ⟨n.val * 128 + j.val, by omega⟩ ⟨h.val * 64 + d.val, by omega⟩ := rfl
theorem at14 (n : Fin 16) (j : Fin 256) (h : Fin 4) (d : Fin 64) :
    (res_main_v14 V0 (ix5 0 n j h d) : EReal) = (cellOf V0 n h).key j d := by
  pointwise [res_main_v14]
  rw [key_eq]
  split
  · exact at11 V0 _ _ h d
  · exact (at11 V0 _ _ h d).trans (padded_eq _ (by simp only; omega) rfl)
theorem at21 (n : Fin 16) (j : Fin 256) (h : Fin 4) (d : Fin 64) :
    (res_main_v21 V0 (ix5 0 n j h d) : EReal) = (cellOf V0 n h).val j d := by
  pointwise [res_main_v21]
  rw [val_eq]
  split
  · exact at18 V0 _ _ h d
  · exact (at18 V0 _ _ h d).trans (padded_eq _ (by simp only; omega) rfl)
theorem at34 (q : Fin 128) (j : Fin 256) : (res_main_v34 V0 (ix2 q j) : BitVec 32) =
    IntOp.subi (IntOp.addi (BitVec.ofNat 32 q.val) 128#32) (BitVec.ofNat 32 j.val) := by
  pointwise [res_main_v34, res_main_v29]
theorem at57b (n : Fin 16) (q : Fin 128) (h g : Fin 4) (j : Fin 256) :
    (res_main_v57_1 V0 (ix6 0 n h g q j) : BitVec 1) = (cellOf V0 n h).mask (row g q) j := by
  pointwise [res_main_v57_1, res_main_v29]
  rw [at34, Swa.word_diff q j, Swa.word_start' n j, Swa.and_bits]
  have e : (row g q).val % 128 = q.val := by simp only [row]; omega
  unfold cellOf refCell Swa.okBit
  simp only [e]
theorem at58 (h g : Fin 4) (n : Fin 16) (q : Fin 128) :
    (res_main_v58 V0 (ix6 0 0 h g 0 0) : EReal) = (cellOf V0 n h).sink (row g q) := by
  pointwise [res_main_v58]
  exact at_ix2 _ rfl (by simp only [row]; omega)

theorem at57 (n : Fin 16) (q : Fin 128) (h g : Fin 4) (j : Fin 256) :
    (res_main_v57_0 V0 (ix6 0 n h g q j) : EReal) = (cellOf V0 n h).score (row g q) j := by
  pointwise [res_main_v57_0]
  rw [at57b]
  refine congrArg (fun x => Scalar.select _ (x * _) _) (Finset.sum_congr rfl fun x _ => ?_)
  rw [at14, at7, mul_comm]

end Cert.ReferenceIdeal.Value
-- ==== Proof.RefRow.lean ====
/- The reference's stages, read at an index: each is what the cell of its block and its heads says. -/
module

public import proofs.«01_k».proof.Proof.Gen.ReferenceIdeal.Run
public import Idealize.ShloMosaic.Lib.Pointwise
public import Idealize.ShloMosaic.Lib.Claim
public import proofs.«01_k».proof.Proof.Finite
public import proofs.«01_k».proof.Proof.RefRead
public import proofs.«01_k».proof.Proof.Sums

@[expose] public section

set_option maxRecDepth 16384

noncomputable section

open Idealize.ShloMosaic Idealize.ShloMosaic.TcCoe Idealize.SL.Sem

namespace Cert.ReferenceIdeal.Value

open Cert.ReferenceIdeal

variable (V0 : Valuation τ sig (Elt Ideal))

theorem at59 (n : Fin 16) (q : Fin 128) (h g : Fin 4) :
    (res_main_v59 V0 (ix5 0 n h g q) : EReal) =
      Finset.univ.fold max (Ideal.ofBits FTy.f32 4286578688#32) ((cellOf V0 n h).score (row g q)) := by
  unfold res_main_v59
  show Host.reduce (max : EReal → EReal → EReal) (res_main_v57_0 V0) _ _ _ _ = _
  rw [Host.reduce_eq_fold]
  refine (Swa.max_keys _ _ _ n h g q).trans ?_
  exact congrArg (fun s => Finset.univ.fold max (Ideal.ofBits FTy.f32 4286578688#32) s) (funext fun k => at57 V0 n q h g k)
theorem at65 (n : Fin 16) (q : Fin 128) (h g : Fin 4) :
    (res_main_v65 V0 (ix6 0 n h g q 0) : EReal) = res_main_v59 V0 (ix5 0 n h g q) := by
  pointwise [res_main_v65]
theorem at63 (n : Fin 16) (q : Fin 128) (h g : Fin 4) (j : Fin 256) :
    (res_main_v63 V0 (ix6 0 n h g q j) : EReal) = (((Ideal.cmp .oeq ((cellOf V0 n h).score (row g q) j)
      (Finset.univ.fold max (Ideal.ofBits FTy.f32 4286578688#32) ((cellOf V0 n h).score (row g q)))).toNat : ℝ) : EReal) := by
  pointwise [res_main_v63]
  rw [at57, at59]
  rfl

theorem neg_sum_congr (f g : Fin 256 → EReal) (h : ∀ k, f k = g k) : -∑ k, f k = -∑ k, g k := by rw [funext h]
theorem mul_at_zero {S : Shape} (x y : FVec Ideal S .f32) (i : S.Idx) (hx : x i = (0 : EReal)) : (mulf x y i : EReal) = (0 : EReal) := by
  show (x i : EReal) * (y i : EReal) = 0
  exact (congrArg (fun a : EReal => a * (y i : EReal)) hx).trans (zero_mul _)
/-- What a zero gradient of the maximum adds to a score's gradient. -/
theorem extra_zero (s f : Fin 256 → EReal) (P a : EReal) (j : Fin 256) (hP : P = 0)
    (hf : ∀ k, f k = (((Ideal.cmp .oeq (s k) (Finset.univ.fold max (Ideal.ofBits FTy.f32 4286578688#32) s)).toNat : ℝ) : EReal)) :
    a + Ideal.div (0 + P) (0 + ∑ k, f k) * f j = a := by
  obtain ⟨k, hk⟩ := Swa.fold_reached s
  rw [hP, add_zero, Swa.div_zero_left, zero_mul, add_zero]
  rw [funext hf]
  refine Swa.count_ne_zero _ ⟨k, ?_⟩
  rw [hk]
  simp [Ideal.cmp]
theorem max_at {S : Shape} (x y : FVec Ideal S .f32) (i : S.Idx) (a b : EReal) (hx : x i = a) (hy : y i = b) :
    (maximumf x y i : EReal) = max a b := by
  subst hx hy; rfl
theorem spread58 (x : FVec Ideal S1x1x4x4x1x1 .f32) (n : Fin 16) (q : Fin 128) (h g : Fin 4) :
    (broadcastInDim S1x16x4x4x128x1 ![0, 1, 2, 3, 4, 5] Gen.bcast_S1x1x4x4x1x1_S1x16x4x4x128x1_0_1_2_3_4_5 x (ix6 0 n h g q 0) : EReal) = x (ix6 0 0 h g 0 0) := by
  pointwise
theorem at67 (n : Fin 16) (q : Fin 128) (h g : Fin 4) :
    (res_main_v67 V0 (ix6 0 n h g q 0) : EReal) = Swa.rowMax ((cellOf V0 n h).score (row g q)) ((cellOf V0 n h).sink (row g q)) := by
  unfold res_main_v67 Swa.rowMax
  exact max_at (S := S1x16x4x4x128x1) _ _ _ _ _ ((at65 V0 n q h g).trans (at59 V0 n q h g)) ((spread58 _ n q h g).trans (at58 V0 h g n q))
theorem at88 (n : Fin 16) (q : Fin 128) (h g : Fin 4) (j : Fin 256) :
    (res_main_v88 V0 (ix6 0 n h g q j) : EReal) = Swa.rowExp ((cellOf V0 n h).score (row g q)) ((cellOf V0 n h).sink (row g q)) j := by
  pointwise [res_main_v88]
  rw [at57, at67]
  rfl
theorem at93 (n : Fin 16) (q : Fin 128) (h g : Fin 4) :
    (res_main_v93 V0 (ix6 0 n h g q 0) : EReal) = Swa.sinkExp ((cellOf V0 n h).score (row g q)) ((cellOf V0 n h).sink (row g q)) := by
  pointwise [res_main_v93]
  rw [at58 V0 h g n q, at67]
  rfl
theorem at94 (n : Fin 16) (q : Fin 128) (h g : Fin 4) :
    (res_main_v94 V0 (ix6 0 n h g q 0) : EReal) = Swa.rowDen ((cellOf V0 n h).score (row g q)) ((cellOf V0 n h).sink (row g q)) := by
  pointwise [res_main_v94]
  rw [at93, Swa.sum_keys, zero_add]
  exact congrArg (· + _) (Finset.sum_congr rfl fun k _ => at88 V0 n q h g k)
theorem at96 (n : Fin 16) (q : Fin 128) (h g : Fin 4) (j : Fin 256) :
    (res_main_v96 V0 (ix6 0 n h g q j) : EReal) = (cellOf V0 n h).pn (row g q) j := by
  pointwise [res_main_v96]
  rw [at94, at88]
  rfl
theorem at107 (n : Fin 16) (q : Fin 128) (h g : Fin 4) (j : Fin 256) :
    (res_main_v107 V0 (ix6 0 n h g q j) : EReal) = (cellOf V0 n h).soft (row g q) j := by
  pointwise [res_main_v107]
  simp only [at106, at21]
  rfl
theorem at115 (n : Fin 16) (q : Fin 128) (h g : Fin 4) :
    (res_main_v115 V0 (ix6 0 n h g q 0) : EReal) = Swa.denGrad ((cellOf V0 n h).score (row g q)) ((cellOf V0 n h).soft (row g q)) ((cellOf V0 n h).sink (row g q)) := by
  pointwise [res_main_v115]
  rw [Swa.sum_keys, zero_add]
  unfold Swa.denGrad
  rw [zero_sub]
  refine neg_sum_congr _ _ fun k => ?_
  pointwise
  rw [at107, at94, at88]
theorem at118 (n : Fin 16) (q : Fin 128) (h g : Fin 4) :
    (res_main_v118 V0 (ix6 0 n h g q 0) : EReal) = (cellOf V0 n h).dsink (row g q) := by
  pointwise [res_main_v118]
  rw [at115, at93]
  rfl
theorem at126 (n : Fin 16) (q : Fin 128) (h g : Fin 4) (j : Fin 256) :
    (res_main_v126 V0 (ix6 0 n h g q j) : EReal) = Swa.scoreGrad ((cellOf V0 n h).score (row g q)) ((cellOf V0 n h).soft (row g q)) ((cellOf V0 n h).sink (row g q)) j := by
  pointwise [res_main_v126]
  rw [at107, at94, at88, Swa.sum_unit, at115, zero_add]
  rfl

/-- The gradient of a row's maximum. -/
theorem at130 (n : Fin 16) (q : Fin 128) (h g : Fin 4) (hr : (cellOf V0 n h).Real) :
    (res_main_v130 V0 (ix6 0 n h g q 0) : EReal) = (0 : EReal) := by
  pointwise [res_main_v130]
  rw [at118, Swa.sum_keys, zero_add]
  refine Eq.trans ?_ (Swa.maxGrad_zero (hr.score (row g q)) (hr.sink (row g q)) (hr.soft (row g q)))
  refine congrArg (_ + ·) (Finset.sum_congr rfl fun k _ => ?_)
  pointwise
  rw [at126]
theorem at146 (n : Fin 16) (q : Fin 128) (h g : Fin 4) (j : Fin 256) (hr : (cellOf V0 n h).Real) :
    (res_main_v146 V0 (ix6 0 n h j q g) : EReal) = (cellOf V0 n h).ds (row g q) j := by
  pointwise [res_main_v146]
  rw [at57b, at126, Swa.sum_unit, Swa.sum_keys]
  exact congrArg (fun x => Scalar.select _ (x * _) _) (extra_zero ((cellOf V0 n h).score (row g q)) _ _ _ j
    (mul_at_zero _ _ _ (at130 V0 n q h g hr)) fun k => at63 V0 n q h g k)
theorem dv_sums (c : Swa.Cell) (j : Fin 256) (d : Fin 64) :
    ∑ x : Fin 4, ∑ y : Fin 128, c.out (row x y) d * c.pn (row x y) j = c.dv j d := by
  refine Eq.trans ?_ (Swa.sum_rows _).symm
  exact Finset.sum_congr rfl fun x _ => Finset.sum_congr rfl fun y _ => mul_comm _ _
theorem dk_sums (c : Swa.Cell) (j : Fin 256) (d : Fin 64) :
    ∑ x : Fin 128, ∑ y : Fin 4, c.ds (row y x) j * c.qry (row y x) d = c.dk j d := by
  rw [Finset.sum_comm]
  exact (Swa.sum_rows fun i => c.ds i j * c.qry i d).symm
theorem at109 (n : Fin 16) (j : Fin 256) (h : Fin 4) (d : Fin 64) :
    (res_main_v109 V0 (ix5 0 n j h d) : EReal) = (cellOf V0 n h).dv j d := by
  pointwise [res_main_v109]
  simp only [at106, at96]
  exact dv_sums _ _ _
theorem at150 (n : Fin 16) (j : Fin 256) (h : Fin 4) (d : Fin 64) (hr : (cellOf V0 n h).Real) :
    (res_main_v150 V0 (ix5 0 n j h d) : EReal) = (cellOf V0 n h).dk j d := by
  pointwise [res_main_v150]
  simp only [at146 V0 n _ h _ j hr, at7]
  exact dk_sums _ _ _

end Cert.ReferenceIdeal.Value
-- ==== Proof.RefOut.lean ====
/- The reference's results, read at an index. -/
module

public import proofs.«01_k».proof.Proof.Gen.ReferenceIdeal.Run
public import Idealize.ShloMosaic.Lib.Pointwise
public import Idealize.ShloMosaic.Lib.Claim
public import proofs.«01_k».proof.Proof.Finite
public import proofs.«01_k».proof.Proof.RefRow
public import proofs.«01_k».proof.Proof.Sums

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

variable (V0 : Valuation τ sig (Elt Ideal))

theorem sum_mul_congr (f f' g g' : Fin 256 → EReal) (hf : ∀ k, f k = f' k) (hg : ∀ k, g k = g' k) :
    ∑ k, f k * g k = ∑ k, f' k * g' k := by rw [funext hf, funext hg]
/-- The gradient of the queries, off the gradient of the scores and the keys. -/
theorem at169 (x : FVec Ideal S1x16x4x256x128x4 .f32) (y : FVec Ideal S1x16x256x4x64 .f32) (C : Fin 16 → Fin 4 → Swa.Cell)
    (hx : ∀ n q h g j, x (ix6 0 n h j q g) = (C n h).ds (row g q) j) (hy : ∀ n j h d, y (ix5 0 n j h d) = (C n h).key j d)
    (s : Fin 2048) (e : Fin 1024) :
    (truncf .bf16 (shapeCast S2048x1024 (shapeCast S1x2048x1024 (transpose S1x16x128x4x4x64 [0, 1, 3, 2, 4, 5]
      (Host.dotGeneral dot_S1x16x4x256x128x4_S1x16x256x4x64_S1x16x4x128x4x64_3_2_45_4_012_013 none x y)
      transposes_S1x16x4x128x4x64_S1x16x128x4x4x64_0_1_3_2_4_5) shapeCasts_S1x16x128x4x4x64_S1x2048x1024)
      shapeCasts_S1x2048x1024_S2048x1024) bitsLt_bf16_f32 (ix2 s e) : EReal) =
      (C ⟨s.val / 128, by omega⟩ ⟨e.val / 256, by omega⟩).dq (row ⟨e.val / 64 % 4, by omega⟩ ⟨s.val % 128, by omega⟩)
        ⟨e.val % 64, by omega⟩ := by
  pointwise
  exact sum_mul_congr _ _ _ _ (fun k => hx _ _ _ _ k) fun k => hy _ k _ _
theorem cut_front (x : FVec Ideal S1x2176x256 .f32) (s : Fin 2048) (e : Fin 256) :
    (truncf .bf16 (shapeCast S2048x256 (extractStridedSlice S1x2048x256 ![0, 128, 0] x slices_S1x2176x256_S1x2048x256_0_128_0)
      shapeCasts_S1x2048x256_S2048x256) bitsLt_bf16_f32 (ix2 s e) : EReal) = x (ix3 0 ⟨128 + s.val, by omega⟩ e) := by
  pointwise
theorem two_halves (f : Fin 16 → Fin 256 → Fin 4 → Fin 64 → EReal) (s : Fin 2048) (e : Fin 256) (N : Fin 2176) (hN : N.val = 128 + s.val) :
    ((if h : (1 ≤ N.val / 128 ∧ N.val / 128 - 1 < 16) ∧ N.val % 128 < 128 ∧ e.val / 64 < 4 ∧ e.val % 64 < 64 then
        f ⟨N.val / 128 - 1, by omega⟩ ⟨128 + N.val % 128, by omega⟩ ⟨e.val / 64, by omega⟩ ⟨e.val % 64, by omega⟩ else 0) +
      if h : N.val / 128 < 16 ∧ N.val % 128 < 128 ∧ e.val / 64 < 4 ∧ e.val % 64 < 64 then
        f ⟨N.val / 128, by omega⟩ ⟨N.val % 128, by omega⟩ ⟨e.val / 64, by omega⟩ ⟨e.val % 64, by omega⟩ else 0) =
    f ⟨s.val / 128, by omega⟩ ⟨128 + s.val % 128, by omega⟩ ⟨e.val / 64, by omega⟩ ⟨e.val % 64, by omega⟩ +
      if h : s.val < 1920 then f ⟨(128 + s.val) / 128, by omega⟩ ⟨(128 + s.val) % 128, by omega⟩ ⟨e.val / 64, by omega⟩ ⟨e.val % 64, by omega⟩
      else 0 := by
  have e0 : s.val / 128 = N.val / 128 - 1 := by omega
  have e1 : s.val % 128 = N.val % 128 := by omega
  rw [dif_pos (by omega)]
  simp only [e0, e1, ← hN]
  refine congrArg (_ + ·) ?_
  by_cases h : s.val < 1920
  · rw [dif_pos (by omega), dif_pos h]
  · rw [dif_neg (by omega), dif_neg h]
theorem at156 (N : Fin 2176) (s : Fin 2048) (e : Fin 256) (hN : N.val = 128 + s.val) : (res_main_v156 V0 (ix3 0 N e) : EReal) =
    (cellOf V0 ⟨s.val / 128, by omega⟩ ⟨e.val / 64, by omega⟩).dv ⟨128 + s.val % 128, by omega⟩ ⟨e.val % 64, by omega⟩ +
      if h : s.val < 1920 then (cellOf V0 ⟨(128 + s.val) / 128, by omega⟩ ⟨e.val / 64, by omega⟩).dv ⟨(128 + s.val) % 128, by omega⟩
        ⟨e.val % 64, by omega⟩ else 0 := by
  pointwise [res_main_v156]
  simp only [at109]
  exact two_halves (fun n j h d => (cellOf V0 n h).dv j d) s e N hN
theorem at164 (hr : ∀ n h, (cellOf V0 n h).Real) (N : Fin 2176) (s : Fin 2048) (e : Fin 256) (hN : N.val = 128 + s.val) :
    (res_main_v164 V0 (ix3 0 N e) : EReal) =
    (cellOf V0 ⟨s.val / 128, by omega⟩ ⟨e.val / 64, by omega⟩).dk ⟨128 + s.val % 128, by omega⟩ ⟨e.val % 64, by omega⟩ +
      if h : s.val < 1920 then (cellOf V0 ⟨(128 + s.val) / 128, by omega⟩ ⟨e.val / 64, by omega⟩).dk ⟨(128 + s.val) % 128, by omega⟩
        ⟨e.val % 64, by omega⟩ else 0 := by
  pointwise [res_main_v164]
  simp only [at150 V0 _ _ _ _ (hr _ _)]
  exact two_halves (fun n j h d => (cellOf V0 n h).dk j d) s e N hN
/-- The gradient of the sinks, off what each row gives. -/
theorem at174 (x y : FVec Ideal S1x16x4x4x128x1 .f32) (e : Fin 16) (hy : ∀ n q h g, y (ix6 0 n h g q 0) = (0 : EReal)) :
    (broadcastInDim S1x16 ![1] bcast_S16_S1x16_1 (shapeCast S16 (addf (shapeCast S1x1x4x4x1x1
      (Host.reduceAdd x (constant S_ .f32 0x00000000#32) reducesTo_S1x16x4x4x128x1_S1x4x4x1_d1_4 h_S_) shapeCasts_S1x4x4x1_S1x1x4x4x1x1)
      (shapeCast S1x1x4x4x1x1 (Host.reduceAdd y (constant S_ .f32 0x00000000#32) reducesTo_S1x16x4x4x128x1_S1x4x4x1_d1_4 h_S_)
      shapeCasts_S1x4x4x1_S1x1x4x4x1x1)) shapeCasts_S1x1x4x4x1x1_S16) (ix2 0 e) : EReal) =
    ∑ n : Fin 16, ∑ q : Fin 128, (x (ix6 0 n ⟨e.val / 4, by omega⟩ ⟨e.val % 4, by omega⟩ q 0) : EReal) := by
  pointwise
  rw [Swa.sum_rows_blocks, Swa.sum_rows_blocks]
  simp only [hy, Finset.sum_const_zero, zero_add, add_zero]

end Cert.ReferenceIdeal.Value
-- ==== Proof.Algebraic.lean ====
/- The attention's backward kernel and its reference leave the same four gradients, of finite arguments. -/
module

public import proofs.«01_k».proof.Defs
public import proofs.«01_k».proof.Proof.Final
public import proofs.«01_k».proof.Proof.RefOut
public import proofs.«01_k».proof.Proof.Gen.KernelIdeal.Frame

@[expose] public section

set_option maxRecDepth 16384

noncomputable section

open Idealize.ShloMosaic Idealize.ShloMosaic.TcCoe Idealize.SL.Sem

namespace Cert.Proof

open Cert.KernelIdeal.Value Cert.ReferenceIdeal.Value Idealize.ShloMosaic.StableHlo

theorem pre_facts : Cert.Pre_finite.Facts := ⟨by decide, by decide, by decide⟩

theorem real_of_bits (x l h : EReal) (hl : l = ⊥) (hh : h = ⊤)
    (e : IntOp.andi (Ideal.cmp .ogt x l) (Ideal.cmp .olt x h) = 1#1) : Swa.IsReal x := by
  refine Swa.IsReal.of_ne (fun hx => ?_) (fun hx => ?_)
  · rw [hx, hl] at e; simp [Ideal.cmp, IntOp.andi] at e
  · rw [hx, hh] at e; simp [Ideal.cmp, IntOp.andi] at e
theorem low16 : Ideal.ofBits FTy.bf16 0xFF80#16 = ⊥ := by simp [Ideal.ofBits, Ideal.ieee]
theorem high16 : Ideal.ofBits FTy.bf16 0x7F80#16 = ⊤ := by simp [Ideal.ofBits, Ideal.ieee]
theorem low32 : Ideal.ofBits FTy.f32 0xFF800000#32 = ⊥ := by simp [Ideal.ofBits, Ideal.ieee]
theorem high32 : Ideal.ofBits FTy.f32 0x7F800000#32 = ⊤ := by simp [Ideal.ofBits, Ideal.ieee]

section Cells

variable (q : FVec Ideal Cert.KernelIdeal.S2048x1024 .bf16) (k v : FVec Ideal Cert.KernelIdeal.S2048x256 .bf16)
  (s : FVec Ideal Cert.KernelIdeal.S1x16 .f32) (o : FVec Ideal Cert.KernelIdeal.S2048x1024 .bf16)

theorem refCell_real (hq : ∀ i, Swa.IsReal (q i)) (hk : ∀ i, Swa.IsReal (k i)) (hv : ∀ i, Swa.IsReal (v i))
    (hs : ∀ i, Swa.IsReal (s i)) (ho : ∀ i, Swa.IsReal (o i)) (n : Fin 16) (h : Fin 4) : (refCell q k v s o n h).Real where
  qry _ _ := hq _
  key j d := by
    unfold refCell
    simp only
    split
    · exact ⟨0, EReal.coe_zero.symm⟩
    · exact hk _
  val j d := by
    unfold refCell
    simp only
    split
    · exact ⟨0, EReal.coe_zero.symm⟩
    · exact hv _
  out _ _ := ho _
  sink _ := hs _

theorem seen_start {n : Nat} {i : Fin 512} {j : Fin 256} (e : Swa.okBit n i j = 1#1) : 128 ≤ n * 128 + j.val := by
  unfold Swa.okBit at e
  split at e
  · next h => exact h.2.2
  · exact absurd e (by decide)

theorem cells_agree (n : Fin 16) (h : Fin 4) : Swa.Cell.Agree (refCell q k v s o n h) (argCell q k v s o n h) where
  mask := rfl
  qry := rfl
  out := rfl
  sink := rfl
  key i j e := by
    have hj := seen_start e
    funext d
    unfold refCell argCell
    simp only
    rw [dif_neg (by omega)]
    split
    · exact at_ix2 k (by simp only; omega) rfl
    · exact at_ix2 k (by simp only; omega) rfl
  val i j e := by
    have hj := seen_start e
    funext d
    unfold refCell argCell
    simp only
    rw [dif_neg (by omega)]
    split
    · exact at_ix2 v (by simp only; omega) rfl
    · exact at_ix2 v (by simp only; omega) rfl

end Cells

section Results

variable (m : (ℓ : Loc Cert.KernelIdeal.nD Cert.KernelIdeal.τ Cert.KernelIdeal.sig) → Buf (Elt Ideal) ℓ)
  (c : Dev Cert.KernelIdeal.nD) (V0 : Valuation Cert.ReferenceIdeal.τ Cert.ReferenceIdeal.sig (Elt Ideal))
  (hV : ∀ n h, cellOf V0 n h = refCell (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) n h)
  (hr : ∀ n h, (cellOf V0 n h).Real)

include hV in
theorem agree (n : Fin 16) (h : Fin 4) : Swa.Cell.Agree (cellOf V0 n h) (memCell m c n h) := by
  rw [hV]
  exact cells_agree _ _ _ _ _ n h

include hV hr in
theorem res_q (y : FVec Ideal Cert.ReferenceIdeal.S2048x1024 .bf16)
    (hy : ∀ (s : Fin 2048) (e : Fin 1024), (y (ix2 s e) : EReal) = (cellOf V0 ⟨s.val / 128, by omega⟩ ⟨e.val / 256, by omega⟩).dq
      (row ⟨e.val / 64 % 4, by omega⟩ ⟨s.val % 128, by omega⟩) ⟨e.val % 64, by omega⟩) :
    y = host29 (fun x => fin7 m c (x 0) (x 1) (x 2)) := by
  funext i
  rw [eq_ix2 i]
  refine (hy (i 0) (i 1)).trans (Eq.trans ?_ (host29_at _ (i 0) (i 1)).symm)
  have key : ∀ (s : Fin 2048) (e : Fin 1024), (cellOf V0 ⟨s.val / 128, by omega⟩ ⟨e.val / 256, by omega⟩).dq
      (row ⟨e.val / 64 % 4, by omega⟩ ⟨s.val % 128, by omega⟩) ⟨e.val % 64, by omega⟩ =
      fin7 m c ⟨e.val / 64, by omega⟩ s ⟨e.val % 64, by omega⟩ := fun s e => by
    rw [(agree m c V0 hV _ _).dq (hr _ _)]
    unfold fin7
    have e1 : e.val / 256 = e.val / 64 / 4 := by omega
    simp only [e1, row]
  exact key (i 0) (i 1)

include hV in
theorem res_fold (y : FVec Ideal Cert.ReferenceIdeal.S2048x256 .bf16) (f g : Swa.Cell → Fin 256 → Fin 64 → EReal)
    (hfg : ∀ n h, f (cellOf V0 n h) = g (memCell m c n h))
    (hy : ∀ (s : Fin 2048) (e : Fin 256), (y (ix2 s e) : EReal) =
      f (cellOf V0 ⟨s.val / 128, by omega⟩ ⟨e.val / 64, by omega⟩) ⟨128 + s.val % 128, by omega⟩ ⟨e.val % 64, by omega⟩ +
      if h : s.val < 1920 then f (cellOf V0 ⟨(128 + s.val) / 128, by omega⟩ ⟨e.val / 64, by omega⟩) ⟨(128 + s.val) % 128, by omega⟩
        ⟨e.val % 64, by omega⟩ else 0) :
    y = hostFold (fun x => g (memCell m c ⟨(x 1).val / 128, Nat.div_lt_of_lt_mul (x 1).isLt⟩ (x 0))
          ⟨128 + (x 1).val % 128, Nat.add_lt_add_left (Nat.mod_lt _ (by decide)) 128⟩ (x 2))
        (fun x => g (memCell m c ⟨(x 1).val / 128, Nat.div_lt_of_lt_mul (x 1).isLt⟩ (x 0))
          ⟨(x 1).val % 128, (Nat.mod_lt _ (by decide)).trans (by decide)⟩ (x 2)) := by
  funext i
  rw [eq_ix2 i]
  refine (hy (i 0) (i 1)).trans (Eq.trans ?_ (hostFold_at _ _ (i 0) (i 1)).symm)
  simp only [hfg]
  rfl

include hV hr in
theorem res_sink (y : FVec Ideal Cert.ReferenceIdeal.S1x16 .f32)
    (hy : ∀ (e : Fin 16), (y (ix2 0 e) : EReal) = ∑ n : Fin 16, ∑ q : Fin 128, (cellOf V0 n ⟨e.val / 4, by omega⟩).dsink
      (row ⟨e.val % 4, by omega⟩ q)) :
    y = host36 (fun x => fin12 m c (x 0) (x 1)) := by
  funext i
  have h0 : i = ix2 0 (i 1) := by
    rw [eq_ix2 i]
    exact congrArg (fun a => ix2 a (i 1)) (Subsingleton.elim (α := Fin 1) _ _)
  rw [h0]
  refine (hy (i 1)).trans (Eq.trans ?_ (host36_at _ (i 1)).symm)
  have key : ∀ e : Fin 16, ∑ n : Fin 16, ∑ q : Fin 128, (cellOf V0 n ⟨e.val / 4, by omega⟩).dsink (row ⟨e.val % 4, by omega⟩ q) =
      ∑ q : Fin 128, fin12 m c ⟨e.val / 4, by omega⟩ ⟨e.val % 4 * 128 + q.val, by omega⟩ := fun e => by
    rw [Finset.sum_comm]
    unfold fin12
    refine Finset.sum_congr rfl fun q _ => Finset.sum_congr rfl fun n _ => ?_
    rw [(agree m c V0 hV _ _).dsink (hr _ _)]
  exact key (i 1)

end Results

/-- The kernel and the reference end with the same gradients. -/
theorem gradients : Cert.algebraic_KernelIdeal_ReferenceIdeal_pre_finite (hKernelIdeal := Cert.KernelIdeal.Gen.facts)
    (hReferenceIdeal := Cert.ReferenceIdeal.Gen.facts) (hPre_finite := pre_facts) := by
  intro m g m' g' hp hm
  refine ⟨fun c => host29 (fun x => fin7 m c (x 0) (x 1) (x 2)),
    fun c => hostFold (fun x => fin9 m c (x 0) (x 1) (x 2)) (fun x => fin8 m c (x 0) (x 1) (x 2)),
    fun c => hostFold (fun x => fin11 m c (x 0) (x 1) (x 2)) (fun x => fin10 m c (x 0) (x 1) (x 2)),
    fun c => host36 (fun x => fin12 m c (x 0) (x 1)), ?_, ?_⟩
  · refine (θ_run Cert.KernelIdeal.defs _ _).mono (fun r h c => ?_)
      (θ_run_and (Cert.KernelIdeal.Gen.run_main m g) (Cert.KernelIdeal.Gen.unchanged m g))
    exact ⟨((h.1 c).2 Cert.KernelIdeal.main_v29 (by decide)).trans (tail29 m c),
      ((h.1 c).2 Cert.KernelIdeal.main_v31 (by decide)).trans (tail31 m c),
      ((h.1 c).2 Cert.KernelIdeal.main_v33 (by decide)).trans (tail33 m c),
      ((h.1 c).2 Cert.KernelIdeal.main_v36 (by decide)).trans (tail36 m c), h.2 c⟩
  · refine (θ_run Cert.ReferenceIdeal.defs _ _).mono (fun r h c => ?_) (Cert.ReferenceIdeal.Value.run m' g')
    obtain ⟨hq, hk, hv, hs, ho⟩ := hp c
    obtain ⟨e0, e1, e2, e3, e4⟩ := hm c
    have hV : ∀ n h, cellOf (launchContents m' c) n h = refCell
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) n h := fun n h => by
      rw [← e0, ← e1, ← e2, ← e3, ← e4]
    have hr : ∀ n h, (cellOf (launchContents m' c) n h).Real := fun n h => by
      rw [hV]
      exact refCell_real _ _ _ _ _ (fun i => real_of_bits _ _ _ low16 high16 (congrFun hq i))
        (fun i => real_of_bits _ _ _ low16 high16 (congrFun hk i)) (fun i => real_of_bits _ _ _ low16 high16 (congrFun hv i))
        (fun i => real_of_bits _ _ _ low32 high32 (congrFun hs i)) (fun i => real_of_bits _ _ _ low16 high16 (congrFun ho i)) n h
    obtain ⟨h0, h1, h2, h3, h4⟩ := h c
    refine ⟨h0.trans ?_, h1.trans ?_, h2.trans ?_, h3.trans ?_, h4⟩
    · exact res_q m c _ hV hr _ (at169 _ _ (cellOf (launchContents m' c)) (fun n q h g j => at146 _ n q h g j (hr n h))
        fun n j h d => at14 _ n j h d)
    · exact res_fold m c _ hV _ Swa.Cell.dk Swa.Cell.dk (fun n h => (agree m c _ hV n h).dk (hr n h))
        fun s e => (cut_front _ s e).trans (at164 _ hr _ s e rfl)
    · exact res_fold m c _ hV _ Swa.Cell.dv Swa.Cell.dv (fun n h => (agree m c _ hV n h).dv)
        fun s e => (cut_front _ s e).trans (at156 _ _ s e rfl)
    · refine res_sink m c _ hV hr _ fun e => (at174 _ _ e fun n q h g => mul_at_zero _ _ _ (at130 _ n q h g (hr n h))).trans ?_
      exact Finset.sum_congr rfl fun n _ => Finset.sum_congr rfl fun q _ => at118 _ n q _ _

end Cert.Proof
-- ==== Proof.Products.lean ====
/- The three products of two matrices that the step takes, as sums: of two factors, and of each factor with the gradient. -/
module

public import Idealize.ShloMosaic.Lib.Claim
public import Idealize.ShloMosaic.Lib.Pipeline.ValueKit

@[expose] public section

noncomputable section

open Idealize.ShloMosaic

namespace Cert.Product

/-- A matrix of `m` rows and `n` columns. -/
abbrev Mat (m n : ℕ) : Type := (⟨2, ![m, n]⟩ : Shape).Idx → EReal

/-- The product of `a` and `w`. -/
abbrev mul (m k n : ℕ) (a : Mat m k) (w : Mat k n) : Mat m n := fun i => ∑ x : Fin k, a (ix2 (i 0) x) * w (ix2 x (i 1))

/-- The product of `g` and the transpose of `w`: the gradient of the product's first factor. -/
abbrev left (m k n : ℕ) (g : Mat m n) (w : Mat k n) : Mat m k := fun i => ∑ x : Fin n, g (ix2 (i 0) x) * w (ix2 (i 1) x)

/-- The same product added to what the calls before it left. -/
abbrev plus (m k n : ℕ) (g : Mat m n) (w : Mat k n) (before : Mat m k) : Mat m k := fun i => left m k n g w i + before i

/-- The product of the transpose of `a` and `g`: the gradient of the product's second factor. -/
abbrev right (m k n : ℕ) (a : Mat m k) (g : Mat m n) : Mat k n := fun i => ∑ x : Fin m, a (ix2 x (i 0)) * g (ix2 x (i 1))

end Cert.Product

end
-- ==== Proof.Launched.lean ====
/- A program that is a chain of pipelined calls leaves every buffer that outlives it at what the chain's last boundary says. -/
module

public import Idealize.ShloMosaic.Lib.Claim
public import Idealize.ShloMosaic.Lib.Pipeline.Kit
public import Idealize.ShloMosaic.Lib.Pipeline.Regions
public import Idealize.ShloMosaic.Lib.Pipeline.FrameBody
public import Idealize.ShloMosaic.Lib.Pipeline.FrameSuffix
public import Idealize.ShloMosaic.Lib.Pipeline.ValueKit

@[expose] public section

noncomputable section

open Idealize.ShloMosaic Idealize.ShloMosaic.TcCoe Idealize.ShloMosaic.Tactic Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat Cfg)

namespace Cert.Product

variable {nD : ℕ} {τ : Topo} {sig : RefSig} {Λ₀ : Labels} {n : ℕ} (cfgs : Fin n → Cfg sig Λ₀)
  (inj : Function.Injective (Pipeline.cellOf (nD := nD) (τ := τ) cfgs)) (defs₀ : Defs nD τ sig (Elt Ideal) Λ₀)

/-- The calls as pipelines that prefetch nothing. -/
abbrev calls : Fin n → Pipeline.PCfg sig Λ₀ (Elt Ideal) := fun p => (cfgs p).toPCfg

/-- What the buffers of core `c` hold at the launch. -/
abbrev atLaunch (m : (ℓ : Loc nD τ sig) → Buf (Elt Ideal) ℓ) (c : Dev nD) : Valuation τ sig (Elt Ideal) := fun b => m (c, b)

/-- The state between two calls: the buffers that outlive the program at `W`, the generator's register at something. -/
abbrev between (W : Dev nD → Valuation τ sig (Elt Ideal)) (c : Dev nD) : sProp (MT nD τ sig Unit (Elt Ideal) ℕ (UR sig nD τ) ℕ) :=
  iprop(StableHlo.held (c : Thread nD τ) (Pipeline.ucRefs τ sig) (W c) ∗ ∃ r, prngReg c r)

include inj in
set_option backward.isDefEq.respectTransparency.types false in
theorem leaves
    (dats : (p : Fin n) → (c : Dev nD) →
      Dat τ (Elt Ideal) Unit ℕ (UR sig nD τ) ℕ (Pipeline.pin (calls cfgs) (fun p => (cfgs p).toPCfg_adm) p) c)
    (m : (ℓ : Loc nD τ sig) → Buf (Elt Ideal) ℓ) (ρ : Dev nD → PrngReg)
    (main : Dev nD → Prog (TpuEff nD τ sig (Elt Ideal) (Pipeline.Sig Λ₀ (Fin n) fun p => (calls cfgs p).Adm) .tc) PUnit)
    (segs : List (Pipeline.Seg (calls cfgs) (fun p => (cfgs p).toPCfg_adm) dats () defs₀ Variants.none (fun _ => ∅) fun _ _ => (0 : ℕ)))
    (W : Dev nD → Valuation τ sig (Elt Ideal))
    (hmain : ∀ c, main c = Pipeline.Seg.run segs) (hnd : (Pipeline.Seg.pipes segs).Nodup)
    (hch : Pipeline.Seg.Chains
      (fun c => iprop(StableHlo.held (c : Thread nD τ) (Pipeline.ucRefs τ sig) (atLaunch m c)
        ∗ ((∃ r, prngReg c r) ∗ ∃ D, owes (c : Thread nD τ) (0 : CellTallies nD τ sig Unit) D))) segs
      fun c => iprop(between W c ∗ ∃ D, owes (c : Thread nD τ) (0 : CellTallies nD τ sig Unit) D)) :
    θ_run (Pipeline.defs (calls cfgs) defs₀) (onTc main) ⟨m, fun _ => 0, ρ⟩ fun r =>
      ∀ c : Dev nD, ∀ b ∈ Pipeline.ucRefs τ sig, r.2.mem ((c : Thread nD τ).1, b) = W c b := by
  refine Pipeline.θ_run_regions_kit_sems (calls cfgs) (fun p => (cfgs p).toPCfg_adm) dats () inj emb₁ defs₀ Variants.none (fun _ => ∅) (fun _ _ => 0)
    m ρ main segs (fun c Q => by rw [hmain c]) hnd 0 (fun _ _ => rfl) (fun _ => iprop(emp))
    (initOf (Pipeline.cells cfgs inj) (Pipeline.launchToks cfgs inj)) ?_ _ (between W) hch ?_
    (fun c s => ∀ b ∈ Pipeline.ucRefs τ sig, s.mem ((c : Thread nD τ).1, b) = W c b) ?_ fun _ h _ => h
  · have owned : (ownU (initOf (Pipeline.cells cfgs inj) (Pipeline.launchToks cfgs inj)) : sProp (MT nD τ sig Unit (Elt Ideal) ℕ (UR sig nD τ) ℕ))
        ⊢ BI.own (emb₁ (initOf (Pipeline.cells cfgs inj) (Pipeline.launchToks cfgs inj))) := .rfl
    have none : (BI.emp : sProp (MT nD τ sig Unit (Elt Ideal) ℕ (UR sig nD τ) ℕ)) ⊢ bigSep Finset.univ fun _ : Dev nD => BI.emp := by
      rw [BI.bigSep_emp_const]
    iintro Hu
    imodintro
    isplitl [Hu]
    · iapply owned; iexact Hu
    · iapply none; iempintro
  · refine Pipeline.initEach _ _ fun c => ?_
    rw [show unscopedBufs c (fun b => m ((c : Thread nD τ).loc b)) = StableHlo.held (c : Thread nD τ) (Pipeline.ucRefs τ sig) (atLaunch m c)
      from Pipeline.unscopedBufs_held c (atLaunch m c)]
    iintro ⟨⟨Hbufs, -, Howes, -, Hreg, -⟩, -⟩
    imodintro
    isplitl [Hbufs]
    · iexact Hbufs
    isplitl [Hreg]
    · iexists _; iexact Hreg
    · iexists ∅; iexact Howes
  · intro c s
    iintro ⟨⟨Hbufs, -⟩, Hmem⟩
    unfold StableHlo.held
    imodintro
    iapply (pointsTo_read_all (Pipeline.ucRefs τ sig) (fun b => ((c : Thread nD τ).1, b)) (W c) s)
    isplitl [Hbufs] <;> iassumption

end Cert.Product

end
-- ==== Proof.FfUp.lean ====
/- The product into the feed-forward layer and the gradients of its factors: each is the reference's. -/
module

public import proofs.«01_k».proof.Defs
public import proofs.«01_k».proof.Proof.Products
public import proofs.«01_k».proof.Proof.Launched
public import proofs.«01_k».proof.Proof.Gen.FfUp.Frame
public import proofs.«01_k».proof.Proof.Gen.FfUpIdeal.Frame
public import proofs.«01_k».proof.Proof.Gen.FfUpReferenceIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Cert.Product

namespace Cert.FfUpIdeal.Value

open Cert.FfUpIdeal Cert.FfUpIdeal.Gen

section Regions

variable (V : (c : Dev nD) → (b : Ref sig .tc) → Buf (Elt Ideal) ((c : Thread nD τ).loc b))

theorem idx0 : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The forward call leaves the product. -/
theorem fwd (c : Dev nD) : (dat0 V c).arrAt 2 cfg0.N = mul 2048 1024 4096 (V c main_arg0) (V c main_arg1) := by
  refine (dat0 V c).arrAt_eq_of_covers 2 _ (by decide +kernel) fun t _ y => ?_
  blk_simp
  rw [after0_2]
  frame_out
  pointwise [k0_pay1, mul]
  blk_point [iblk0, idx0 t]

theorem idx1 : ∀ t : Fin cfg1.N, win1_0.index t = ![(grid1.coords t 0).val, 0]
    ∧ win1_1.index t = ![(grid1.coords t 1).val, 0]
    ∧ win1_2.index t = ![(grid1.coords t 0).val, (grid1.coords t 1).val] :=
  (by decide +kernel : ∀ t : Fin grid1.N, _)

/-- The first backward call leaves the first factor's gradient. -/
theorem da (c : Dev nD) : (dat1 V c).arrAt 2 cfg1.N = left 2048 1024 4096 (V c main_arg2) (V c main_arg1) := by
  refine (dat1 V c).arrAt_eq_of_covers 2 _ (by decide +kernel) fun t _ y => ?_
  blk_simp
  rw [after1_2]
  frame_out
  pointwise [k1_pay1, left]
  blk_point [iblk1, idx1 t]

theorem idx2 : ∀ t : Fin cfg2.N, win2_0.index t = ![0, (grid2.coords t 0).val]
    ∧ win2_1.index t = ![0, (grid2.coords t 1).val]
    ∧ win2_2.index t = ![(grid2.coords t 0).val, (grid2.coords t 1).val] :=
  (by decide +kernel : ∀ t : Fin grid2.N, _)

/-- The second backward call leaves the second factor's gradient. -/
theorem dw (c : Dev nD) : (dat2 V c).arrAt 2 cfg2.N = right 2048 1024 4096 (V c main_arg0) (V c main_arg2) := by
  refine (dat2 V c).arrAt_eq_of_covers 2 _ (by decide +kernel) fun t _ y => ?_
  blk_simp
  rw [after2_2]
  frame_out
  pointwise [k2_pay1, right]
  blk_point [iblk2, idx2 t]

end Regions

variable (m : (ℓ : Loc nD τ sig) → Buf (Elt Ideal) ℓ) (ρ : Dev nD → PrngReg)

/-- What the run leaves in every buffer that outlives it. -/
theorem run : θ_run defs (onTc (τ := τ) (main (F := Ideal))) ⟨m, fun _ => 0, ρ⟩ fun r =>
    ∀ c : Dev nD, ∀ b ∈ Pipeline.ucRefs τ sig, r.2.mem ((c : Thread nD τ).1, b) = W3 m ρ c b :=
  leaves cfgs cellOf_inj defs₀ (pdats m ρ) m ρ main (segs m ρ) (W3 m ρ) (main_run m ρ)
    (by simp only [segs, Pipeline.Seg.pipes_region, Pipeline.Seg.pipes_nil]; decide)
    ⟨fun _ => .rfl, fun _ => .rfl, fun _ => .rfl, fun _ => .rfl⟩

theorem y_end (c : Dev nD) : W3 m ρ c (Proc.devRef .tc main_v0)
    = mul 2048 1024 4096 (m ((c : Thread nD τ).loc main_arg0)) (m ((c : Thread nD τ).loc main_arg1)) :=
  (W3_of m ρ c main_v0 (by decide)).trans ((W2_of m ρ c main_v0 (by decide)).trans ((W1_arr m ρ c 2).trans (fwd (V0 m ρ) c)))

theorem da_end (c : Dev nD) : W3 m ρ c (Proc.devRef .tc main_v1)
    = left 2048 1024 4096 (m ((c : Thread nD τ).loc main_arg2)) (m ((c : Thread nD τ).loc main_arg1)) := by
  refine (W3_of m ρ c main_v1 (by decide)).trans ((W2_arr m ρ c 2).trans ((da (V1 m ρ) c).trans ?_))
  rw [show V1 m ρ c main_arg2 = m ((c : Thread nD τ).loc main_arg2) from W1_args m ρ c _ (by decide),
    show V1 m ρ c main_arg1 = m ((c : Thread nD τ).loc main_arg1) from W1_args m ρ c _ (by decide)]

theorem dw_end (c : Dev nD) : W3 m ρ c (Proc.devRef .tc main_v2)
    = right 2048 1024 4096 (m ((c : Thread nD τ).loc main_arg0)) (m ((c : Thread nD τ).loc main_arg2)) := by
  refine (W3_arr m ρ c 2).trans ((dw (V2 m ρ) c).trans ?_)
  rw [show V2 m ρ c main_arg0 = m ((c : Thread nD τ).loc main_arg0) from W2_args m ρ c _ (by decide),
    show V2 m ρ c main_arg2 = m ((c : Thread nD τ).loc main_arg2) from W2_args m ρ c _ (by decide)]

end Cert.FfUpIdeal.Value

namespace Cert.FfUpReferenceIdeal.Value

open Cert.FfUpReferenceIdeal Cert.FfUpReferenceIdeal.Gen

variable (a : FVec Ideal S2048x1024 .bf16) (w : FVec Ideal S1024x4096 .bf16) (g : FVec Ideal S2048x4096 .bf16)

theorem y_is : truncf .bf16 (Host.dotGeneral dot_S2048x1024_S1024x4096_S2048x4096_1_0_0_1_n_n none (extf .f32 a bitsLt_bf16_f32)
    (extf .f32 w bitsLt_bf16_f32)) bitsLt_bf16_f32 = mul 2048 1024 4096 a w := by
  funext i; pointwise []

theorem da_is : truncf .bf16 (Host.dotGeneral dot_S2048x4096_S1024x4096_S2048x1024_1_1_0_0_n_n none (extf .f32 g bitsLt_bf16_f32)
    (extf .f32 w bitsLt_bf16_f32)) bitsLt_bf16_f32 = left 2048 1024 4096 g w := by
  funext i; pointwise []

theorem dw_is : truncf .bf16 (transpose S1024x4096 [1, 0] (Host.dotGeneral dot_S2048x4096_S2048x1024_S4096x1024_0_0_1_1_n_n none
    (extf .f32 g bitsLt_bf16_f32) (extf .f32 a bitsLt_bf16_f32)) transposes_S4096x1024_S1024x4096_1_0) bitsLt_bf16_f32
    = right 2048 1024 4096 a g := by
  funext i; pointwise []
  exact Finset.sum_congr rfl fun x _ => mul_comm _ _

end Cert.FfUpReferenceIdeal.Value

namespace Cert.Proof.FfUp

open Cert.FfUpIdeal.Gen (W3 W3_main_arg0 W3_main_arg1 W3_main_arg2 mem_uc)
open Cert.FfUpIdeal.Value (y_end da_end dw_end)
open Cert.FfUpReferenceIdeal.Value (y_is da_is dw_is)

theorem frame_kernel : Cert.quiescent_FfUp := fun m g _ => Cert.FfUp.Gen.frame m g

theorem frame_ideal : Cert.quiescent_FfUpIdeal := fun m g _ => Cert.FfUpIdeal.Gen.frame m g

theorem frame_reference : Cert.quiescent_FfUpReferenceIdeal := fun m g _ =>
  (θ_run Cert.FfUpReferenceIdeal.defs _ _).mono
    (fun r h => ⟨fun c => (h c).2.2.2, sem_eq_zero_of_no_sems (by decide) r.2⟩)
    (Cert.FfUpReferenceIdeal.Value.run m g)

/-- The product and both gradients are the reference's. -/
theorem products : Cert.algebraic_FfUpIdeal_FfUpReferenceIdeal := fun m g m' g' _ hargs =>
  ⟨fun c => W3 m g c (Proc.devRef .tc Cert.FfUpIdeal.main_v0), fun c => W3 m g c (Proc.devRef .tc Cert.FfUpIdeal.main_v1),
   fun c => W3 m g c (Proc.devRef .tc Cert.FfUpIdeal.main_v2),
   (θ_run Cert.FfUpIdeal.defs _ _).mono (fun _ h c =>
     ⟨h c _ (mem_uc _ (by decide)), h c _ (mem_uc _ (by decide)), h c _ (mem_uc _ (by decide)),
      (h c _ (mem_uc _ (by decide))).trans (W3_main_arg0 m g c), (h c _ (mem_uc _ (by decide))).trans (W3_main_arg1 m g c),
      (h c _ (mem_uc _ (by decide))).trans (W3_main_arg2 m g c)⟩)
     (Cert.FfUpIdeal.Value.run m g),
   (θ_run Cert.FfUpReferenceIdeal.defs _ _).mono (fun _ h c => by
     obtain ⟨ha, hw, hg⟩ := hargs c
     refine ⟨(h c).1.trans ((y_is _ _).trans ?_), (h c).2.1.trans ((da_is _ _).trans ?_), (h c).2.2.1.trans ((dw_is _ _).trans ?_), (h c).2.2.2⟩
     · rw [ha, hw]; exact (y_end m g c).symm
     · rw [hg, hw]; exact (da_end m g c).symm
     · rw [ha, hg]; exact (dw_end m g c).symm)
     (Cert.FfUpReferenceIdeal.Value.run m' g')⟩

end Cert.Proof.FfUp

end
-- ==== Proof.FfDown.lean ====
/- The product out of the feed-forward layer and the gradients of its factors: each is the reference's. -/
module

public import proofs.«01_k».proof.Defs
public import proofs.«01_k».proof.Proof.Products
public import proofs.«01_k».proof.Proof.Launched
public import proofs.«01_k».proof.Proof.Gen.FfDown.Frame
public import proofs.«01_k».proof.Proof.Gen.FfDownIdeal.Frame
public import proofs.«01_k».proof.Proof.Gen.FfDownReferenceIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Cert.Product

namespace Cert.FfDownIdeal.Value

open Cert.FfDownIdeal Cert.FfDownIdeal.Gen

section Regions

variable (V : (c : Dev nD) → (b : Ref sig .tc) → Buf (Elt Ideal) ((c : Thread nD τ).loc b))

theorem idx0 : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The forward call leaves the product. -/
theorem fwd (c : Dev nD) : (dat0 V c).arrAt 2 cfg0.N = mul 2048 4096 1024 (V c main_arg0) (V c main_arg1) := by
  refine (dat0 V c).arrAt_eq_of_covers 2 _ (by decide +kernel) fun t _ y => ?_
  blk_simp
  rw [after0_2]
  frame_out
  pointwise [k0_pay1, mul]
  blk_point [iblk0, idx0 t]

theorem idx1 : ∀ t : Fin cfg1.N, win1_0.index t = ![(grid1.coords t 0).val, 0]
    ∧ win1_1.index t = ![(grid1.coords t 1).val, 0]
    ∧ win1_2.index t = ![(grid1.coords t 0).val, (grid1.coords t 1).val] :=
  (by decide +kernel : ∀ t : Fin grid1.N, _)

/-- The first backward call leaves the first factor's gradient. -/
theorem da (c : Dev nD) : (dat1 V c).arrAt 2 cfg1.N = left 2048 4096 1024 (V c main_arg2) (V c main_arg1) := by
  refine (dat1 V c).arrAt_eq_of_covers 2 _ (by decide +kernel) fun t _ y => ?_
  blk_simp
  rw [after1_2]
  frame_out
  pointwise [k1_pay1, left]
  blk_point [iblk1, idx1 t]

theorem idx2 : ∀ t : Fin cfg2.N, win2_0.index t = ![0, (grid2.coords t 0).val]
    ∧ win2_1.index t = ![0, (grid2.coords t 1).val]
    ∧ win2_2.index t = ![(grid2.coords t 0).val, (grid2.coords t 1).val] :=
  (by decide +kernel : ∀ t : Fin grid2.N, _)

/-- The second backward call leaves the second factor's gradient. -/
theorem dw (c : Dev nD) : (dat2 V c).arrAt 2 cfg2.N = right 2048 4096 1024 (V c main_arg0) (V c main_arg2) := by
  refine (dat2 V c).arrAt_eq_of_covers 2 _ (by decide +kernel) fun t _ y => ?_
  blk_simp
  rw [after2_2]
  frame_out
  pointwise [k2_pay1, right]
  blk_point [iblk2, idx2 t]

end Regions

variable (m : (ℓ : Loc nD τ sig) → Buf (Elt Ideal) ℓ) (ρ : Dev nD → PrngReg)

/-- What the run leaves in every buffer that outlives it. -/
theorem run : θ_run defs (onTc (τ := τ) (main (F := Ideal))) ⟨m, fun _ => 0, ρ⟩ fun r =>
    ∀ c : Dev nD, ∀ b ∈ Pipeline.ucRefs τ sig, r.2.mem ((c : Thread nD τ).1, b) = W3 m ρ c b :=
  leaves cfgs cellOf_inj defs₀ (pdats m ρ) m ρ main (segs m ρ) (W3 m ρ) (main_run m ρ)
    (by simp only [segs, Pipeline.Seg.pipes_region, Pipeline.Seg.pipes_nil]; decide)
    ⟨fun _ => .rfl, fun _ => .rfl, fun _ => .rfl, fun _ => .rfl⟩

theorem y_end (c : Dev nD) : W3 m ρ c (Proc.devRef .tc main_v0)
    = mul 2048 4096 1024 (m ((c : Thread nD τ).loc main_arg0)) (m ((c : Thread nD τ).loc main_arg1)) :=
  (W3_of m ρ c main_v0 (by decide)).trans ((W2_of m ρ c main_v0 (by decide)).trans ((W1_arr m ρ c 2).trans (fwd (V0 m ρ) c)))

theorem da_end (c : Dev nD) : W3 m ρ c (Proc.devRef .tc main_v1)
    = left 2048 4096 1024 (m ((c : Thread nD τ).loc main_arg2)) (m ((c : Thread nD τ).loc main_arg1)) := by
  refine (W3_of m ρ c main_v1 (by decide)).trans ((W2_arr m ρ c 2).trans ((da (V1 m ρ) c).trans ?_))
  rw [show V1 m ρ c main_arg2 = m ((c : Thread nD τ).loc main_arg2) from W1_args m ρ c _ (by decide),
    show V1 m ρ c main_arg1 = m ((c : Thread nD τ).loc main_arg1) from W1_args m ρ c _ (by decide)]

theorem dw_end (c : Dev nD) : W3 m ρ c (Proc.devRef .tc main_v2)
    = right 2048 4096 1024 (m ((c : Thread nD τ).loc main_arg0)) (m ((c : Thread nD τ).loc main_arg2)) := by
  refine (W3_arr m ρ c 2).trans ((dw (V2 m ρ) c).trans ?_)
  rw [show V2 m ρ c main_arg0 = m ((c : Thread nD τ).loc main_arg0) from W2_args m ρ c _ (by decide),
    show V2 m ρ c main_arg2 = m ((c : Thread nD τ).loc main_arg2) from W2_args m ρ c _ (by decide)]

end Cert.FfDownIdeal.Value

namespace Cert.FfDownReferenceIdeal.Value

open Cert.FfDownReferenceIdeal Cert.FfDownReferenceIdeal.Gen

variable (a : FVec Ideal S2048x4096 .bf16) (w : FVec Ideal S4096x1024 .bf16) (g : FVec Ideal S2048x1024 .f32)

theorem y_is : Host.dotGeneral dot_S2048x4096_S4096x1024_S2048x1024_1_0_0_1_n_n none (extf .f32 a bitsLt_bf16_f32)
    (extf .f32 w bitsLt_bf16_f32) = mul 2048 4096 1024 a w := by
  funext i; pointwise []

theorem da_is : truncf .bf16 (Host.dotGeneral dot_S2048x1024_S4096x1024_S2048x4096_1_1_0_0_n_n none g
    (extf .f32 w bitsLt_bf16_f32)) bitsLt_bf16_f32 = left 2048 4096 1024 g w := by
  funext i; pointwise []

theorem dw_is : truncf .bf16 (transpose S4096x1024 [1, 0] (Host.dotGeneral dot_S2048x1024_S2048x4096_S1024x4096_0_0_1_1_n_n none
    g (extf .f32 a bitsLt_bf16_f32)) transposes_S1024x4096_S4096x1024_1_0) bitsLt_bf16_f32
    = right 2048 4096 1024 a g := by
  funext i; pointwise []
  exact Finset.sum_congr rfl fun x _ => mul_comm _ _

end Cert.FfDownReferenceIdeal.Value

namespace Cert.Proof.FfDown

open Cert.FfDownIdeal.Gen (W3 W3_main_arg0 W3_main_arg1 W3_main_arg2 mem_uc)
open Cert.FfDownIdeal.Value (y_end da_end dw_end)
open Cert.FfDownReferenceIdeal.Value (y_is da_is dw_is)

theorem frame_kernel : Cert.quiescent_FfDown := fun m g _ => Cert.FfDown.Gen.frame m g

theorem frame_ideal : Cert.quiescent_FfDownIdeal := fun m g _ => Cert.FfDownIdeal.Gen.frame m g

theorem frame_reference : Cert.quiescent_FfDownReferenceIdeal := fun m g _ =>
  (θ_run Cert.FfDownReferenceIdeal.defs _ _).mono
    (fun r h => ⟨fun c => (h c).2.2.2, sem_eq_zero_of_no_sems (by decide) r.2⟩)
    (Cert.FfDownReferenceIdeal.Value.run m g)

/-- The product and both gradients are the reference's. -/
theorem products : Cert.algebraic_FfDownIdeal_FfDownReferenceIdeal := fun m g m' g' _ hargs =>
  ⟨fun c => W3 m g c (Proc.devRef .tc Cert.FfDownIdeal.main_v0), fun c => W3 m g c (Proc.devRef .tc Cert.FfDownIdeal.main_v1),
   fun c => W3 m g c (Proc.devRef .tc Cert.FfDownIdeal.main_v2),
   (θ_run Cert.FfDownIdeal.defs _ _).mono (fun _ h c =>
     ⟨h c _ (mem_uc _ (by decide)), h c _ (mem_uc _ (by decide)), h c _ (mem_uc _ (by decide)),
      (h c _ (mem_uc _ (by decide))).trans (W3_main_arg0 m g c), (h c _ (mem_uc _ (by decide))).trans (W3_main_arg1 m g c),
      (h c _ (mem_uc _ (by decide))).trans (W3_main_arg2 m g c)⟩)
     (Cert.FfDownIdeal.Value.run m g),
   (θ_run Cert.FfDownReferenceIdeal.defs _ _).mono (fun _ h c => by
     obtain ⟨ha, hw, hg⟩ := hargs c
     refine ⟨(h c).1.trans ((y_is _ _).trans ?_), (h c).2.1.trans ((da_is _ _).trans ?_), (h c).2.2.1.trans ((dw_is _ _).trans ?_), (h c).2.2.2⟩
     · rw [ha, hw]; exact (y_end m g c).symm
     · rw [hg, hw]; exact (da_end m g c).symm
     · rw [ha, hg]; exact (dw_end m g c).symm)
     (Cert.FfDownReferenceIdeal.Value.run m' g')⟩

end Cert.Proof.FfDown

end
-- ==== Proof.Mixer.lean ====
/- The product of a mixer's output and the gradients of its factors: each is the reference's. -/
module

public import proofs.«01_k».proof.Defs
public import proofs.«01_k».proof.Proof.Products
public import proofs.«01_k».proof.Proof.Launched
public import proofs.«01_k».proof.Proof.Gen.Mixer.Frame
public import proofs.«01_k».proof.Proof.Gen.MixerIdeal.Frame
public import proofs.«01_k».proof.Proof.Gen.MixerReferenceIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Cert.Product

namespace Cert.MixerIdeal.Value

open Cert.MixerIdeal Cert.MixerIdeal.Gen

section Regions

variable (V : (c : Dev nD) → (b : Ref sig .tc) → Buf (Elt Ideal) ((c : Thread nD τ).loc b))

theorem idx0 : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The forward call leaves the product. -/
theorem fwd (c : Dev nD) : (dat0 V c).arrAt 2 cfg0.N = mul 2048 1024 1024 (V c main_arg0) (V c main_arg1) := by
  refine (dat0 V c).arrAt_eq_of_covers 2 _ (by decide +kernel) fun t _ y => ?_
  blk_simp
  rw [after0_2]
  frame_out
  pointwise [k0_pay1, mul]
  blk_point [iblk0, idx0 t]

theorem idx1 : ∀ t : Fin cfg1.N, win1_0.index t = ![(grid1.coords t 0).val, 0]
    ∧ win1_1.index t = ![(grid1.coords t 1).val, 0]
    ∧ win1_2.index t = ![(grid1.coords t 0).val, (grid1.coords t 1).val] :=
  (by decide +kernel : ∀ t : Fin grid1.N, _)

/-- The first backward call leaves the first factor's gradient. -/
theorem da (c : Dev nD) : (dat1 V c).arrAt 2 cfg1.N = left 2048 1024 1024 (V c main_arg2) (V c main_arg1) := by
  refine (dat1 V c).arrAt_eq_of_covers 2 _ (by decide +kernel) fun t _ y => ?_
  blk_simp
  rw [after1_2]
  frame_out
  pointwise [k1_pay1, left]
  blk_point [iblk1, idx1 t]

theorem idx2 : ∀ t : Fin cfg2.N, win2_0.index t = ![0, (grid2.coords t 0).val]
    ∧ win2_1.index t = ![0, (grid2.coords t 1).val]
    ∧ win2_2.index t = ![(grid2.coords t 0).val, (grid2.coords t 1).val] :=
  (by decide +kernel : ∀ t : Fin grid2.N, _)

/-- The second backward call leaves the second factor's gradient. -/
theorem dw (c : Dev nD) : (dat2 V c).arrAt 2 cfg2.N = right 2048 1024 1024 (V c main_arg0) (V c main_arg2) := by
  refine (dat2 V c).arrAt_eq_of_covers 2 _ (by decide +kernel) fun t _ y => ?_
  blk_simp
  rw [after2_2]
  frame_out
  pointwise [k2_pay1, right]
  blk_point [iblk2, idx2 t]

end Regions

variable (m : (ℓ : Loc nD τ sig) → Buf (Elt Ideal) ℓ) (ρ : Dev nD → PrngReg)

/-- What the run leaves in every buffer that outlives it. -/
theorem run : θ_run defs (onTc (τ := τ) (main (F := Ideal))) ⟨m, fun _ => 0, ρ⟩ fun r =>
    ∀ c : Dev nD, ∀ b ∈ Pipeline.ucRefs τ sig, r.2.mem ((c : Thread nD τ).1, b) = W3 m ρ c b :=
  leaves cfgs cellOf_inj defs₀ (pdats m ρ) m ρ main (segs m ρ) (W3 m ρ) (main_run m ρ)
    (by simp only [segs, Pipeline.Seg.pipes_region, Pipeline.Seg.pipes_nil]; decide)
    ⟨fun _ => .rfl, fun _ => .rfl, fun _ => .rfl, fun _ => .rfl⟩

theorem y_end (c : Dev nD) : W3 m ρ c (Proc.devRef .tc main_v0)
    = mul 2048 1024 1024 (m ((c : Thread nD τ).loc main_arg0)) (m ((c : Thread nD τ).loc main_arg1)) :=
  (W3_of m ρ c main_v0 (by decide)).trans ((W2_of m ρ c main_v0 (by decide)).trans ((W1_arr m ρ c 2).trans (fwd (V0 m ρ) c)))

theorem da_end (c : Dev nD) : W3 m ρ c (Proc.devRef .tc main_v1)
    = left 2048 1024 1024 (m ((c : Thread nD τ).loc main_arg2)) (m ((c : Thread nD τ).loc main_arg1)) := by
  refine (W3_of m ρ c main_v1 (by decide)).trans ((W2_arr m ρ c 2).trans ((da (V1 m ρ) c).trans ?_))
  rw [show V1 m ρ c main_arg2 = m ((c : Thread nD τ).loc main_arg2) from W1_args m ρ c _ (by decide),
    show V1 m ρ c main_arg1 = m ((c : Thread nD τ).loc main_arg1) from W1_args m ρ c _ (by decide)]

theorem dw_end (c : Dev nD) : W3 m ρ c (Proc.devRef .tc main_v2)
    = right 2048 1024 1024 (m ((c : Thread nD τ).loc main_arg0)) (m ((c : Thread nD τ).loc main_arg2)) := by
  refine (W3_arr m ρ c 2).trans ((dw (V2 m ρ) c).trans ?_)
  rw [show V2 m ρ c main_arg0 = m ((c : Thread nD τ).loc main_arg0) from W2_args m ρ c _ (by decide),
    show V2 m ρ c main_arg2 = m ((c : Thread nD τ).loc main_arg2) from W2_args m ρ c _ (by decide)]

end Cert.MixerIdeal.Value

namespace Cert.MixerReferenceIdeal.Value

open Cert.MixerReferenceIdeal Cert.MixerReferenceIdeal.Gen

variable (a : FVec Ideal S2048x1024 .bf16) (w : FVec Ideal S1024x1024 .bf16) (g : FVec Ideal S2048x1024 .bf16)

theorem y_is : truncf .bf16 (Host.dotGeneral dot_S2048x1024_S1024x1024_S2048x1024_1_0_0_1_n_n none (extf .f32 a bitsLt_bf16_f32)
    (extf .f32 w bitsLt_bf16_f32)) bitsLt_bf16_f32 = mul 2048 1024 1024 a w := by
  funext i; pointwise []

theorem da_is : truncf .bf16 (Host.dotGeneral dot_S2048x1024_S1024x1024_S2048x1024_1_1_0_0_n_n none (extf .f32 g bitsLt_bf16_f32)
    (extf .f32 w bitsLt_bf16_f32)) bitsLt_bf16_f32 = left 2048 1024 1024 g w := by
  funext i; pointwise []

theorem dw_is : truncf .bf16 (transpose S1024x1024 [1, 0] (Host.dotGeneral dot_S2048x1024_S2048x1024_S1024x1024_0_0_1_1_n_n none
    (extf .f32 g bitsLt_bf16_f32) (extf .f32 a bitsLt_bf16_f32)) transposes_S1024x1024_S1024x1024_1_0) bitsLt_bf16_f32
    = right 2048 1024 1024 a g := by
  funext i; pointwise []
  exact Finset.sum_congr rfl fun x _ => mul_comm _ _

end Cert.MixerReferenceIdeal.Value

namespace Cert.Proof.Mixer

open Cert.MixerIdeal.Gen (W3 W3_main_arg0 W3_main_arg1 W3_main_arg2 mem_uc)
open Cert.MixerIdeal.Value (y_end da_end dw_end)
open Cert.MixerReferenceIdeal.Value (y_is da_is dw_is)

theorem frame_kernel : Cert.quiescent_Mixer := fun m g _ => Cert.Mixer.Gen.frame m g

theorem frame_ideal : Cert.quiescent_MixerIdeal := fun m g _ => Cert.MixerIdeal.Gen.frame m g

theorem frame_reference : Cert.quiescent_MixerReferenceIdeal := fun m g _ =>
  (θ_run Cert.MixerReferenceIdeal.defs _ _).mono
    (fun r h => ⟨fun c => (h c).2.2.2, sem_eq_zero_of_no_sems (by decide) r.2⟩)
    (Cert.MixerReferenceIdeal.Value.run m g)

/-- The product and both gradients are the reference's. -/
theorem products : Cert.algebraic_MixerIdeal_MixerReferenceIdeal := fun m g m' g' _ hargs =>
  ⟨fun c => W3 m g c (Proc.devRef .tc Cert.MixerIdeal.main_v0), fun c => W3 m g c (Proc.devRef .tc Cert.MixerIdeal.main_v1),
   fun c => W3 m g c (Proc.devRef .tc Cert.MixerIdeal.main_v2),
   (θ_run Cert.MixerIdeal.defs _ _).mono (fun _ h c =>
     ⟨h c _ (mem_uc _ (by decide)), h c _ (mem_uc _ (by decide)), h c _ (mem_uc _ (by decide)),
      (h c _ (mem_uc _ (by decide))).trans (W3_main_arg0 m g c), (h c _ (mem_uc _ (by decide))).trans (W3_main_arg1 m g c),
      (h c _ (mem_uc _ (by decide))).trans (W3_main_arg2 m g c)⟩)
     (Cert.MixerIdeal.Value.run m g),
   (θ_run Cert.MixerReferenceIdeal.defs _ _).mono (fun _ h c => by
     obtain ⟨ha, hw, hg⟩ := hargs c
     refine ⟨(h c).1.trans ((y_is _ _).trans ?_), (h c).2.1.trans ((da_is _ _).trans ?_), (h c).2.2.1.trans ((dw_is _ _).trans ?_), (h c).2.2.2⟩
     · rw [ha, hw]; exact (y_end m g c).symm
     · rw [hg, hw]; exact (da_end m g c).symm
     · rw [ha, hg]; exact (dw_end m g c).symm)
     (Cert.MixerReferenceIdeal.Value.run m' g')⟩

end Cert.Proof.Mixer

end
-- ==== Proof.MixerOut.lean ====
/- The product out of the mixers and the gradients of its factors: each is the reference's. -/
module

public import proofs.«01_k».proof.Defs
public import proofs.«01_k».proof.Proof.Products
public import proofs.«01_k».proof.Proof.Launched
public import proofs.«01_k».proof.Proof.Gen.MixerOut.Frame
public import proofs.«01_k».proof.Proof.Gen.MixerOutIdeal.Frame
public import proofs.«01_k».proof.Proof.Gen.MixerOutReferenceIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Cert.Product

namespace Cert.MixerOutIdeal.Value

open Cert.MixerOutIdeal Cert.MixerOutIdeal.Gen

section Regions

variable (V : (c : Dev nD) → (b : Ref sig .tc) → Buf (Elt Ideal) ((c : Thread nD τ).loc b))

theorem idx0 : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The forward call leaves the product. -/
theorem fwd (c : Dev nD) : (dat0 V c).arrAt 2 cfg0.N = mul 2048 1024 1024 (V c main_arg0) (V c main_arg1) := by
  refine (dat0 V c).arrAt_eq_of_covers 2 _ (by decide +kernel) fun t _ y => ?_
  blk_simp
  rw [after0_2]
  frame_out
  pointwise [k0_pay1, mul]
  blk_point [iblk0, idx0 t]

theorem idx1 : ∀ t : Fin cfg1.N, win1_0.index t = ![(grid1.coords t 0).val, 0]
    ∧ win1_1.index t = ![(grid1.coords t 1).val, 0]
    ∧ win1_2.index t = ![(grid1.coords t 0).val, (grid1.coords t 1).val] :=
  (by decide +kernel : ∀ t : Fin grid1.N, _)

/-- The first backward call leaves the first factor's gradient. -/
theorem da (c : Dev nD) : (dat1 V c).arrAt 2 cfg1.N = left 2048 1024 1024 (V c main_arg2) (V c main_arg1) := by
  refine (dat1 V c).arrAt_eq_of_covers 2 _ (by decide +kernel) fun t _ y => ?_
  blk_simp
  rw [after1_2]
  frame_out
  pointwise [k1_pay1, left]
  blk_point [iblk1, idx1 t]

theorem idx2 : ∀ t : Fin cfg2.N, win2_0.index t = ![0, (grid2.coords t 0).val]
    ∧ win2_1.index t = ![0, (grid2.coords t 1).val]
    ∧ win2_2.index t = ![(grid2.coords t 0).val, (grid2.coords t 1).val] :=
  (by decide +kernel : ∀ t : Fin grid2.N, _)

/-- The second backward call leaves the second factor's gradient. -/
theorem dw (c : Dev nD) : (dat2 V c).arrAt 2 cfg2.N = right 2048 1024 1024 (V c main_arg0) (V c main_arg2) := by
  refine (dat2 V c).arrAt_eq_of_covers 2 _ (by decide +kernel) fun t _ y => ?_
  blk_simp
  rw [after2_2]
  frame_out
  pointwise [k2_pay1, right]
  blk_point [iblk2, idx2 t]

end Regions

variable (m : (ℓ : Loc nD τ sig) → Buf (Elt Ideal) ℓ) (ρ : Dev nD → PrngReg)

/-- What the run leaves in every buffer that outlives it. -/
theorem run : θ_run defs (onTc (τ := τ) (main (F := Ideal))) ⟨m, fun _ => 0, ρ⟩ fun r =>
    ∀ c : Dev nD, ∀ b ∈ Pipeline.ucRefs τ sig, r.2.mem ((c : Thread nD τ).1, b) = W3 m ρ c b :=
  leaves cfgs cellOf_inj defs₀ (pdats m ρ) m ρ main (segs m ρ) (W3 m ρ) (main_run m ρ)
    (by simp only [segs, Pipeline.Seg.pipes_region, Pipeline.Seg.pipes_nil]; decide)
    ⟨fun _ => .rfl, fun _ => .rfl, fun _ => .rfl, fun _ => .rfl⟩

theorem y_end (c : Dev nD) : W3 m ρ c (Proc.devRef .tc main_v0)
    = mul 2048 1024 1024 (m ((c : Thread nD τ).loc main_arg0)) (m ((c : Thread nD τ).loc main_arg1)) :=
  (W3_of m ρ c main_v0 (by decide)).trans ((W2_of m ρ c main_v0 (by decide)).trans ((W1_arr m ρ c 2).trans (fwd (V0 m ρ) c)))

theorem da_end (c : Dev nD) : W3 m ρ c (Proc.devRef .tc main_v1)
    = left 2048 1024 1024 (m ((c : Thread nD τ).loc main_arg2)) (m ((c : Thread nD τ).loc main_arg1)) := by
  refine (W3_of m ρ c main_v1 (by decide)).trans ((W2_arr m ρ c 2).trans ((da (V1 m ρ) c).trans ?_))
  rw [show V1 m ρ c main_arg2 = m ((c : Thread nD τ).loc main_arg2) from W1_args m ρ c _ (by decide),
    show V1 m ρ c main_arg1 = m ((c : Thread nD τ).loc main_arg1) from W1_args m ρ c _ (by decide)]

theorem dw_end (c : Dev nD) : W3 m ρ c (Proc.devRef .tc main_v2)
    = right 2048 1024 1024 (m ((c : Thread nD τ).loc main_arg0)) (m ((c : Thread nD τ).loc main_arg2)) := by
  refine (W3_arr m ρ c 2).trans ((dw (V2 m ρ) c).trans ?_)
  rw [show V2 m ρ c main_arg0 = m ((c : Thread nD τ).loc main_arg0) from W2_args m ρ c _ (by decide),
    show V2 m ρ c main_arg2 = m ((c : Thread nD τ).loc main_arg2) from W2_args m ρ c _ (by decide)]

end Cert.MixerOutIdeal.Value

namespace Cert.MixerOutReferenceIdeal.Value

open Cert.MixerOutReferenceIdeal Cert.MixerOutReferenceIdeal.Gen

variable (a : FVec Ideal S2048x1024 .bf16) (w : FVec Ideal S1024x1024 .bf16) (g : FVec Ideal S2048x1024 .f32)

theorem y_is : Host.dotGeneral dot_S2048x1024_S1024x1024_S2048x1024_1_0_0_1_n_n none (extf .f32 a bitsLt_bf16_f32)
    (extf .f32 w bitsLt_bf16_f32) = mul 2048 1024 1024 a w := by
  funext i; pointwise []

theorem da_is : truncf .bf16 (Host.dotGeneral dot_S2048x1024_S1024x1024_S2048x1024_1_1_0_0_n_n none g
    (extf .f32 w bitsLt_bf16_f32)) bitsLt_bf16_f32 = left 2048 1024 1024 g w := by
  funext i; pointwise []

theorem dw_is : truncf .bf16 (transpose S1024x1024 [1, 0] (Host.dotGeneral dot_S2048x1024_S2048x1024_S1024x1024_0_0_1_1_n_n none
    g (extf .f32 a bitsLt_bf16_f32)) transposes_S1024x1024_S1024x1024_1_0) bitsLt_bf16_f32
    = right 2048 1024 1024 a g := by
  funext i; pointwise []
  exact Finset.sum_congr rfl fun x _ => mul_comm _ _

end Cert.MixerOutReferenceIdeal.Value

namespace Cert.Proof.MixerOut

open Cert.MixerOutIdeal.Gen (W3 W3_main_arg0 W3_main_arg1 W3_main_arg2 mem_uc)
open Cert.MixerOutIdeal.Value (y_end da_end dw_end)
open Cert.MixerOutReferenceIdeal.Value (y_is da_is dw_is)

theorem frame_kernel : Cert.quiescent_MixerOut := fun m g _ => Cert.MixerOut.Gen.frame m g

theorem frame_ideal : Cert.quiescent_MixerOutIdeal := fun m g _ => Cert.MixerOutIdeal.Gen.frame m g

theorem frame_reference : Cert.quiescent_MixerOutReferenceIdeal := fun m g _ =>
  (θ_run Cert.MixerOutReferenceIdeal.defs _ _).mono
    (fun r h => ⟨fun c => (h c).2.2.2, sem_eq_zero_of_no_sems (by decide) r.2⟩)
    (Cert.MixerOutReferenceIdeal.Value.run m g)

/-- The product and both gradients are the reference's. -/
theorem products : Cert.algebraic_MixerOutIdeal_MixerOutReferenceIdeal := fun m g m' g' _ hargs =>
  ⟨fun c => W3 m g c (Proc.devRef .tc Cert.MixerOutIdeal.main_v0), fun c => W3 m g c (Proc.devRef .tc Cert.MixerOutIdeal.main_v1),
   fun c => W3 m g c (Proc.devRef .tc Cert.MixerOutIdeal.main_v2),
   (θ_run Cert.MixerOutIdeal.defs _ _).mono (fun _ h c =>
     ⟨h c _ (mem_uc _ (by decide)), h c _ (mem_uc _ (by decide)), h c _ (mem_uc _ (by decide)),
      (h c _ (mem_uc _ (by decide))).trans (W3_main_arg0 m g c), (h c _ (mem_uc _ (by decide))).trans (W3_main_arg1 m g c),
      (h c _ (mem_uc _ (by decide))).trans (W3_main_arg2 m g c)⟩)
     (Cert.MixerOutIdeal.Value.run m g),
   (θ_run Cert.MixerOutReferenceIdeal.defs _ _).mono (fun _ h c => by
     obtain ⟨ha, hw, hg⟩ := hargs c
     refine ⟨(h c).1.trans ((y_is _ _).trans ?_), (h c).2.1.trans ((da_is _ _).trans ?_), (h c).2.2.1.trans ((dw_is _ _).trans ?_), (h c).2.2.2⟩
     · rw [ha, hw]; exact (y_end m g c).symm
     · rw [hg, hw]; exact (da_end m g c).symm
     · rw [ha, hg]; exact (dw_end m g c).symm)
     (Cert.MixerOutReferenceIdeal.Value.run m' g')⟩

end Cert.Proof.MixerOut

end
-- ==== Proof.InProjForward.lean ====
/- The forward calls of the mixers' input projections: what each of them leaves, in terms of what it read. -/
module

public import proofs.«01_k».proof.Proof.Products
public import proofs.«01_k».proof.Proof.Gen.InProjIdeal.Frame
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Cert.Product

namespace Cert.InProjIdeal.Value

open Cert.InProjIdeal Cert.InProjIdeal.Gen

/-- At every point the windows of a product lie at a block's rows, at a block's columns, and at both. -/
abbrev RowsCols (a w y : Fin grid0.N → Fin 2 → ℕ) : Prop := ∀ t, a t = ![(grid0.coords t 0).val, 0] ∧ w t = ![0, (grid0.coords t 1).val]
  ∧ y t = ![(grid0.coords t 0).val, (grid0.coords t 1).val]

theorem forward_at : RowsCols win0_0.index win0_1.index win0_2.index ∧ RowsCols win1_0.index win1_1.index win1_2.index
    ∧ RowsCols win2_0.index win2_1.index win2_2.index ∧ RowsCols win3_0.index win3_1.index win3_2.index
    ∧ RowsCols win4_0.index win4_1.index win4_2.index ∧ RowsCols win5_0.index win5_1.index win5_2.index
    ∧ RowsCols win6_0.index win6_1.index win6_2.index := by decide +kernel

variable (V : (c : Dev nD) → (b : Ref sig .tc) → Buf (Elt Ideal) ((c : Thread nD τ).loc b))

set_option maxHeartbeats 2000000 in
/-- Each forward call leaves the product of the mixers' input and one of the seven matrices. -/
theorem forward (c : Dev nD) : (dat0 V c).arrAt 2 cfg0.N = mul 2048 1024 1664 (V c main_arg0) (V c main_arg1)
    ∧ (dat1 V c).arrAt 2 cfg1.N = mul 2048 1024 1024 (V c main_arg0) (V c main_arg2)
    ∧ (dat2 V c).arrAt 2 cfg2.N = mul 2048 1024 1024 (V c main_arg0) (V c main_arg3)
    ∧ (dat3 V c).arrAt 2 cfg3.N = mul 2048 1024 1024 (V c main_arg0) (V c main_arg4)
    ∧ (dat4 V c).arrAt 2 cfg4.N = mul 2048 1024 1024 (V c main_arg0) (V c main_arg5)
    ∧ (dat5 V c).arrAt 2 cfg5.N = mul 2048 1024 1024 (V c main_arg0) (V c main_arg6)
    ∧ (dat6 V c).arrAt 2 cfg6.N = mul 2048 1024 1024 (V c main_arg0) (V c main_arg7) := by
  refine ⟨?_, ?_, ?_, ?_, ?_, ?_, ?_⟩ <;> refine Pipeline.Dat.arrAt_eq_of_covers _ _ _ (by decide +kernel) fun t _ y => ?_ <;> blk_simp <;>
    first | rw [after0_2] | rw [after1_2] | rw [after2_2] | rw [after3_2] | rw [after4_2] | rw [after5_2] | rw [after6_2]
  all_goals frame_out
  all_goals pointwise [k0_pay1, k1_pay1, k2_pay1, k3_pay1, k4_pay1, k5_pay1, k6_pay1, mul]
  · blk_point [iblk0, forward_at.1 t]
  · blk_point [iblk1, forward_at.2.1 t]
  · blk_point [iblk2, forward_at.2.2.1 t]
  · blk_point [iblk3, forward_at.2.2.2.1 t]
  · blk_point [iblk4, forward_at.2.2.2.2.1 t]
  · blk_point [iblk5, forward_at.2.2.2.2.2.1 t]
  · blk_point [iblk6, forward_at.2.2.2.2.2.2 t]

end Cert.InProjIdeal.Value

end
-- ==== Proof.InProjInput.lean ====
/- The backward calls that sum the gradient of the projections' common input: what each of them leaves, in terms of what it read. -/
module

public import proofs.«01_k».proof.Proof.Products
public import proofs.«01_k».proof.Proof.Gen.InProjIdeal.Frame
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Cert.Product

namespace Cert.InProjIdeal.Value

open Cert.InProjIdeal Cert.InProjIdeal.Gen

/-- At every point the windows of a product with the second factor transposed lie at a block's rows, at those of its columns, and at both. -/
abbrev RowsRows (g w y : Fin grid0.N → Fin 2 → ℕ) : Prop := ∀ t, g t = ![(grid0.coords t 0).val, 0] ∧ w t = ![(grid0.coords t 1).val, 0]
  ∧ y t = ![(grid0.coords t 0).val, (grid0.coords t 1).val]

variable (V : (c : Dev nD) → (b : Ref sig .tc) → Buf (Elt Ideal) ((c : Thread nD τ).loc b))

theorem input_at : RowsRows win7_0.index win7_1.index win7_2.index
    ∧ (RowsRows win8_0.index win8_1.index win8_2.index ∧ RowsRows win8_0.index win8_1.index win8_3.index)
    ∧ (RowsRows win9_0.index win9_1.index win9_2.index ∧ RowsRows win9_0.index win9_1.index win9_3.index)
    ∧ (RowsRows win10_0.index win10_1.index win10_2.index ∧ RowsRows win10_0.index win10_1.index win10_3.index)
    ∧ (RowsRows win11_0.index win11_1.index win11_2.index ∧ RowsRows win11_0.index win11_1.index win11_3.index)
    ∧ (RowsRows win12_0.index win12_1.index win12_2.index ∧ RowsRows win12_0.index win12_1.index win12_3.index)
    ∧ RowsRows win13_0.index win13_1.index win13_2.index ∧ RowsRows win13_0.index win13_1.index win13_3.index := by
  refine ⟨?_, ⟨?_, ?_⟩, ⟨?_, ?_⟩, ⟨?_, ?_⟩, ⟨?_, ?_⟩, ⟨?_, ?_⟩, ?_, ?_⟩ <;> decide +kernel

set_option maxHeartbeats 2000000 in
/-- The first call for the input's gradient leaves a result's gradient times its matrix transposed; each later one adds its own
to what the call before it left. -/
theorem input (c : Dev nD) : (dat7 V c).arrAt 2 cfg7.N = left 2048 1024 1664 (V c main_arg8) (V c main_arg1)
    ∧ (dat8 V c).arrAt 3 cfg8.N = plus 2048 1024 1024 (V c main_arg9) (V c main_arg2) (V c main_v7)
    ∧ (dat9 V c).arrAt 3 cfg9.N = plus 2048 1024 1024 (V c main_arg10) (V c main_arg3) (V c main_v8)
    ∧ (dat10 V c).arrAt 3 cfg10.N = plus 2048 1024 1024 (V c main_arg11) (V c main_arg4) (V c main_v9)
    ∧ (dat11 V c).arrAt 3 cfg11.N = plus 2048 1024 1024 (V c main_arg12) (V c main_arg5) (V c main_v10)
    ∧ (dat12 V c).arrAt 3 cfg12.N = plus 2048 1024 1024 (V c main_arg13) (V c main_arg6) (V c main_v11)
    ∧ (dat13 V c).arrAt 3 cfg13.N = plus 2048 1024 1024 (V c main_arg14) (V c main_arg7) (V c main_v12) := by
  refine ⟨?_, ?_, ?_, ?_, ?_, ?_, ?_⟩ <;> refine Pipeline.Dat.arrAt_eq_of_covers _ _ _ (by decide +kernel) fun t _ y => ?_ <;> blk_simp <;>
    first | rw [after7_2] | rw [after8_3] | rw [after9_3] | rw [after10_3] | rw [after11_3] | rw [after12_3] | rw [after13_3]
  all_goals frame_out
  all_goals pointwise [k7_pay1, k8_pay1, k9_pay1, k10_pay1, k11_pay1, k12_pay1, k13_pay1, left, plus]
  · blk_point [iblk7, input_at.1 t]
  · blk_point [iblk8, input_at.2.1.1 t, input_at.2.1.2 t]
  · blk_point [iblk9, input_at.2.2.1.1 t, input_at.2.2.1.2 t]
  · blk_point [iblk10, input_at.2.2.2.1.1 t, input_at.2.2.2.1.2 t]
  · blk_point [iblk11, input_at.2.2.2.2.1.1 t, input_at.2.2.2.2.1.2 t]
  · blk_point [iblk12, input_at.2.2.2.2.2.1.1 t, input_at.2.2.2.2.2.1.2 t]
  · blk_point [iblk13, input_at.2.2.2.2.2.2.1 t, input_at.2.2.2.2.2.2.2 t]

end Cert.InProjIdeal.Value

end
-- ==== Proof.InProjMatrices.lean ====
/- The backward calls for the projections' matrices: what each of them leaves, in terms of what it read. -/
module

public import proofs.«01_k».proof.Proof.Products
public import proofs.«01_k».proof.Proof.Gen.InProjIdeal.Frame
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Cert.Product

namespace Cert.InProjIdeal.Value

open Cert.InProjIdeal Cert.InProjIdeal.Gen

/-- At every point the windows of a product with the first factor transposed lie at a block's columns, at the other's, and at both. -/
abbrev ColsCols (a g y : Fin grid14.N → Fin 2 → ℕ) : Prop := ∀ t, a t = ![0, (grid14.coords t 0).val] ∧ g t = ![0, (grid14.coords t 1).val]
  ∧ y t = ![(grid14.coords t 0).val, (grid14.coords t 1).val]

variable (V : (c : Dev nD) → (b : Ref sig .tc) → Buf (Elt Ideal) ((c : Thread nD τ).loc b))

theorem matrices_at : ColsCols win14_0.index win14_1.index win14_2.index ∧ ColsCols win15_0.index win15_1.index win15_2.index
    ∧ ColsCols win16_0.index win16_1.index win16_2.index ∧ ColsCols win17_0.index win17_1.index win17_2.index
    ∧ ColsCols win18_0.index win18_1.index win18_2.index ∧ ColsCols win19_0.index win19_1.index win19_2.index
    ∧ ColsCols win20_0.index win20_1.index win20_2.index := by decide +kernel

set_option maxHeartbeats 2000000 in
/-- Each of the last seven calls leaves the gradient of one of the seven matrices. -/
theorem matrices (c : Dev nD) : (dat14 V c).arrAt 2 cfg14.N = right 2048 1024 1664 (V c main_arg0) (V c main_arg8)
    ∧ (dat15 V c).arrAt 2 cfg15.N = right 2048 1024 1024 (V c main_arg0) (V c main_arg9)
    ∧ (dat16 V c).arrAt 2 cfg16.N = right 2048 1024 1024 (V c main_arg0) (V c main_arg10)
    ∧ (dat17 V c).arrAt 2 cfg17.N = right 2048 1024 1024 (V c main_arg0) (V c main_arg11)
    ∧ (dat18 V c).arrAt 2 cfg18.N = right 2048 1024 1024 (V c main_arg0) (V c main_arg12)
    ∧ (dat19 V c).arrAt 2 cfg19.N = right 2048 1024 1024 (V c main_arg0) (V c main_arg13)
    ∧ (dat20 V c).arrAt 2 cfg20.N = right 2048 1024 1024 (V c main_arg0) (V c main_arg14) := by
  refine ⟨?_, ?_, ?_, ?_, ?_, ?_, ?_⟩ <;> refine Pipeline.Dat.arrAt_eq_of_covers _ _ _ (by decide +kernel) fun t _ y => ?_ <;> blk_simp <;>
    first | rw [after14_2] | rw [after15_2] | rw [after16_2] | rw [after17_2] | rw [after18_2] | rw [after19_2] | rw [after20_2]
  all_goals frame_out
  all_goals pointwise [k14_pay1, k15_pay1, k16_pay1, k17_pay1, k18_pay1, k19_pay1, k20_pay1, right]
  · blk_point [iblk14, matrices_at.1 t]
  · blk_point [iblk15, matrices_at.2.1 t]
  · blk_point [iblk16, matrices_at.2.2.1 t]
  · blk_point [iblk17, matrices_at.2.2.2.1 t]
  · blk_point [iblk18, matrices_at.2.2.2.2.1 t]
  · blk_point [iblk19, matrices_at.2.2.2.2.2.1 t]
  · blk_point [iblk20, matrices_at.2.2.2.2.2.2 t]

end Cert.InProjIdeal.Value

end
-- ==== Proof.InProj.lean ====
/- The seven products of the mixers' input and the gradients of their factors: each is the reference's. -/
module

public import proofs.«01_k».proof.Defs
public import proofs.«01_k».proof.Proof.Launched
public import proofs.«01_k».proof.Proof.InProjForward
public import proofs.«01_k».proof.Proof.InProjInput
public import proofs.«01_k».proof.Proof.InProjMatrices
public import proofs.«01_k».proof.Proof.Gen.InProj.Frame
public import proofs.«01_k».proof.Proof.Gen.InProjIdeal.Frame
public import proofs.«01_k».proof.Proof.Gen.InProjReferenceIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Cert.Product

namespace Cert.InProjIdeal.Value

open Cert.InProjIdeal Cert.InProjIdeal.Gen

variable (m : (ℓ : Loc nD τ sig) → Buf (Elt Ideal) ℓ) (ρ : Dev nD → PrngReg)

/-- What the run leaves in every buffer that outlives it. -/
theorem run : θ_run defs (onTc (τ := τ) (main (F := Ideal))) ⟨m, fun _ => 0, ρ⟩ fun r =>
    ∀ c : Dev nD, ∀ b ∈ Pipeline.ucRefs τ sig, r.2.mem ((c : Thread nD τ).1, b) = W21 m ρ c b :=
  leaves cfgs cellOf_inj defs₀ (pdats m ρ) m ρ main (segs m ρ) (W21 m ρ) (main_run m ρ)
    (by simp only [segs, Pipeline.Seg.pipes_region, Pipeline.Seg.pipes_nil]; decide)
    ⟨fun _ => .rfl, fun _ => .rfl, fun _ => .rfl, fun _ => .rfl, fun _ => .rfl, fun _ => .rfl, fun _ => .rfl, fun _ => .rfl,
     fun _ => .rfl, fun _ => .rfl, fun _ => .rfl, fun _ => .rfl, fun _ => .rfl, fun _ => .rfl, fun _ => .rfl, fun _ => .rfl,
     fun _ => .rfl, fun _ => .rfl, fun _ => .rfl, fun _ => .rfl, fun _ => .rfl, fun _ => .rfl⟩

/-- No call after the one that leaves a result writes to it. -/
theorem kept (c : Dev nD) : W21 m ρ c (Proc.devRef .tc main_v0) = W1 m ρ c (Proc.devRef .tc main_v0)
    ∧ W21 m ρ c (Proc.devRef .tc main_v1) = W2 m ρ c (Proc.devRef .tc main_v1)
    ∧ W21 m ρ c (Proc.devRef .tc main_v2) = W3 m ρ c (Proc.devRef .tc main_v2)
    ∧ W21 m ρ c (Proc.devRef .tc main_v3) = W4 m ρ c (Proc.devRef .tc main_v3)
    ∧ W21 m ρ c (Proc.devRef .tc main_v4) = W5 m ρ c (Proc.devRef .tc main_v4)
    ∧ W21 m ρ c (Proc.devRef .tc main_v5) = W6 m ρ c (Proc.devRef .tc main_v5)
    ∧ W21 m ρ c (Proc.devRef .tc main_v6) = W7 m ρ c (Proc.devRef .tc main_v6)
    ∧ W21 m ρ c (Proc.devRef .tc main_v13) = W14 m ρ c (Proc.devRef .tc main_v13)
    ∧ W21 m ρ c (Proc.devRef .tc main_v14) = W15 m ρ c (Proc.devRef .tc main_v14)
    ∧ W21 m ρ c (Proc.devRef .tc main_v15) = W16 m ρ c (Proc.devRef .tc main_v15)
    ∧ W21 m ρ c (Proc.devRef .tc main_v16) = W17 m ρ c (Proc.devRef .tc main_v16)
    ∧ W21 m ρ c (Proc.devRef .tc main_v17) = W18 m ρ c (Proc.devRef .tc main_v17)
    ∧ W21 m ρ c (Proc.devRef .tc main_v18) = W19 m ρ c (Proc.devRef .tc main_v18)
    ∧ W21 m ρ c (Proc.devRef .tc main_v19) = W20 m ρ c (Proc.devRef .tc main_v19) := by
  refine ⟨?_, ?_, ?_, ?_, ?_, ?_, ?_, ?_, ?_, ?_, ?_, ?_, ?_, ?_⟩ <;>
    repeat (
      first
      | rw [W21_of] | rw [W20_of] | rw [W19_of] | rw [W18_of] | rw [W17_of] | rw [W16_of] | rw [W15_of] | rw [W14_of] | rw [W13_of] | rw [W12_of]
      | rw [W11_of] | rw [W10_of] | rw [W9_of] | rw [W8_of] | rw [W7_of] | rw [W6_of] | rw [W5_of] | rw [W4_of] | rw [W3_of] | rw [W2_of]
      rotate_left
      decide)

theorem products_end (c : Dev nD) : W21 m ρ c (Proc.devRef .tc main_v0) = mul 2048 1024 1664 (m ((c : Thread nD τ).loc main_arg0)) (m ((c : Thread nD τ).loc main_arg1))
    ∧ W21 m ρ c (Proc.devRef .tc main_v1) = mul 2048 1024 1024 (m ((c : Thread nD τ).loc main_arg0)) (m ((c : Thread nD τ).loc main_arg2))
    ∧ W21 m ρ c (Proc.devRef .tc main_v2) = mul 2048 1024 1024 (m ((c : Thread nD τ).loc main_arg0)) (m ((c : Thread nD τ).loc main_arg3))
    ∧ W21 m ρ c (Proc.devRef .tc main_v3) = mul 2048 1024 1024 (m ((c : Thread nD τ).loc main_arg0)) (m ((c : Thread nD τ).loc main_arg4))
    ∧ W21 m ρ c (Proc.devRef .tc main_v4) = mul 2048 1024 1024 (m ((c : Thread nD τ).loc main_arg0)) (m ((c : Thread nD τ).loc main_arg5))
    ∧ W21 m ρ c (Proc.devRef .tc main_v5) = mul 2048 1024 1024 (m ((c : Thread nD τ).loc main_arg0)) (m ((c : Thread nD τ).loc main_arg6))
    ∧ W21 m ρ c (Proc.devRef .tc main_v6) = mul 2048 1024 1024 (m ((c : Thread nD τ).loc main_arg0)) (m ((c : Thread nD τ).loc main_arg7)) :=
  ⟨(kept m ρ c).1.trans ((W1_arr m ρ c 2).trans ((forward (V0 m ρ) c).1.trans
     (congrArg₂ _ (W0_args m ρ c main_arg0 (by decide)) (W0_args m ρ c main_arg1 (by decide))))),
   (kept m ρ c).2.1.trans ((W2_arr m ρ c 2).trans ((forward (V1 m ρ) c).2.1.trans
     (congrArg₂ _ (W1_args m ρ c main_arg0 (by decide)) (W1_args m ρ c main_arg2 (by decide))))),
   (kept m ρ c).2.2.1.trans ((W3_arr m ρ c 2).trans ((forward (V2 m ρ) c).2.2.1.trans
     (congrArg₂ _ (W2_args m ρ c main_arg0 (by decide)) (W2_args m ρ c main_arg3 (by decide))))),
   (kept m ρ c).2.2.2.1.trans ((W4_arr m ρ c 2).trans ((forward (V3 m ρ) c).2.2.2.1.trans
     (congrArg₂ _ (W3_args m ρ c main_arg0 (by decide)) (W3_args m ρ c main_arg4 (by decide))))),
   (kept m ρ c).2.2.2.2.1.trans ((W5_arr m ρ c 2).trans ((forward (V4 m ρ) c).2.2.2.2.1.trans
     (congrArg₂ _ (W4_args m ρ c main_arg0 (by decide)) (W4_args m ρ c main_arg5 (by decide))))),
   (kept m ρ c).2.2.2.2.2.1.trans ((W6_arr m ρ c 2).trans ((forward (V5 m ρ) c).2.2.2.2.2.1.trans
     (congrArg₂ _ (W5_args m ρ c main_arg0 (by decide)) (W5_args m ρ c main_arg6 (by decide))))),
   (kept m ρ c).2.2.2.2.2.2.1.trans ((W7_arr m ρ c 2).trans ((forward (V6 m ρ) c).2.2.2.2.2.2.trans
     (congrArg₂ _ (W6_args m ρ c main_arg0 (by decide)) (W6_args m ρ c main_arg7 (by decide)))))⟩

/-- The seven calls leave the sum, the last result's share first. -/
theorem input_end (c : Dev nD) : W21 m ρ c (Proc.devRef .tc main_v13) =
    plus 2048 1024 1024 (m ((c : Thread nD τ).loc main_arg14)) (m ((c : Thread nD τ).loc main_arg7))
      (plus 2048 1024 1024 (m ((c : Thread nD τ).loc main_arg13)) (m ((c : Thread nD τ).loc main_arg6))
      (plus 2048 1024 1024 (m ((c : Thread nD τ).loc main_arg12)) (m ((c : Thread nD τ).loc main_arg5))
      (plus 2048 1024 1024 (m ((c : Thread nD τ).loc main_arg11)) (m ((c : Thread nD τ).loc main_arg4))
      (plus 2048 1024 1024 (m ((c : Thread nD τ).loc main_arg10)) (m ((c : Thread nD τ).loc main_arg3))
      (plus 2048 1024 1024 (m ((c : Thread nD τ).loc main_arg9)) (m ((c : Thread nD τ).loc main_arg2))
      (left 2048 1024 1664 (m ((c : Thread nD τ).loc main_arg8)) (m ((c : Thread nD τ).loc main_arg1)))))))) :=
  (kept m ρ c).2.2.2.2.2.2.2.1.trans (
    (W14_arr m ρ c 3).trans ((input (V13 m ρ) c).2.2.2.2.2.2.trans
    (congr (congrArg₂ _ (W13_args m ρ c main_arg14 (by decide)) (W13_args m ρ c main_arg7 (by decide))) (
    (W13_arr m ρ c 3).trans ((input (V12 m ρ) c).2.2.2.2.2.1.trans
    (congr (congrArg₂ _ (W12_args m ρ c main_arg13 (by decide)) (W12_args m ρ c main_arg6 (by decide))) (
    (W12_arr m ρ c 3).trans ((input (V11 m ρ) c).2.2.2.2.1.trans
    (congr (congrArg₂ _ (W11_args m ρ c main_arg12 (by decide)) (W11_args m ρ c main_arg5 (by decide))) (
    (W11_arr m ρ c 3).trans ((input (V10 m ρ) c).2.2.2.1.trans
    (congr (congrArg₂ _ (W10_args m ρ c main_arg11 (by decide)) (W10_args m ρ c main_arg4 (by decide))) (
    (W10_arr m ρ c 3).trans ((input (V9 m ρ) c).2.2.1.trans
    (congr (congrArg₂ _ (W9_args m ρ c main_arg10 (by decide)) (W9_args m ρ c main_arg3 (by decide))) (
    (W9_arr m ρ c 3).trans ((input (V8 m ρ) c).2.1.trans
    (congr (congrArg₂ _ (W8_args m ρ c main_arg9 (by decide)) (W8_args m ρ c main_arg2 (by decide))) (
    (W8_arr m ρ c 2).trans ((input (V7 m ρ) c).1.trans
    (congrArg₂ _ (W7_args m ρ c main_arg8 (by decide)) (W7_args m ρ c main_arg1 (by decide)))))))))))))))))))))))

theorem matrices_end (c : Dev nD) : W21 m ρ c (Proc.devRef .tc main_v14) = right 2048 1024 1664 (m ((c : Thread nD τ).loc main_arg0)) (m ((c : Thread nD τ).loc main_arg8))
    ∧ W21 m ρ c (Proc.devRef .tc main_v15) = right 2048 1024 1024 (m ((c : Thread nD τ).loc main_arg0)) (m ((c : Thread nD τ).loc main_arg9))
    ∧ W21 m ρ c (Proc.devRef .tc main_v16) = right 2048 1024 1024 (m ((c : Thread nD τ).loc main_arg0)) (m ((c : Thread nD τ).loc main_arg10))
    ∧ W21 m ρ c (Proc.devRef .tc main_v17) = right 2048 1024 1024 (m ((c : Thread nD τ).loc main_arg0)) (m ((c : Thread nD τ).loc main_arg11))
    ∧ W21 m ρ c (Proc.devRef .tc main_v18) = right 2048 1024 1024 (m ((c : Thread nD τ).loc main_arg0)) (m ((c : Thread nD τ).loc main_arg12))
    ∧ W21 m ρ c (Proc.devRef .tc main_v19) = right 2048 1024 1024 (m ((c : Thread nD τ).loc main_arg0)) (m ((c : Thread nD τ).loc main_arg13))
    ∧ W21 m ρ c (Proc.devRef .tc main_v20) = right 2048 1024 1024 (m ((c : Thread nD τ).loc main_arg0)) (m ((c : Thread nD τ).loc main_arg14)) :=
  ⟨(kept m ρ c).2.2.2.2.2.2.2.2.1.trans ((W15_arr m ρ c 2).trans ((matrices (V14 m ρ) c).1.trans
     (congrArg₂ _ (W14_args m ρ c main_arg0 (by decide)) (W14_args m ρ c main_arg8 (by decide))))),
   (kept m ρ c).2.2.2.2.2.2.2.2.2.1.trans ((W16_arr m ρ c 2).trans ((matrices (V15 m ρ) c).2.1.trans
     (congrArg₂ _ (W15_args m ρ c main_arg0 (by decide)) (W15_args m ρ c main_arg9 (by decide))))),
   (kept m ρ c).2.2.2.2.2.2.2.2.2.2.1.trans ((W17_arr m ρ c 2).trans ((matrices (V16 m ρ) c).2.2.1.trans
     (congrArg₂ _ (W16_args m ρ c main_arg0 (by decide)) (W16_args m ρ c main_arg10 (by decide))))),
   (kept m ρ c).2.2.2.2.2.2.2.2.2.2.2.1.trans ((W18_arr m ρ c 2).trans ((matrices (V17 m ρ) c).2.2.2.1.trans
     (congrArg₂ _ (W17_args m ρ c main_arg0 (by decide)) (W17_args m ρ c main_arg11 (by decide))))),
   (kept m ρ c).2.2.2.2.2.2.2.2.2.2.2.2.1.trans ((W19_arr m ρ c 2).trans ((matrices (V18 m ρ) c).2.2.2.2.1.trans
     (congrArg₂ _ (W18_args m ρ c main_arg0 (by decide)) (W18_args m ρ c main_arg12 (by decide))))),
   (kept m ρ c).2.2.2.2.2.2.2.2.2.2.2.2.2.trans ((W20_arr m ρ c 2).trans ((matrices (V19 m ρ) c).2.2.2.2.2.1.trans
     (congrArg₂ _ (W19_args m ρ c main_arg0 (by decide)) (W19_args m ρ c main_arg13 (by decide))))),
   (W21_arr m ρ c 2).trans ((matrices (V20 m ρ) c).2.2.2.2.2.2.trans
     (congrArg₂ _ (W20_args m ρ c main_arg0 (by decide)) (W20_args m ρ c main_arg14 (by decide))))⟩

end Cert.InProjIdeal.Value

namespace Cert.InProjReferenceIdeal.Value

open Cert.InProjReferenceIdeal Cert.InProjReferenceIdeal.Gen

variable (u : FVec Ideal S2048x1024 .bf16) (w : FVec Ideal S1024x1024 .bf16) (g : FVec Ideal S2048x1024 .bf16)
variable (w₀ : FVec Ideal S1024x1664 .bf16) (g₀ : FVec Ideal S2048x1664 .bf16)

/-- The product with the matrix of the queries, keys, values and gates, which is wider than the others. -/
theorem wide_is : truncf .bf16 (Host.dotGeneral dot_S2048x1024_S1024x1664_S2048x1664_1_0_0_1_n_n none (extf .f32 u bitsLt_bf16_f32)
    (extf .f32 w₀ bitsLt_bf16_f32)) bitsLt_bf16_f32 = mul 2048 1024 1664 u w₀ := by
  funext i; pointwise []

theorem product_is : truncf .bf16 (Host.dotGeneral dot_S2048x1024_S1024x1024_S2048x1024_1_0_0_1_n_n none (extf .f32 u bitsLt_bf16_f32)
    (extf .f32 w bitsLt_bf16_f32)) bitsLt_bf16_f32 = mul 2048 1024 1024 u w := by
  funext i; pointwise []

theorem wide_share : Host.dotGeneral dot_S2048x1664_S1024x1664_S2048x1024_1_1_0_0_n_n none (extf .f32 g₀ bitsLt_bf16_f32)
    (extf .f32 w₀ bitsLt_bf16_f32) = left 2048 1024 1664 g₀ w₀ := by
  funext i; pointwise []

theorem share : Host.dotGeneral dot_S2048x1024_S1024x1024_S2048x1024_1_1_0_0_n_n none (extf .f32 g bitsLt_bf16_f32)
    (extf .f32 w bitsLt_bf16_f32) = left 2048 1024 1024 g w := by
  funext i; pointwise []

/-- The gradients' shares summed one after the other, and summed the other way round. -/
theorem sum_is (s₁ s₂ s₃ s₄ s₅ s₆ s₇ : FVec Ideal S2048x1024 .f32) :
    truncf .bf16 (addf (addf (addf (addf (addf (addf s₁ s₂) s₃) s₄) s₅) s₆) s₇) bitsLt_bf16_f32
    = fun i => s₁ i + (s₂ i + (s₃ i + (s₄ i + (s₅ i + (s₆ i + s₇ i))))) := by
  funext i; pointwise []
  simp only [add_assoc]

theorem wide_matrix_is : truncf .bf16 (transpose S1024x1664 [1, 0] (Host.dotGeneral dot_S2048x1664_S2048x1024_S1664x1024_0_0_1_1_n_n none
    (extf .f32 g₀ bitsLt_bf16_f32) (extf .f32 u bitsLt_bf16_f32)) transposes_S1664x1024_S1024x1664_1_0) bitsLt_bf16_f32
    = right 2048 1024 1664 u g₀ := by
  funext i; pointwise []
  exact Finset.sum_congr rfl fun x _ => mul_comm _ _

theorem matrix_is : truncf .bf16 (transpose S1024x1024 [1, 0] (Host.dotGeneral dot_S2048x1024_S2048x1024_S1024x1024_0_0_1_1_n_n none
    (extf .f32 g bitsLt_bf16_f32) (extf .f32 u bitsLt_bf16_f32)) transposes_S1024x1024_S1024x1024_1_0) bitsLt_bf16_f32
    = right 2048 1024 1024 u g := by
  funext i; pointwise []
  exact Finset.sum_congr rfl fun x _ => mul_comm _ _

end Cert.InProjReferenceIdeal.Value

namespace Cert.Proof.InProj

open Cert.InProjIdeal.Gen
open Cert.InProjIdeal.Value (products_end input_end matrices_end)
open Cert.InProjReferenceIdeal.Value (wide_is product_is wide_share share sum_is wide_matrix_is matrix_is)

theorem frame_kernel : Cert.quiescent_InProj := fun m g _ => Cert.InProj.Gen.frame m g

theorem frame_ideal : Cert.quiescent_InProjIdeal := fun m g _ => Cert.InProjIdeal.Gen.frame m g

theorem frame_reference : Cert.quiescent_InProjReferenceIdeal := fun m g _ =>
  (θ_run Cert.InProjReferenceIdeal.defs _ _).mono
    (fun r h => ⟨fun c => (h c).2.2.2.2.2.2.2.2.2.2.2.2.2.2.2, sem_eq_zero_of_no_sems (by decide) r.2⟩)
    (Cert.InProjReferenceIdeal.Value.run m g)

set_option maxHeartbeats 2000000 in
/-- The products and all gradients are the reference's. -/
theorem products : Cert.algebraic_InProjIdeal_InProjReferenceIdeal := fun m g m' g' _ hargs =>
  ⟨fun c => W21 m g c (Proc.devRef .tc Cert.InProjIdeal.main_v0),
   fun c => W21 m g c (Proc.devRef .tc Cert.InProjIdeal.main_v1),
   fun c => W21 m g c (Proc.devRef .tc Cert.InProjIdeal.main_v2),
   fun c => W21 m g c (Proc.devRef .tc Cert.InProjIdeal.main_v3),
   fun c => W21 m g c (Proc.devRef .tc Cert.InProjIdeal.main_v4),
   fun c => W21 m g c (Proc.devRef .tc Cert.InProjIdeal.main_v5),
   fun c => W21 m g c (Proc.devRef .tc Cert.InProjIdeal.main_v6),
   fun c => W21 m g c (Proc.devRef .tc Cert.InProjIdeal.main_v13),
   fun c => W21 m g c (Proc.devRef .tc Cert.InProjIdeal.main_v14),
   fun c => W21 m g c (Proc.devRef .tc Cert.InProjIdeal.main_v15),
   fun c => W21 m g c (Proc.devRef .tc Cert.InProjIdeal.main_v16),
   fun c => W21 m g c (Proc.devRef .tc Cert.InProjIdeal.main_v17),
   fun c => W21 m g c (Proc.devRef .tc Cert.InProjIdeal.main_v18),
   fun c => W21 m g c (Proc.devRef .tc Cert.InProjIdeal.main_v19),
   fun c => W21 m g c (Proc.devRef .tc Cert.InProjIdeal.main_v20),
   (θ_run Cert.InProjIdeal.defs _ _).mono (fun _ h c => by
     refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
     iterate 15 exact h c _ (mem_uc _ (by decide))
     all_goals exact (h c _ (mem_uc _ (by decide))).trans (W21_args m g c _ (by decide)))
     (Cert.InProjIdeal.Value.run m g),
   (θ_run Cert.InProjReferenceIdeal.defs _ _).mono (fun _ h c => by
     obtain ⟨e0, e1, e2, e3, e4, e5, e6, e7, e8, e9, e10, e11, e12, e13, e14⟩ := hargs c
     obtain ⟨r0, r1, r2, r3, r4, r5, r6, r7, r8, r9, r10, r11, r12, r13, r14, kept⟩ := h c
     obtain ⟨y0, y1, y2, y3, y4, y5, y6⟩ := products_end m g c
     obtain ⟨d0, d1, d2, d3, d4, d5, d6⟩ := matrices_end m g c
     refine ⟨r0.trans ((wide_is _ _).trans ?_), r1.trans ((product_is _ _).trans ?_), r2.trans ((product_is _ _).trans ?_), r3.trans ((product_is _ _).trans ?_), r4.trans ((product_is _ _).trans ?_), r5.trans ((product_is _ _).trans ?_), r6.trans ((product_is _ _).trans ?_),
       r7.trans ((sum_is _ _ _ _ _ _ _).trans ?_), r8.trans ((wide_matrix_is _ _).trans ?_),
       r9.trans ((matrix_is _ _).trans ?_), r10.trans ((matrix_is _ _).trans ?_), r11.trans ((matrix_is _ _).trans ?_), r12.trans ((matrix_is _ _).trans ?_), r13.trans ((matrix_is _ _).trans ?_), r14.trans ((matrix_is _ _).trans ?_), kept⟩
     · rw [e0, e1]; exact y0.symm
     · rw [e0, e2]; exact y1.symm
     · rw [e0, e3]; exact y2.symm
     · rw [e0, e4]; exact y3.symm
     · rw [e0, e5]; exact y4.symm
     · rw [e0, e6]; exact y5.symm
     · rw [e0, e7]; exact y6.symm
     · rw [share, share, share, share, share, share, wide_share, e1, e2, e3, e4, e5, e6, e7, e8, e9, e10, e11, e12, e13, e14]
       exact (input_end m g c).symm
     · rw [e0, e8]; exact d0.symm
     · rw [e0, e9]; exact d1.symm
     · rw [e0, e10]; exact d2.symm
     · rw [e0, e11]; exact d3.symm
     · rw [e0, e12]; exact d4.symm
     · rw [e0, e13]; exact d5.symm
     · rw [e0, e14]; exact d6.symm)
     (Cert.InProjReferenceIdeal.Value.run m' g')⟩

end Cert.Proof.InProj

end
-- ==== Proof.Gate.lean ====
/- The gate that mixes the two mixers' outputs, forward and backward: each array is the reference's. -/
module

public import proofs.«01_k».proof.Defs
public import proofs.«01_k».proof.Proof.Products
public import proofs.«01_k».proof.Proof.Launched
public import proofs.«01_k».proof.Proof.Gen.Gate.Frame
public import proofs.«01_k».proof.Proof.Gen.GateIdeal.Frame
public import proofs.«01_k».proof.Proof.Gen.GateReferenceIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Cert.Product

namespace Cert.Gated

/-- The logistic function as both programs write it. -/
abbrev gate (x : EReal) : EReal := Ideal.div 1 (1 + Ideal.exp (-x))

/-- The slope of the logistic function as the kernel has it, at a gradient `z`, is its textbook form. -/
theorem slope (x z : EReal) : -(-(z * Ideal.div 1 ((1 + Ideal.exp (-x)) * (1 + Ideal.exp (-x)))) * Ideal.exp (-x))
    = z * (gate x * (1 - gate x)) := by
  rw [EReal.neg_mul, neg_neg, mul_assoc]
  congr 1
  change _ = Ideal.logistic x * (1 - Ideal.logistic x)
  induction x with
  | bot =>
    rw [Ideal.logistic_bot, EReal.neg_bot, Ideal.exp_top, EReal.add_top_of_ne_bot (show (1 : EReal) ≠ ⊥ from EReal.coe_ne_bot 1),
      EReal.top_mul_top, Ideal.div, if_neg (by simp), EReal.inv_top]
    simp
  | top =>
    rw [Ideal.logistic_top, EReal.neg_top, Ideal.exp_bot, mul_zero, one_mul]
    exact (EReal.sub_self (EReal.coe_ne_top 1) (EReal.coe_ne_bot 1)).symm
  | coe r =>
    have hp : (0 : ℝ) < 1 + Real.exp (-r) := by positivity
    have hd : (1 : EReal) + Ideal.exp (-(r : EReal)) = ((1 + Real.exp (-r) : ℝ) : EReal) := by
      rw [← EReal.coe_neg, Ideal.exp_coe, EReal.coe_add, EReal.coe_one]
    rw [Ideal.logistic_coe, hd, ← EReal.coe_mul, Ideal.div, if_neg (by exact_mod_cast (mul_pos hp hp).ne'), one_mul, ← EReal.coe_inv,
      ← EReal.coe_neg, Ideal.exp_coe, ← EReal.coe_mul, ← EReal.coe_one, ← EReal.coe_sub, ← EReal.coe_mul]
    congr 1
    field_simp
    ring

/-- The arrays that the gate works on. -/
abbrev Arr : Type := Mat 2048 1024

/-- The mixture. -/
abbrev mixed (ga gb ya yb : Arr) : Arr := fun i => gate (ga i) * ya i + gate (gb i) * yb i
/-- The gradient of a gate, `g` being the mixture's and `y` what the gate lets through. -/
abbrev ofGate (x y g : Arr) : Arr := fun i => g i * y i * (gate (x i) * (1 - gate (x i)))
/-- The gradient of what a gate lets through. -/
abbrev ofValue (x g : Arr) : Arr := fun i => gate (x i) * g i

end Cert.Gated

namespace Cert.GateIdeal.Value

open Cert.GateIdeal Cert.GateIdeal.Gen Cert.Gated

section Regions

variable (V : (c : Dev nD) → (b : Ref sig .tc) → Buf (Elt Ideal) ((c : Thread nD τ).loc b))

theorem idx0 : ∀ t : Fin cfg0.N, win0_0.index t = ![(grid0.coords t 1).val, (grid0.coords t 0).val]
    ∧ win0_1.index t = ![(grid0.coords t 1).val, (grid0.coords t 0).val]
    ∧ win0_2.index t = ![(grid0.coords t 1).val, (grid0.coords t 0).val]
    ∧ win0_3.index t = ![(grid0.coords t 1).val, (grid0.coords t 0).val]
    ∧ win0_4.index t = ![(grid0.coords t 1).val, (grid0.coords t 0).val] :=
  (by decide +kernel : ∀ t : Fin grid0.N, _)

/-- The forward call leaves the mixture. -/
theorem fwd (c : Dev nD) : (dat0 V c).arrAt 4 cfg0.N = mixed (V c main_arg0) (V c main_arg1) (V c main_arg2) (V c main_arg3) := by
  refine (dat0 V c).arrAt_eq_of_covers 4 _ (by decide +kernel) fun t _ y => ?_
  blk_simp
  rw [after0_4]
  frame_out
  pointwise [k0_pay1, mixed]
  simp only [zero_sub, gate]
  blk_point [iblk0, idx0 t]

theorem idx1 : ∀ t : Fin cfg1.N, win1_0.index t = ![(grid1.coords t 1).val, (grid1.coords t 0).val]
    ∧ win1_1.index t = ![(grid1.coords t 1).val, (grid1.coords t 0).val]
    ∧ win1_2.index t = ![(grid1.coords t 1).val, (grid1.coords t 0).val]
    ∧ win1_3.index t = ![(grid1.coords t 1).val, (grid1.coords t 0).val]
    ∧ win1_4.index t = ![(grid1.coords t 1).val, (grid1.coords t 0).val]
    ∧ win1_5.index t = ![(grid1.coords t 1).val, (grid1.coords t 0).val]
    ∧ win1_6.index t = ![(grid1.coords t 1).val, (grid1.coords t 0).val]
    ∧ win1_7.index t = ![(grid1.coords t 1).val, (grid1.coords t 0).val]
    ∧ win1_8.index t = ![(grid1.coords t 1).val, (grid1.coords t 0).val] :=
  (by decide +kernel : ∀ t : Fin grid1.N, _)

/-- The backward call leaves the gradients of the two gates and of what they let through. -/
theorem bwd (c : Dev nD) : (dat1 V c).arrAt 5 cfg1.N = ofGate (V c main_arg0) (V c main_arg2) (V c main_arg4)
    ∧ (dat1 V c).arrAt 6 cfg1.N = ofGate (V c main_arg1) (V c main_arg3) (V c main_arg4)
    ∧ (dat1 V c).arrAt 7 cfg1.N = ofValue (V c main_arg0) (V c main_arg4)
    ∧ (dat1 V c).arrAt 8 cfg1.N = ofValue (V c main_arg1) (V c main_arg4) := by
  refine ⟨?_, ?_, ?_, ?_⟩ <;> refine Pipeline.Dat.arrAt_eq_of_covers _ _ _ (by decide +kernel) fun t _ y => ?_ <;> blk_simp <;>
    first | rw [after1_5] | rw [after1_6] | rw [after1_7] | rw [after1_8]
  all_goals frame_out
  all_goals pointwise [k1_pay1, k1_pay2, k1_pay3, k1_pay4, k1_pay5, k1_pay6, k1_pay7, k1_pay8, k1_pay9, k1_pay10, k1_pay11, k1_pay12,
    k1_pay13, k1_pay14, k1_pay15, ofGate, ofValue]
  all_goals simp only [zero_sub, mul_one]
  · rw [← slope]
    blk_point [iblk1, idx1 t]
  · rw [← slope]
    blk_point [iblk1, idx1 t]
  all_goals simp only [gate]
  · blk_point [iblk1, idx1 t]
  · blk_point [iblk1, idx1 t]

end Regions

variable (m : (ℓ : Loc nD τ sig) → Buf (Elt Ideal) ℓ) (ρ : Dev nD → PrngReg)

/-- What the run leaves in every buffer that outlives it. -/
theorem run : θ_run defs (onTc (τ := τ) (main (F := Ideal))) ⟨m, fun _ => 0, ρ⟩ fun r =>
    ∀ c : Dev nD, ∀ b ∈ Pipeline.ucRefs τ sig, r.2.mem ((c : Thread nD τ).1, b) = W2 m ρ c b :=
  leaves cfgs cellOf_inj defs₀ (pdats m ρ) m ρ main (segs m ρ) (W2 m ρ) (main_run m ρ)
    (by simp only [segs, Pipeline.Seg.pipes_region, Pipeline.Seg.pipes_nil]; decide)
    ⟨fun _ => .rfl, fun _ => .rfl, fun _ => .rfl⟩

/-- The second call's arguments are the program's. -/
theorem kept (c : Dev nD) : V1 m ρ c main_arg0 = m ((c : Thread nD τ).loc main_arg0) ∧ V1 m ρ c main_arg1 = m ((c : Thread nD τ).loc main_arg1)
    ∧ V1 m ρ c main_arg2 = m ((c : Thread nD τ).loc main_arg2) ∧ V1 m ρ c main_arg3 = m ((c : Thread nD τ).loc main_arg3)
    ∧ V1 m ρ c main_arg4 = m ((c : Thread nD τ).loc main_arg4) :=
  ⟨W1_args m ρ c _ (by decide), W1_args m ρ c _ (by decide), W1_args m ρ c _ (by decide), W1_args m ρ c _ (by decide),
    W1_args m ρ c _ (by decide)⟩

theorem y_end (c : Dev nD) : W2 m ρ c (Proc.devRef .tc main_v0)
    = mixed (m ((c : Thread nD τ).loc main_arg0)) (m ((c : Thread nD τ).loc main_arg1)) (m ((c : Thread nD τ).loc main_arg2))
      (m ((c : Thread nD τ).loc main_arg3)) :=
  (W2_of m ρ c main_v0 (by decide)).trans ((W1_arr m ρ c 4).trans (fwd (V0 m ρ) c))

theorem ga_end (c : Dev nD) : W2 m ρ c (Proc.devRef .tc main_v1_0)
    = ofGate (m ((c : Thread nD τ).loc main_arg0)) (m ((c : Thread nD τ).loc main_arg2)) (m ((c : Thread nD τ).loc main_arg4)) := by
  obtain ⟨h0, -, h2, -, h4⟩ := kept m ρ c
  rw [← h0, ← h2, ← h4]
  exact (W2_arr m ρ c 5).trans (bwd (V1 m ρ) c).1

theorem gb_end (c : Dev nD) : W2 m ρ c (Proc.devRef .tc main_v1_1)
    = ofGate (m ((c : Thread nD τ).loc main_arg1)) (m ((c : Thread nD τ).loc main_arg3)) (m ((c : Thread nD τ).loc main_arg4)) := by
  obtain ⟨-, h1, -, h3, h4⟩ := kept m ρ c
  rw [← h1, ← h3, ← h4]
  exact (W2_arr m ρ c 6).trans (bwd (V1 m ρ) c).2.1

theorem ya_end (c : Dev nD) : W2 m ρ c (Proc.devRef .tc main_v1_2)
    = ofValue (m ((c : Thread nD τ).loc main_arg0)) (m ((c : Thread nD τ).loc main_arg4)) := by
  obtain ⟨h0, -, -, -, h4⟩ := kept m ρ c
  rw [← h0, ← h4]
  exact (W2_arr m ρ c 7).trans (bwd (V1 m ρ) c).2.2.1

theorem yb_end (c : Dev nD) : W2 m ρ c (Proc.devRef .tc main_v1_3)
    = ofValue (m ((c : Thread nD τ).loc main_arg1)) (m ((c : Thread nD τ).loc main_arg4)) := by
  obtain ⟨-, h1, -, -, h4⟩ := kept m ρ c
  rw [← h1, ← h4]
  exact (W2_arr m ρ c 8).trans (bwd (V1 m ρ) c).2.2.2

end Cert.GateIdeal.Value

namespace Cert.GateReferenceIdeal.Value

open Cert.GateReferenceIdeal Cert.GateReferenceIdeal.Gen Cert.Gated

/-- A stage of the reference: the logistic function of an array. -/
abbrev gates (x : FVec Ideal S2048x1024 .bf16) : FVec Ideal S2048x1024 .f32 :=
  Host.divf (broadcastInDim S2048x1024 ![] bcast_S_S2048x1024 (constant S_ .f32 0x3F800000#32)) (addf (broadcastInDim S2048x1024 ![] bcast_S_S2048x1024 (constant S_ .f32 0x3F800000#32)) (Host.exp (Host.negf (extf .f32 x bitsLt_bf16_f32))))

variable (ga gb ya yb g : FVec Ideal S2048x1024 .bf16)

theorem y_is : truncf .bf16 (addf (mulf (gates ga) (extf .f32 ya bitsLt_bf16_f32)) (mulf (gates gb) (extf .f32 yb bitsLt_bf16_f32))) bitsLt_bf16_f32
    = mixed ga gb ya yb := by
  funext i; pointwise [gates, mixed]

theorem gate_is : truncf .bf16 (mulf (mulf (extf .f32 g bitsLt_bf16_f32) (extf .f32 ya bitsLt_bf16_f32)) (mulf (gates ga)
    (subf (broadcastInDim S2048x1024 ![] bcast_S_S2048x1024 (constant S_ .f32 0x3F800000#32)) (gates ga)))) bitsLt_bf16_f32 = ofGate ga ya g := by
  funext i; pointwise [gates, ofGate]

theorem value_is : truncf .bf16 (mulf (gates ga) (extf .f32 g bitsLt_bf16_f32)) bitsLt_bf16_f32 = ofValue ga g := by
  funext i; pointwise [gates, ofValue]

end Cert.GateReferenceIdeal.Value

namespace Cert.Proof.Gate

open Cert.GateIdeal.Gen (W2 W2_main_arg0 W2_main_arg1 W2_main_arg2 W2_main_arg3 W2_main_arg4 mem_uc)
open Cert.GateIdeal.Value (y_end ga_end gb_end ya_end yb_end)
open Cert.GateReferenceIdeal.Value (y_is gate_is value_is)

theorem frame_kernel : Cert.quiescent_Gate := fun m g _ => Cert.Gate.Gen.frame m g

theorem frame_ideal : Cert.quiescent_GateIdeal := fun m g _ => Cert.GateIdeal.Gen.frame m g

theorem frame_reference : Cert.quiescent_GateReferenceIdeal := fun m g _ =>
  (θ_run Cert.GateReferenceIdeal.defs _ _).mono
    (fun r h => ⟨fun c => (h c).2.2.2.2.2, sem_eq_zero_of_no_sems (by decide) r.2⟩)
    (Cert.GateReferenceIdeal.Value.run m g)

/-- The mixture and its gradients are the reference's. -/
theorem mixes : Cert.algebraic_GateIdeal_GateReferenceIdeal := fun m g m' g' _ hargs =>
  ⟨fun c => W2 m g c (Proc.devRef .tc Cert.GateIdeal.main_v0), fun c => W2 m g c (Proc.devRef .tc Cert.GateIdeal.main_v1_0),
   fun c => W2 m g c (Proc.devRef .tc Cert.GateIdeal.main_v1_1), fun c => W2 m g c (Proc.devRef .tc Cert.GateIdeal.main_v1_2),
   fun c => W2 m g c (Proc.devRef .tc Cert.GateIdeal.main_v1_3),
   (θ_run Cert.GateIdeal.defs _ _).mono (fun _ h c =>
     ⟨h c _ (mem_uc _ (by decide)), h c _ (mem_uc _ (by decide)), h c _ (mem_uc _ (by decide)), h c _ (mem_uc _ (by decide)),
      h c _ (mem_uc _ (by decide)),
      (h c _ (mem_uc _ (by decide))).trans (W2_main_arg0 m g c), (h c _ (mem_uc _ (by decide))).trans (W2_main_arg1 m g c),
      (h c _ (mem_uc _ (by decide))).trans (W2_main_arg2 m g c), (h c _ (mem_uc _ (by decide))).trans (W2_main_arg3 m g c),
      (h c _ (mem_uc _ (by decide))).trans (W2_main_arg4 m g c)⟩)
     (Cert.GateIdeal.Value.run m g),
   (θ_run Cert.GateReferenceIdeal.defs _ _).mono (fun _ h c => by
     obtain ⟨h0, h1, h2, h3, h4⟩ := hargs c
     obtain ⟨r0, r1, r2, r3, r4, ha⟩ := h c
     refine ⟨r0.trans ((y_is _ _ _ _).trans ?_), r1.trans ((gate_is _ _ _).trans ?_), r2.trans ((gate_is _ _ _).trans ?_),
       r3.trans ((value_is _ _).trans ?_), r4.trans ((value_is _ _).trans ?_), ha⟩
     · rw [h0, h1, h2, h3]; exact (y_end m g c).symm
     · rw [h0, h2, h4]; exact (ga_end m g c).symm
     · rw [h1, h3, h4]; exact (gb_end m g c).symm
     · rw [h0, h4]; exact (ya_end m g c).symm
     · rw [h1, h4]; exact (yb_end m g c).symm)
     (Cert.GateReferenceIdeal.Value.run m' g')⟩

end Cert.Proof.Gate

end
-- ==== Proof.Attention.lean ====
/-
The attention's forward kernel: what it stores, the array that it leaves, and the reference's result. The two are the
same for all arguments: a masked score's share of the softmax is zero, unless the row's largest score or sink is
infinite, and then every share of the row is the same.
-/
module

public import proofs.«01_k».proof.Defs
public import proofs.«01_k».proof.Proof.Algebraic
public import proofs.«01_k».proof.Proof.Gen.Attention.Frame
public import proofs.«01_k».proof.Proof.Gen.AttentionIdeal.Frame
public import proofs.«01_k».proof.Proof.Gen.AttentionReferenceIdeal.Run

@[expose] public section

set_option maxRecDepth 16384

noncomputable section

open Idealize.ShloMosaic Idealize.ShloMosaic.TcCoe Idealize.SL.Sem
open Idealize.ShloMosaic.Pipeline (Dat)

namespace Swa

/-- The attention's output: the values of a query row, weighted by its softmax. -/
def Cell.att (c : Cell) (i : Fin 512) (d : Fin 64) : EReal := ∑ j, c.pn i j * c.val j d

/-- Zero and the infinities are their own doubles. -/
theorem add_self_of {x : EReal} (h : x = ⊥ ∨ x = 0 ∨ x = ⊤) : x + x = x := by
  rcases h with rfl | rfl | rfl <;> simp

theorem bot_mul_of (x : EReal) : (⊥ : EReal) * x = ⊥ ∨ (⊥ : EReal) * x = 0 ∨ (⊥ : EReal) * x = ⊤ := by
  rcases lt_trichotomy x 0 with h | h | h
  · exact Or.inr (Or.inr (EReal.bot_mul_of_neg h))
  · exact Or.inr (Or.inl (by rw [h, mul_zero]))
  · exact Or.inl (EReal.bot_mul_of_pos h)

theorem sum_of {ι : Type} (S : Finset ι) (f : ι → EReal) (h : ∀ i, f i = ⊥ ∨ f i = 0 ∨ f i = ⊤) :
    ∑ i ∈ S, f i = ⊥ ∨ ∑ i ∈ S, f i = 0 ∨ ∑ i ∈ S, f i = ⊤ := by
  classical
  induction S using Finset.induction_on with
  | empty => simp
  | insert a S ha ih =>
    rw [Finset.sum_insert ha]
    rcases h a with e | e | e <;> rcases ih with e' | e' | e' <;> rw [e, e'] <;> simp

section Row

variable (s : Fin 256 → EReal) (σ : EReal)

theorem le_rowMax (j : Fin 256) : s j ≤ rowMax s σ :=
  (Finset.le_fold_max _ |>.2 (Or.inr ⟨j, Finset.mem_univ _, le_refl _⟩)).trans (le_max_left _ _)
theorem exp_sub_infinite {x y : EReal} (hy : ¬ IsReal y) (h : x ≤ y) : Ideal.exp (x - y) = 0 := by
  have e : x - y = ⊥ := by
    by_cases hb : y = ⊥
    · subst hb; rw [le_bot_iff.1 h]; exact EReal.bot_sub _
    · by_cases ht : y = ⊤
      · subst ht; exact EReal.sub_top _
      · exact absurd (IsReal.of_ne hb ht) hy
  rw [e, Ideal.exp_bot]
/-- Below an infinite maximum every exponential is zero, and every share of the softmax the quotient of zeros. -/
theorem rowSoft_infinite (h : ¬ IsReal (rowMax s σ)) (j : Fin 256) : rowSoft s σ j = ⊥ := by
  have hp : ∀ j, rowExp s σ j = 0 := fun j => exp_sub_infinite h (le_rowMax s σ j)
  have hE : sinkExp s σ = 0 := exp_sub_infinite h (le_max_right _ _)
  have hD : rowDen s σ = 0 := by unfold rowDen; simp [hp, hE]
  unfold rowSoft
  rw [hp, hD]
  simp [Ideal.div]
theorem exp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top
/-- Below a real maximum a masked score has no share. -/
theorem rowSoft_masked (h : IsReal (rowMax s σ)) (j : Fin 256) (hj : s j = ⊥) : rowSoft s σ j = 0 := by
  have hp : rowExp s σ j = 0 := by
    obtain ⟨M, hM⟩ := h
    unfold rowExp
    rw [hj, EReal.bot_sub, Ideal.exp_bot]
  have one : ∀ x, x = rowMax s σ → Ideal.exp (x - rowMax s σ) = 1 := by
    rintro x rfl
    obtain ⟨M, hM⟩ := h
    rw [hM, ← EReal.coe_sub, sub_self, Ideal.exp_coe, Real.exp_zero]; rfl
  have hsum : 0 ≤ ∑ x, rowExp s σ x := Finset.sum_nonneg fun x _ => exp_nonneg _
  have hD : (1 : EReal) ≤ rowDen s σ := by
    unfold rowDen
    obtain ⟨k, hk⟩ := fold_reached s
    rcases max_choice (s k) σ with e | e
    · have : rowExp s σ k = 1 := one _ (by unfold rowMax; rw [hk, e])
      refine le_add_of_le_of_nonneg ?_ (exp_nonneg _)
      rw [← this]
      exact Finset.single_le_sum (f := rowExp s σ) (fun x _ => exp_nonneg _) (Finset.mem_univ k)
    · have : sinkExp s σ = 1 := one _ (by unfold rowMax; rw [hk, e])
      rw [this]
      exact le_add_of_nonneg_left hsum
  unfold rowSoft
  rw [hp]
  exact div_zero_left (ne_of_gt (lt_of_lt_of_le zero_lt_one hD))

end Row
/-- With every share the same infinity, values that come twice weigh as much as values that come once. -/
theorem sum_twice (f g : Fin 256 → EReal) (h0 : ∀ j : Fin 128, f ⟨j.val, by omega⟩ = 0)
    (h1 : ∀ j : Fin 128, f ⟨128 + j.val, by omega⟩ = g ⟨128 + j.val, by omega⟩)
    (h2 : ∀ j : Fin 128, g ⟨j.val, by omega⟩ = g ⟨128 + j.val, by omega⟩) :
    ∑ j, (⊥ : EReal) * f j = ∑ j, (⊥ : EReal) * g j := by
  rw [sum_halves, sum_halves]
  simp only [h0, h1, h2, mul_zero, Finset.sum_const_zero, zero_add]
  exact (add_self_of (sum_of _ _ fun j => bot_mul_of _)).symm

end Swa

namespace Cert.AttentionIdeal.Value

open Cert.AttentionIdeal Cert.AttentionIdeal.Gen
open Cert.KernelIdeal.Value (tileCell blkCell argCell hn hn_at tq0 tq1 tq2 tq3 tk0 tk1 tk2 tk3 ts0 ts1 ts2 ts3 cell0 cell1 cell2 cell3)

section head

variable (b : BitVec 1) (q : FVec Ideal S4x128x64 .bf16) (kp kc vp vc : FVec Ideal S1x128x64 .bf16)
  (sk : FVec Ideal S1x512x1 .f32)

/-- What one head stores. -/
def ho : FVec Ideal S4x128x64 .bf16 := k0_pay1 (k0_pay32 (k0_pay17 vp) (k0_pay21 vc)) (hn b q kp kc sk)

theorem weigh_at (y : FVec Ideal S256x64 .bf16) (s : FVec Ideal S512x256 .f32) (h : Fin 4) (i : Fin 128) (d : Fin 64) :
    k0_pay1 y s (ix3 h i d) = ∑ j : Fin 256, s (ix2 ⟨h.val * 128 + i.val, by omega⟩ j) * y (ix2 j d) := by
  pointwise [k0_pay1]
theorem vals_at (j : Fin 256) (d : Fin 64) : k0_pay32 (k0_pay17 vp) (k0_pay21 vc) (ix2 j d) =
    if h : j.val < 128 then vp (ix3 0 ⟨j.val, by omega⟩ d) else vc (ix3 0 ⟨j.val - 128, by omega⟩ d) := by
  pointwise [k0_pay32, k0_pay17, k0_pay21]
theorem ho_at (h : Fin 4) (i : Fin 128) (d : Fin 64) : ho b q kp kc vp vc sk (ix3 h i d) =
    (tileCell b q kp kc vp vc sk q).att ⟨h.val * 128 + i.val, by omega⟩ d := by
  unfold ho
  rw [weigh_at]
  simp only [hn_at b q kp kc vp vc sk q, vals_at]
  rfl

end head

variable (m : (ℓ : Loc nD τ sig) → Buf (Elt Ideal) ℓ)

/-- Whether a grid point is the first. -/
def fst0 (t : Fin cfg0.N) : BitVec 1 := Scalar.cmpi CmpIPredicate.eq (BitVec.ofNat 32 ((grid0.coords t 0).val)) 0#32

/-- The cell of four heads at a grid point. -/
def ptCell (c : Dev nD) (t : Fin cfg0.N) (k : Fin 4) : Swa.Cell :=
  blkCell (fst0 t) (iblk m c 0 t) (iblk m c 1 t) (iblk m c 2 t) (iblk m c 3 t) (iblk m c 4 t) (iblk m c 5 t)
    (iblk m c 0 t) k

/-- What window 6 holds. -/
def sp6 (c : Dev nD) (t : Fin cfg0.N) (h : Fin 16) (i : Fin 128) (d : Fin 64) : EReal :=
  (ptCell m c t ⟨h.val / 4, by omega⟩).att ⟨h.val % 4 * 128 + i.val, by omega⟩ d

/-- What a head stores is what the window holds at the head's offset. -/
theorem piece6 (c : Dev nD) (t : Fin cfg0.N) (k : Fin 4) (x : S4x128x64.Idx) (y : S16x128x64.Idx) (q : FVec Ideal S4x128x64 .bf16)
    (kp kc vp vc : FVec Ideal S1x128x64 .bf16) (sk : FVec Ideal S1x512x1 .f32)
    (e : tileCell (fst0 t) q kp kc vp vc sk q = ptCell m c t k)
    (h0 : (y 0).val = k.val * 4 + (x 0).val) (h1 : (y 1).val = (x 1).val) (h2 : (y 2).val = (x 2).val) :
    ho (fst0 t) q kp kc vp vc sk x = sp6 m c t (y 0) (y 1) (y 2) := by
  have hx : (x 0).val < 4 := (x 0).isLt
  have hx1 : (x 1).val < 128 := (x 1).isLt
  have hy : (y 0).val < 16 := (y 0).isLt
  have hy1 : (y 1).val < 128 := (y 1).isLt
  refine (congrArg (ho (fst0 t) q kp kc vp vc sk) (eq_ix3 x)).trans ?_
  refine (ho_at _ _ _ _ _ _ _ _ _ _).trans ?_
  rw [e]
  unfold sp6
  have a0 : (y 0).val / 4 = k.val := by omega
  have a1 : (y 0).val % 4 * 128 + (y 1).val = (x 0).val * 128 + (x 1).val := by omega
  have e0 : (⟨(y 0).val / 4, by omega⟩ : Fin 4) = k := Fin.ext a0
  have e1 : (⟨(y 0).val % 4 * 128 + (y 1).val, by omega⟩ : Fin 512) = ⟨(x 0).val * 128 + (x 1).val, by omega⟩ := Fin.ext a1
  have e2 : y 2 = x 2 := Fin.ext h2
  exact (congr (congr (congrArg (fun k i d => (ptCell m c t k).att i d) e0) e1) e2).symm

theorem outA6 (c : Dev nD) (t : Fin cfg0.N) (y : S16x128x64.Idx) :
    out0_6 (grid0.coords t) (iblk m c 0 t) (iblk m c 1 t) (iblk m c 2 t) (iblk m c 3 t) (iblk m c 4 t) (iblk m c 5 t) y =
      sp6 m c t (y 0) (y 1) (y 2) := by
  unfold_out out0_6
  canon_tiles x h
  · refine Eq.trans ?_ (piece6 m c t 3 x y (tq3 (iblk m c 0 t)) (tk3 (iblk m c 1 t)) (tk3 (iblk m c 2 t)) (tk3 (iblk m c 3 t))
      (tk3 (iblk m c 4 t)) (ts3 (iblk m c 5 t)) (cell3 _ _ _ _ _ _ _ _) (by omega) (by omega) (by omega))
    rfl
  · refine Eq.trans ?_ (piece6 m c t 2 x y (tq2 (iblk m c 0 t)) (tk2 (iblk m c 1 t)) (tk2 (iblk m c 2 t)) (tk2 (iblk m c 3 t))
      (tk2 (iblk m c 4 t)) (ts2 (iblk m c 5 t)) (cell2 _ _ _ _ _ _ _ _) (by omega) (by omega) (by omega))
    rfl
  · refine Eq.trans ?_ (piece6 m c t 1 x y (tq1 (iblk m c 0 t)) (tk1 (iblk m c 1 t)) (tk1 (iblk m c 2 t)) (tk1 (iblk m c 3 t))
      (tk1 (iblk m c 4 t)) (ts1 (iblk m c 5 t)) (cell1 _ _ _ _ _ _ _ _) (by omega) (by omega) (by omega))
    rfl
  · refine Eq.trans ?_ (piece6 m c t 0 x y (tq0 (iblk m c 0 t)) (tk0 (iblk m c 1 t)) (tk0 (iblk m c 2 t)) (tk0 (iblk m c 3 t))
      (tk0 (iblk m c 4 t)) (ts0 (iblk m c 5 t)) (cell0 _ _ _ _ _ _ _ _) (by omega) (by omega) (by omega))
    rfl

theorem V_v1 (c : Dev nD) (h : Fin 16) (s : Fin 2048) (d : Fin 64) :
    (V m c main_v1 : FVec Ideal S16x2048x64 .bf16) (ix3 h s d) =
      (m ((c : Thread nD τ).loc main_arg0) : FVec Ideal S2048x1024 .bf16) (ix2 s ⟨h.val * 64 + d.val, by omega⟩) := by
  have e : V m c main_v1 = (transpose S16x2048x64 [1, 0, 2] (shapeCast S2048x16x64
      (m ((c : Thread nD τ).loc main_arg0) : FVec Ideal S2048x1024 .bf16) shapeCasts_S2048x1024_S2048x16x64)
      transposes_S2048x16x64_S16x2048x64_1_0_2 : FVec Ideal S16x2048x64 .bf16) := by
    unfold_abbrev_sides; after_results; try rfl
  rw [e]
  generalize (m ((c : Thread nD τ).loc main_arg0) : FVec Ideal S2048x1024 .bf16) = x
  pointwise
theorem V_v3 (c : Dev nD) (h : Fin 4) (s : Fin 2048) (d : Fin 64) :
    (V m c main_v3 : FVec Ideal S4x2048x64 .bf16) (ix3 h s d) =
      (m ((c : Thread nD τ).loc main_arg1) : FVec Ideal S2048x256 .bf16) (ix2 s ⟨h.val * 64 + d.val, by omega⟩) := by
  have e : V m c main_v3 = (transpose S4x2048x64 [1, 0, 2] (shapeCast S2048x4x64
      (m ((c : Thread nD τ).loc main_arg1) : FVec Ideal S2048x256 .bf16) shapeCasts_S2048x256_S2048x4x64)
      transposes_S2048x4x64_S4x2048x64_1_0_2 : FVec Ideal S4x2048x64 .bf16) := by
    unfold_abbrev_sides; after_results; try rfl
  rw [e]
  generalize (m ((c : Thread nD τ).loc main_arg1) : FVec Ideal S2048x256 .bf16) = x
  pointwise
theorem V_v5 (c : Dev nD) (h : Fin 4) (s : Fin 2048) (d : Fin 64) :
    (V m c main_v5 : FVec Ideal S4x2048x64 .bf16) (ix3 h s d) =
      (m ((c : Thread nD τ).loc main_arg2) : FVec Ideal S2048x256 .bf16) (ix2 s ⟨h.val * 64 + d.val, by omega⟩) := by
  have e : V m c main_v5 = (transpose S4x2048x64 [1, 0, 2] (shapeCast S2048x4x64
      (m ((c : Thread nD τ).loc main_arg2) : FVec Ideal S2048x256 .bf16) shapeCasts_S2048x256_S2048x4x64)
      transposes_S2048x4x64_S4x2048x64_1_0_2 : FVec Ideal S4x2048x64 .bf16) := by
    unfold_abbrev_sides; after_results; try rfl
  rw [e]
  generalize (m ((c : Thread nD τ).loc main_arg2) : FVec Ideal S2048x256 .bf16) = x
  pointwise
theorem V_v8 (c : Dev nD) (h : Fin 4) (i : Fin 512) :
    (V m c main_v8 : FVec Ideal S4x512x1 .f32) (ix3 h i 0) =
      (m ((c : Thread nD τ).loc main_arg3) : FVec Ideal S1x16 .f32) (ix2 0 ⟨h.val * 4 + i.val / 128, by omega⟩) := by
  have e : V m c main_v8 = (shapeCast S4x512x1 (broadcastInDim S4x4x128x1 ![0, 1, 2, 3] bcast_S4x4x1x1_S4x4x128x1_0_1_2_3
      (shapeCast S4x4x1x1 (m ((c : Thread nD τ).loc main_arg3) : FVec Ideal S1x16 .f32) shapeCasts_S1x16_S4x4x1x1
        : FVec Ideal S4x4x1x1 .f32))
      shapeCasts_S4x4x128x1_S4x512x1 : FVec Ideal S4x512x1 .f32) := by
    unfold_abbrev_sides; after_results; try rfl
  rw [e]
  generalize (m ((c : Thread nD τ).loc main_arg3) : FVec Ideal S1x16 .f32) = x
  pointwise

theorem gridN (t : Fin cfg0.N) : t.val < 16 := lt_of_lt_of_eq t.isLt N_0

theorem win0_index : ∀ t : Fin cfg0.N, win0_0.index t = ![0, t.val, 0] := (by decide +kernel : ∀ t : Fin grid0.N, _)
theorem win1_index : ∀ t : Fin cfg0.N, win0_1.index t = ![0, t.val - 1, 0] := (by decide +kernel : ∀ t : Fin grid0.N, _)
theorem win2_index : ∀ t : Fin cfg0.N, win0_2.index t = ![0, t.val, 0] := (by decide +kernel : ∀ t : Fin grid0.N, _)
theorem win3_index : ∀ t : Fin cfg0.N, win0_3.index t = ![0, t.val - 1, 0] := (by decide +kernel : ∀ t : Fin grid0.N, _)
theorem win4_index : ∀ t : Fin cfg0.N, win0_4.index t = ![0, t.val, 0] := (by decide +kernel : ∀ t : Fin grid0.N, _)
theorem win5_index : ∀ t : Fin cfg0.N, win0_5.index t = ![0, 0, 0] := (by decide +kernel : ∀ t : Fin grid0.N, _)
theorem win6_index : ∀ t : Fin cfg0.N, win0_6.index t = ![0, t.val, 0] := (by decide +kernel : ∀ t : Fin grid0.N, _)

theorem blk0 (c : Dev nD) (t : Fin cfg0.N) (h : Fin 16) (i : Fin 128) (d : Fin 64) :
    (iblk m c 0 t : FVec Ideal S16x128x64 .bf16) (ix3 h i d) =
      (m ((c : Thread nD τ).loc main_arg0) : FVec Ideal S2048x1024 .bf16)
        (ix2 ⟨t.val * 128 + i.val, by have := gridN t; omega⟩ ⟨h.val * 64 + d.val, by omega⟩) := by
  refine Eq.trans ?_ (V_v1 m c h ⟨t.val * 128 + i.val, by have := gridN t; omega⟩ d)
  unfold iblk
  blk_simp
  refine congrArg (V m c main_v1 : FVec Ideal S16x2048x64 .bf16) ?_
  blk_ext [win0_index t]
theorem blk1 (c : Dev nD) (t : Fin cfg0.N) (h : Fin 4) (i : Fin 128) (d : Fin 64) :
    (iblk m c 1 t : FVec Ideal S4x128x64 .bf16) (ix3 h i d) =
      (m ((c : Thread nD τ).loc main_arg1) : FVec Ideal S2048x256 .bf16)
        (ix2 ⟨(t.val - 1) * 128 + i.val, by have := gridN t; omega⟩ ⟨h.val * 64 + d.val, by omega⟩) := by
  refine Eq.trans ?_ (V_v3 m c h ⟨(t.val - 1) * 128 + i.val, by have := gridN t; omega⟩ d)
  unfold iblk
  blk_simp
  refine congrArg (V m c main_v3 : FVec Ideal S4x2048x64 .bf16) ?_
  blk_ext [win1_index t]
theorem blk2 (c : Dev nD) (t : Fin cfg0.N) (h : Fin 4) (i : Fin 128) (d : Fin 64) :
    (iblk m c 2 t : FVec Ideal S4x128x64 .bf16) (ix3 h i d) =
      (m ((c : Thread nD τ).loc main_arg1) : FVec Ideal S2048x256 .bf16)
        (ix2 ⟨t.val * 128 + i.val, by have := gridN t; omega⟩ ⟨h.val * 64 + d.val, by omega⟩) := by
  refine Eq.trans ?_ (V_v3 m c h ⟨t.val * 128 + i.val, by have := gridN t; omega⟩ d)
  unfold iblk
  blk_simp
  refine congrArg (V m c main_v3 : FVec Ideal S4x2048x64 .bf16) ?_
  blk_ext [win2_index t]
theorem blk3 (c : Dev nD) (t : Fin cfg0.N) (h : Fin 4) (i : Fin 128) (d : Fin 64) :
    (iblk m c 3 t : FVec Ideal S4x128x64 .bf16) (ix3 h i d) =
      (m ((c : Thread nD τ).loc main_arg2) : FVec Ideal S2048x256 .bf16)
        (ix2 ⟨(t.val - 1) * 128 + i.val, by have := gridN t; omega⟩ ⟨h.val * 64 + d.val, by omega⟩) := by
  refine Eq.trans ?_ (V_v5 m c h ⟨(t.val - 1) * 128 + i.val, by have := gridN t; omega⟩ d)
  unfold iblk
  blk_simp
  refine congrArg (V m c main_v5 : FVec Ideal S4x2048x64 .bf16) ?_
  blk_ext [win3_index t]
theorem blk4 (c : Dev nD) (t : Fin cfg0.N) (h : Fin 4) (i : Fin 128) (d : Fin 64) :
    (iblk m c 4 t : FVec Ideal S4x128x64 .bf16) (ix3 h i d) =
      (m ((c : Thread nD τ).loc main_arg2) : FVec Ideal S2048x256 .bf16)
        (ix2 ⟨t.val * 128 + i.val, by have := gridN t; omega⟩ ⟨h.val * 64 + d.val, by omega⟩) := by
  refine Eq.trans ?_ (V_v5 m c h ⟨t.val * 128 + i.val, by have := gridN t; omega⟩ d)
  unfold iblk
  blk_simp
  refine congrArg (V m c main_v5 : FVec Ideal S4x2048x64 .bf16) ?_
  blk_ext [win4_index t]
theorem blk5 (c : Dev nD) (t : Fin cfg0.N) (h : Fin 4) (i : Fin 512) :
    (iblk m c 5 t : FVec Ideal S4x512x1 .f32) (ix3 h i 0) =
      (m ((c : Thread nD τ).loc main_arg3) : FVec Ideal S1x16 .f32) (ix2 0 ⟨h.val * 4 + i.val / 128, by omega⟩) := by
  refine Eq.trans ?_ (V_v8 m c h i)
  unfold iblk
  blk_simp
  refine congrArg (V m c main_v8 : FVec Ideal S4x512x1 .f32) ?_
  blk_ext [win5_index t]

theorem grid_coord : ∀ t : Fin cfg0.N, (grid0.coords t 0).val = t.val := (by decide +kernel : ∀ t : Fin grid0.N, _)
theorem mask_at (t : Fin cfg0.N) (i : Fin 512) (j : Fin 256) :
    Cert.KernelIdeal.Gen.k0_pay25 (fst0 t) (ix2 i j) = Swa.okBit t.val i j := by
  unfold fst0
  pointwise [Cert.KernelIdeal.Gen.k0_pay25]
  rw [Swa.word_row i, Swa.word_diff ⟨i.val % 128, by omega⟩ j, grid_coord t, Swa.word_start ⟨t.val, gridN t⟩ j]
  exact Swa.and_bits _ _ _

/-- The cell of block `n` and key head `k`, off the arguments that the memory holds on device `c`. -/
def memCell (c : Dev nD) (n : Fin 16) (k : Fin 4) : Swa.Cell :=
  argCell (m ((c : Thread nD τ).loc main_arg0)) (m ((c : Thread nD τ).loc main_arg1)) (m ((c : Thread nD τ).loc main_arg2))
    (m ((c : Thread nD τ).loc main_arg3)) (m ((c : Thread nD τ).loc main_arg0)) n k

theorem ptCell_mem (c : Dev nD) (t : Fin cfg0.N) (k : Fin 4) (n : Fin 16) (hn : n.val = t.val) :
    ptCell m c t k = memCell m c n k := by
  have e : n = ⟨t.val, gridN t⟩ := Fin.ext hn
  rw [e]
  unfold ptCell blkCell memCell argCell
  simp only [mask_at, blk0, blk1, blk2, blk3, blk4, blk5]

/-- What the output's array holds at the end. -/
def fin6 (c : Dev nD) (h : Fin 16) (s : Fin 2048) (d : Fin 64) : EReal :=
  (memCell m c ⟨s.val / 128, by omega⟩ ⟨h.val / 4, by omega⟩).att ⟨h.val % 4 * 128 + s.val % 128, by omega⟩ d

theorem sp6_eq (c : Dev nD) (t : Fin cfg0.N) (h : Fin 16) (i : Fin 128) (d : Fin 64) (h' : Fin 16) (s : Fin 2048) (d' : Fin 64)
    (hh : h.val = h'.val) (hs : s.val = t.val * 128 + i.val) (hd : d.val = d'.val) : sp6 m c t h i d = fin6 m c h' s d' := by
  obtain rfl := Fin.ext hh
  obtain rfl := Fin.ext hd
  unfold sp6 fin6
  rw [ptCell_mem m c t _ ⟨s.val / 128, by omega⟩ (by show s.val / 128 = _; omega)]
  refine congrArg (fun r => (memCell m c _ _).att r d) (Fin.ext ?_)
  dsimp only
  omega

theorem arr6 (c : Dev nD) : (dats m 0 c).arrAt 6 cfg0.N = (fun x => fin6 m c (x 0) (x 1) (x 2) : FVec Ideal S16x2048x64 .bf16) := by
  refine (dats m 0 c).arrAt_eq_of_covers 6 _ (by decide +kernel) fun t hf y => ?_
  blk_simp
  rw [after0_6]
  refine Eq.trans (outA6 m c t y) (sp6_eq m c t _ _ _ _ _ _ ?_ ?_ ?_)
  all_goals blk_simp [win6_index t]
  all_goals simp

/-- The host's last lines read the kernel's array. -/
theorem tailArr (c : Dev nD) (w : Fin cfg0.W) :
    Pipeline.withArrays (cfgs 0).spec c (V0 m c) (fun w => (dats m 0 c).arrAt w (cfgs 0).N) (Proc.devRef .tc (Pipeline.arrRef spec0 w)) =
      (dats m 0 c).arrAt w cfg0.N :=
  (dats m 0 c).withArrays_arrAt launch₀0.sharedIn (V0 m c) (fun w => A_eq m c w) w

theorem after11 (A : Valuation τ sig (Elt Ideal)) : StableHlo.after hostOps1 A (Proc.devRef .tc main_v11) =
    Cert.KernelIdeal.Value.host29 (A (Proc.devRef .tc main_v9)) := by
  after_results; rfl
theorem tail11 (c : Dev nD) : Pipeline.afterTail₀ cfgs (dats m) 0 (V0 m) [hostOps1] c main_v11 =
    Cert.KernelIdeal.Value.host29 (fun x => fin6 m c (x 0) (x 1) (x 2)) :=
  (after11 _).trans (congrArg Cert.KernelIdeal.Value.host29 ((tailArr m c 6).trans (arr6 m c)))

end Cert.AttentionIdeal.Value

namespace Cert.AttentionReferenceIdeal.Value

open Cert.AttentionReferenceIdeal Cert.AttentionReferenceIdeal.Gen
open Cert.ReferenceIdeal.Value

/-- Contents of the backward reference's buffers with given arguments. -/
theorem exists_contents (q : FVec Ideal S2048x1024 .bf16) (k v : FVec Ideal S2048x256 .bf16) (s : FVec Ideal S1x16 .f32) :
    ∃ V0 : Valuation Cert.ReferenceIdeal.τ Cert.ReferenceIdeal.sig (Elt Ideal),
      V0 (Proc.devRef .tc Cert.ReferenceIdeal.main_arg0) = q ∧ V0 (Proc.devRef .tc Cert.ReferenceIdeal.main_arg1) = k ∧
      V0 (Proc.devRef .tc Cert.ReferenceIdeal.main_arg2) = v ∧ V0 (Proc.devRef .tc Cert.ReferenceIdeal.main_arg3) = s := by
  classical
  let B : Valuation Cert.ReferenceIdeal.τ Cert.ReferenceIdeal.sig (Elt Ideal) := fun _ => default
  refine ⟨Function.update (Function.update (Function.update (Function.update B
    (Proc.devRef .tc Cert.ReferenceIdeal.main_arg0) q) (Proc.devRef .tc Cert.ReferenceIdeal.main_arg1) k)
    (Proc.devRef .tc Cert.ReferenceIdeal.main_arg2) v) (Proc.devRef .tc Cert.ReferenceIdeal.main_arg3) s, ?_, ?_, ?_, ?_⟩
  · rw [Function.update_of_ne (by decide), Function.update_of_ne (by decide), Function.update_of_ne (by decide), Function.update_self]
  · rw [Function.update_of_ne (by decide), Function.update_of_ne (by decide), Function.update_self]
  · rw [Function.update_of_ne (by decide), Function.update_self]
  · rw [Function.update_self]

/-- The last lines: the weighted values come back to the columns. -/
def out (v : FVec Ideal S1x16x256x4x64 .f32) (p : FVec Ideal S1x16x4x4x128x256 .f32) : FVec Ideal S2048x1024 .bf16 :=
  truncf .bf16 (shapeCast _ (shapeCast _ (transpose S1x16x128x4x4x64 [0, 1, 5, 2, 4, 3]
    (Host.dotGeneral dot_S1x16x256x4x64_S1x16x4x4x128x256_S1x16x4x64x4x128_2_5_4_34_013_012 none v p)
    transposes_S1x16x4x64x4x128_S1x16x128x4x4x64_0_1_5_2_4_3) shapeCasts_S1x16x128x4x4x64_S1x2048x1024)
    shapeCasts_S1x2048x1024_S2048x1024) bitsLt_bf16_f32

theorem out_at (v : FVec Ideal S1x16x256x4x64 .f32) (p : FVec Ideal S1x16x4x4x128x256 .f32) (s : Fin 2048) (e : Fin 1024) :
    (out v p (ix2 s e) : EReal) = ∑ j : Fin 256, v (ix5 0 ⟨s.val / 128, by omega⟩ j ⟨e.val / 256, by omega⟩ ⟨e.val % 64, by omega⟩) *
      p (ix6 0 ⟨s.val / 128, by omega⟩ ⟨e.val / 256, by omega⟩ ⟨e.val / 64 % 4, by omega⟩ ⟨s.val % 128, by omega⟩ j) := by
  pointwise [out]

variable (m : (ℓ : Loc nD τ sig) → Buf (Elt Ideal) ℓ) (c : Dev nD)
  (V0 : Valuation Cert.ReferenceIdeal.τ Cert.ReferenceIdeal.sig (Elt Ideal))

/-- The reference's result, in the stages of the backward pass's reference. -/
theorem res_eq (h0 : V0 (Proc.devRef .tc Cert.ReferenceIdeal.main_arg0) = m ((c.tc : Thread nD τ).loc main_arg0))
    (h1 : V0 (Proc.devRef .tc Cert.ReferenceIdeal.main_arg1) = m ((c.tc : Thread nD τ).loc main_arg1))
    (h2 : V0 (Proc.devRef .tc Cert.ReferenceIdeal.main_arg2) = m ((c.tc : Thread nD τ).loc main_arg2))
    (h3 : V0 (Proc.devRef .tc Cert.ReferenceIdeal.main_arg3) = m ((c.tc : Thread nD τ).loc main_arg3)) :
    res_main_v76 m c = out (res_main_v21 V0) (res_main_v96 V0) := by
  unfold res_main_v76
  rw [← h0, ← h1, ← h2, ← h3]
  rfl

theorem res_at (s : Fin 2048) (e : Fin 1024) : (out (res_main_v21 V0) (res_main_v96 V0) (ix2 s e) : EReal) =
    (cellOf V0 ⟨s.val / 128, by omega⟩ ⟨e.val / 256, by omega⟩).att (row ⟨e.val / 64 % 4, by omega⟩ ⟨s.val % 128, by omega⟩)
      ⟨e.val % 64, by omega⟩ := by
  rw [out_at]
  refine Finset.sum_congr rfl fun j _ => ?_
  rw [at21, at96, mul_comm]

end Cert.AttentionReferenceIdeal.Value

namespace Cert.Proof.Attention

open Cert.KernelIdeal.Value (argCell host29 host29_at)
open Cert.ReferenceIdeal.Value (refCell cellOf row at_ix2)
open Cert.AttentionIdeal.Value

/-- Zeros before the first block weigh as much as the first block before itself. -/
theorem att_eq (q : FVec Ideal Cert.KernelIdeal.S2048x1024 .bf16) (k v : FVec Ideal Cert.KernelIdeal.S2048x256 .bf16)
    (s : FVec Ideal Cert.KernelIdeal.S1x16 .f32) (o : FVec Ideal Cert.KernelIdeal.S2048x1024 .bf16) (n : Fin 16) (h : Fin 4)
    (i : Fin 512) (d : Fin 64) : (refCell q k v s o n h).att i d = (argCell q k v s o n h).att i d := by
  have ha := cells_agree q k v s o n h
  unfold Swa.Cell.att
  rw [← ha.pn]
  by_cases hM : Swa.IsReal (Swa.rowMax ((refCell q k v s o n h).score i) ((refCell q k v s o n h).sink i))
  · refine Finset.sum_congr rfl fun j _ => ?_
    by_cases e : (refCell q k v s o n h).mask i j = 1#1
    · rw [ha.val i j e]
    · have : (refCell q k v s o n h).pn i j = 0 := Swa.rowSoft_masked _ _ hM j (Swa.Cell.score_masked e)
      rw [this, zero_mul, zero_mul]
  · have hp : ∀ j, (refCell q k v s o n h).pn i j = ⊥ := Swa.rowSoft_infinite _ _ hM
    simp only [hp]
    by_cases hn : n.val = 0
    · refine Swa.sum_twice (fun j => (refCell q k v s o n h).val j d) (fun j => (argCell q k v s o n h).val j d)
        (fun j => ?_) (fun j => ?_) fun j => ?_
      · exact dif_pos (by simp only; omega)
      · refine (dif_neg (by simp only; omega)).trans (Eq.trans ?_ (dif_neg (by simp only; omega)).symm)
        exact at_ix2 v (by simp only; omega) rfl
      · refine (dif_pos j.isLt).trans (Eq.trans ?_ (dif_neg (by simp only; omega)).symm)
        exact at_ix2 v (by simp only; omega) rfl
    · refine Finset.sum_congr rfl fun j _ => congrArg _ ?_
      refine (dif_neg (by omega)).trans ?_
      unfold argCell
      simp only
      split
      · exact at_ix2 v (by simp only; omega) rfl
      · exact at_ix2 v (by simp only; omega) rfl

theorem frame_kernel : Cert.quiescent_Attention := fun m g _ => Cert.Attention.Gen.frame m g

theorem frame_ideal : Cert.quiescent_AttentionIdeal := fun m g _ => Cert.AttentionIdeal.Gen.frame m g

theorem frame_reference : Cert.quiescent_AttentionReferenceIdeal := fun m g _ =>
  (θ_run Cert.AttentionReferenceIdeal.defs _ _).mono
    (fun r h => ⟨fun c => (h c).2, sem_eq_zero_of_no_sems (by decide) r.2⟩)
    (Cert.AttentionReferenceIdeal.Value.run m g)

/-- The kernel and the reference end with the same output. -/
theorem outputs : Cert.algebraic_AttentionIdeal_AttentionReferenceIdeal := by
  intro m g m' g' _ hm
  refine ⟨fun c => host29 (fun x => fin6 m c (x 0) (x 1) (x 2)), ?_, ?_⟩
  · refine (θ_run Cert.AttentionIdeal.defs _ _).mono (fun r h c => ?_)
      (θ_run_and (Cert.AttentionIdeal.Gen.run_main m g) (Cert.AttentionIdeal.Gen.unchanged m g))
    exact ⟨((h.1 c).2 Cert.AttentionIdeal.main_v11 (by decide)).trans (tail11 m c), h.2 c⟩
  · refine (θ_run Cert.AttentionReferenceIdeal.defs _ _).mono (fun r h c => ?_) (Cert.AttentionReferenceIdeal.Value.run m' g')
    obtain ⟨e0, e1, e2, e3⟩ := hm c
    refine ⟨(h c).1.trans ?_, (h c).2⟩
    obtain ⟨V0, h0, h1, h2, h3⟩ := Cert.AttentionReferenceIdeal.Value.exists_contents
      (m' ((c.tc : Thread Cert.AttentionReferenceIdeal.nD Cert.AttentionReferenceIdeal.τ).loc Cert.AttentionReferenceIdeal.main_arg0))
      (m' ((c.tc : Thread Cert.AttentionReferenceIdeal.nD Cert.AttentionReferenceIdeal.τ).loc Cert.AttentionReferenceIdeal.main_arg1))
      (m' ((c.tc : Thread Cert.AttentionReferenceIdeal.nD Cert.AttentionReferenceIdeal.τ).loc Cert.AttentionReferenceIdeal.main_arg2))
      (m' ((c.tc : Thread Cert.AttentionReferenceIdeal.nD Cert.AttentionReferenceIdeal.τ).loc Cert.AttentionReferenceIdeal.main_arg3))
    rw [Cert.AttentionReferenceIdeal.Value.res_eq m' c V0 h0 h1 h2 h3]
    have key : ∀ (s : Fin 2048) (e : Fin 1024), (cellOf V0 ⟨s.val / 128, by omega⟩ ⟨e.val / 256, by omega⟩).att
        (row ⟨e.val / 64 % 4, by omega⟩ ⟨s.val % 128, by omega⟩) ⟨e.val % 64, by omega⟩ =
        fin6 m c ⟨e.val / 64, by omega⟩ s ⟨e.val % 64, by omega⟩ := fun s e => by
      refine (att_eq _ _ _ _ _ _ _ _ _).trans ?_
      rw [h0, h1, h2, h3, e0, e1, e2, e3]
      unfold fin6
      have e1 : e.val / 256 = e.val / 64 / 4 := by omega
      simp only [e1, row]
      rfl
    funext i
    rw [eq_ix2 i]
    refine (Cert.AttentionReferenceIdeal.Value.res_at V0 (i 0) (i 1)).trans (Eq.trans ?_ (host29_at _ (i 0) (i 1)).symm)
    exact key (i 0) (i 1)

end Cert.Proof.Attention
-- ==== Proof.SquaredRelu.lean ====
/- The squared relu of the feed-forward layer, forward and backward: each array is the reference's. -/
module

public import proofs.«01_k».proof.Defs
public import proofs.«01_k».proof.Proof.Products
public import proofs.«01_k».proof.Proof.Launched
public import proofs.«01_k».proof.Proof.Gen.SquaredRelu.Frame
public import proofs.«01_k».proof.Proof.Gen.SquaredReluIdeal.Frame
public import proofs.«01_k».proof.Proof.Gen.SquaredReluReferenceIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Cert.Product

namespace Cert.Squared

/-- The number two as both programs write it. -/
abbrev two : EReal := Ideal.ofBits .f32 0x40000000#32

/-- The gradient at `x` of the square of its positive part, `z` being the square's. -/
abbrev back (z x : EReal) : EReal := z * (two * max x 0)

/-- Below zero there is none. -/
theorem back_nonpos (z x : EReal) (h : ¬ 0 < x) : back z x = 0 := by
  rw [back, max_eq_right (not_lt.mp h), mul_zero, mul_zero]

/-- The layer's columns and its bias. -/
abbrev Arr : Type := Mat 2048 4096
abbrev Row : Type := Mat 1 4096

/-- The columns with the bias. -/
abbrev shifted (h : Arr) (b : Row) : Arr := fun i => h i + b (ix2 0 (i 1))
/-- The square of the positive part. -/
abbrev squared (h : Arr) (b : Row) : Arr := fun i => max (shifted h b i) 0 * max (shifted h b i) 0
/-- The gradient of the columns, `g` being the result's. -/
abbrev ofColumns (h : Arr) (b : Row) (g : Arr) : Arr := fun i => back (g i) (shifted h b i)
/-- The gradient of the bias. -/
abbrev ofBias (h : Arr) (b : Row) (g : Arr) : Row := fun i => ∑ r : Fin 2048, ofColumns h b g (ix2 r (i 1))

end Cert.Squared

namespace Cert.SquaredReluIdeal.Value

open Cert.SquaredReluIdeal Cert.SquaredReluIdeal.Gen Cert.Squared

section Regions

variable (V : (c : Dev nD) → (b : Ref sig .tc) → Buf (Elt Ideal) ((c : Thread nD τ).loc b))

theorem idx0 : ∀ t : Fin cfg0.N, win0_0.index t = ![(grid0.coords t 1).val, (grid0.coords t 0).val]
    ∧ win0_1.index t = ![0, (grid0.coords t 0).val]
    ∧ win0_2.index t = ![(grid0.coords t 1).val, (grid0.coords t 0).val] :=
  (by decide +kernel : ∀ t : Fin grid0.N, _)

/-- The forward call leaves the squares. -/
theorem fwd (c : Dev nD) : (dat0 V c).arrAt 2 cfg0.N = squared (V c main_arg0) (V c main_arg1) := by
  refine (dat0 V c).arrAt_eq_of_covers 2 _ (by decide +kernel) fun t _ y => ?_
  blk_simp
  rw [after0_2]
  frame_out
  pointwise [k0_pay1, squared, shifted]
  blk_point [iblk0, idx0 t]

theorem idx1 : ∀ t : Fin cfg1.N, win1_0.index t = ![t.val % 4, t.val / 4]
    ∧ win1_1.index t = ![0, t.val / 4]
    ∧ win1_2.index t = ![t.val % 4, t.val / 4]
    ∧ win1_3.index t = ![t.val % 4, t.val / 4]
    ∧ win1_4.index t = ![0, t.val / 4] :=
  (by decide +kernel : ∀ t : Fin grid1.N, _)

/-- The share of the gradient that a block's element has. -/
theorem pay1_at (x : FVec Ideal S512x1024 .bf16) (b : FVec Ideal S1x1024 .f32) (g : FVec Ideal S512x1024 .bf16) (y : S512x1024.Idx) :
    k1_pay1 (F := Ideal) x b g y = back (g y) (x y + b (ix2 0 (y 1))) := by
  pointwise [k1_pay1]
  by_cases h : 0 < x y + b (ix2 0 (y 1))
  · rw [if_pos h, mul_one]
  · have e := back_nonpos (g y) _ h
    rw [e]
    exact (congrArg (· * _) e).trans (zero_mul _)

theorem pay4_at (x : FVec Ideal S512x1024 .bf16) (b : FVec Ideal S1x1024 .f32) (g : FVec Ideal S512x1024 .bf16) (a : FVec Ideal S1x1024 .f32)
    (y : S1x1024.Idx) : k1_pay4 (F := Ideal) x b g a y = a y + ∑ r : Fin 512, k1_pay1 (F := Ideal) x b g (ix2 r (y 1)) := by
  pointwise [k1_pay4]

/-- The backward call leaves the gradient of the columns. -/
theorem columns (c : Dev nD) : (dat1 V c).arrAt 3 cfg1.N = ofColumns (V c main_arg0) (V c main_arg1) (V c main_arg2) := by
  refine (dat1 V c).arrAt_eq_of_covers 3 _ (by decide +kernel) fun t _ y => ?_
  blk_simp
  rw [after1_3]
  have e : (outsAt1 V c t.val t.isLt).1 y = k1_pay1 (iblk1 V c 0 t) (iblk1 V c 1 t) (iblk1 V c 2 t) y := by
    rcases Nat.eq_zero_or_pos (t.val % 4) with h0 | h0
    · rw [outsAt1_A V c t h0]; frame_out; pointwise [k1_pay2]
    · rw [outsAt1_B V c t (by omega)]; frame_out; pointwise [k1_pay2]
  refine e.trans ((pay1_at _ _ _ y).trans ?_)
  simp only [ofColumns, shifted, back]
  blk_point [iblk1, idx1 t]

/-- And the gradient of the bias. -/
theorem bias (c : Dev nD) : (dat1 V c).arrAt 4 cfg1.N = ofBias (V c main_arg0) (V c main_arg1) (V c main_arg2) := by
  refine (dat1 V c).arrAt_eq_of_covers 4 _ (by decide +kernel) fun t hf y => ?_
  blk_simp
  rw [after1_4, Pipeline.eq_sum_fin_of_reset_step_apply_of_flush (fun n h => (outsAt1 V c n h).2) 4 (fun _ => 0)
    (fun t y => ∑ r : Fin 512, k1_pay1 (iblk1 V c 0 t) (iblk1 V c 1 t) (iblk1 V c 2 t) (ix2 r (y 1)))
    (fun t h y => by rw [outsAt1_A V c t h]; frame_out; rw [pay4_at]; exact congrArg (· + _) (by pointwise [k1_pay3]))
    (fun t h y => by rw [outsAt1_B V c t h]; frame_out; rw [pay4_at])
    t ((flush1_4 t).mp hf) y, zero_add]
  simp only [pay1_at]
  refine Fin.sum_mul_add_congr (L := 2048) fun s r hl => ?_
  simp only [ofColumns, shifted, back]
  blk_point [iblk1, idx1 _]

end Regions

variable (m : (ℓ : Loc nD τ sig) → Buf (Elt Ideal) ℓ) (ρ : Dev nD → PrngReg)

/-- What the run leaves in every buffer that outlives it. -/
theorem run : θ_run defs (onTc (τ := τ) (main (F := Ideal))) ⟨m, fun _ => 0, ρ⟩ fun r =>
    ∀ c : Dev nD, ∀ b ∈ Pipeline.ucRefs τ sig, r.2.mem ((c : Thread nD τ).1, b) = W2 m ρ c b :=
  leaves cfgs cellOf_inj defs₀ (pdats m ρ) m ρ main (segs m ρ) (W2 m ρ) (main_run m ρ)
    (by simp only [segs, Pipeline.Seg.pipes_region, Pipeline.Seg.pipes_nil]; decide)
    ⟨fun _ => .rfl, fun _ => .rfl, fun _ => .rfl⟩

/-- The second call's arguments are the program's. -/
theorem kept (c : Dev nD) : V1 m ρ c main_arg0 = m ((c : Thread nD τ).loc main_arg0) ∧ V1 m ρ c main_arg1 = m ((c : Thread nD τ).loc main_arg1)
    ∧ V1 m ρ c main_arg2 = m ((c : Thread nD τ).loc main_arg2) :=
  ⟨W1_args m ρ c _ (by decide), W1_args m ρ c _ (by decide), W1_args m ρ c _ (by decide)⟩

theorem y_end (c : Dev nD) : W2 m ρ c (Proc.devRef .tc main_v0)
    = squared (m ((c : Thread nD τ).loc main_arg0)) (m ((c : Thread nD τ).loc main_arg1)) :=
  (W2_of m ρ c main_v0 (by decide)).trans ((W1_arr m ρ c 2).trans (fwd (V0 m ρ) c))

theorem columns_end (c : Dev nD) : W2 m ρ c (Proc.devRef .tc main_v1_0)
    = ofColumns (m ((c : Thread nD τ).loc main_arg0)) (m ((c : Thread nD τ).loc main_arg1)) (m ((c : Thread nD τ).loc main_arg2)) := by
  obtain ⟨h0, h1, h2⟩ := kept m ρ c
  rw [← h0, ← h1, ← h2]
  exact (W2_arr m ρ c 3).trans (columns (V1 m ρ) c)

theorem bias_end (c : Dev nD) : W2 m ρ c (Proc.devRef .tc main_v1_1)
    = ofBias (m ((c : Thread nD τ).loc main_arg0)) (m ((c : Thread nD τ).loc main_arg1)) (m ((c : Thread nD τ).loc main_arg2)) := by
  obtain ⟨h0, h1, h2⟩ := kept m ρ c
  rw [← h0, ← h1, ← h2]
  exact (W2_arr m ρ c 4).trans (bias (V1 m ρ) c)

end Cert.SquaredReluIdeal.Value

namespace Cert.SquaredReluReferenceIdeal.Value

open Cert.SquaredReluReferenceIdeal Cert.SquaredReluReferenceIdeal.Gen Cert.Squared

/-- A stage of the reference: the columns with the bias. -/
abbrev sums (h : FVec Ideal S2048x4096 .bf16) (b : FVec Ideal S1x4096 .f32) : FVec Ideal S2048x4096 .f32 :=
  addf (extf .f32 h bitsLt_bf16_f32) (broadcastInDim S2048x4096 ![0, 1] bcast_S1x4096_S2048x4096_0_1 (broadcastInDim S1x4096 ![1] bcast_S4096_S1x4096_1 (shapeCast _ b shapeCasts_S1x4096_S4096)))
/-- An array of zeros. -/
abbrev zeros : FVec Ideal S2048x4096 .f32 := broadcastInDim S2048x4096 ![] bcast_S_S2048x4096 (constant S_ .f32 0x00000000#32)
/-- The gradient of the columns before it is rounded. -/
abbrev grads (h : FVec Ideal S2048x4096 .bf16) (b : FVec Ideal S1x4096 .f32) (g : FVec Ideal S2048x4096 .bf16) : FVec Ideal S2048x4096 .f32 :=
  select (cmpf .ogt (sums h b) zeros) (mulf (extf .f32 g bitsLt_bf16_f32)
    (mulf (broadcastInDim S2048x4096 ![] bcast_S_S2048x4096 (constant S_ .f32 0x40000000#32)) (maximumf (sums h b) zeros))) zeros

variable (h : FVec Ideal S2048x4096 .bf16) (b : FVec Ideal S1x4096 .f32) (g : FVec Ideal S2048x4096 .bf16)

theorem y_is : truncf .bf16 (mulf (maximumf (sums h b) zeros) (maximumf (sums h b) zeros)) bitsLt_bf16_f32 = squared h b := by
  funext i; pointwise [sums, zeros, squared]

theorem grads_at : grads h b g = ofColumns h b g := by
  funext i; pointwise [grads, sums, zeros]
  by_cases e : 0 < h i + b (ix2 0 (i 1))
  · rw [if_pos e]
  · rw [if_neg e]
    exact (back_nonpos (g i) _ e).symm

theorem columns_is : truncf .bf16 (grads h b g) bitsLt_bf16_f32 = ofColumns h b g := grads_at h b g

theorem bias_is : broadcastInDim S1x4096 ![1] bcast_S4096_S1x4096_1 (Host.reduceAdd (shapeCast _ (Host.reduceAdd (grads h b g)
    (constant S_ .f32 0x00000000#32) reducesTo_S2048x4096_S4096_d0 h_S_) shapeCasts_S4096_S1x4096)
    (constant S_ .f32 0x00000000#32) reducesTo_S1x4096_S4096_d0 h_S_) = ofBias h b g := by
  rw [grads_at]
  funext i; pointwise []
  exact (Finset.sum_const _).trans (by simp)

end Cert.SquaredReluReferenceIdeal.Value

namespace Cert.Proof.SquaredRelu

open Cert.SquaredReluIdeal.Gen (W2 W2_main_arg0 W2_main_arg1 W2_main_arg2 mem_uc)
open Cert.SquaredReluIdeal.Value (y_end columns_end bias_end)
open Cert.SquaredReluReferenceIdeal.Value (y_is columns_is bias_is)

theorem frame_kernel : Cert.quiescent_SquaredRelu := fun m g _ => Cert.SquaredRelu.Gen.frame m g

theorem frame_ideal : Cert.quiescent_SquaredReluIdeal := fun m g _ => Cert.SquaredReluIdeal.Gen.frame m g

theorem frame_reference : Cert.quiescent_SquaredReluReferenceIdeal := fun m g _ =>
  (θ_run Cert.SquaredReluReferenceIdeal.defs _ _).mono
    (fun r h => ⟨fun c => (h c).2.2.2, sem_eq_zero_of_no_sems (by decide) r.2⟩)
    (Cert.SquaredReluReferenceIdeal.Value.run m g)

/-- The squares and both gradients are the reference's. -/
theorem squares : Cert.algebraic_SquaredReluIdeal_SquaredReluReferenceIdeal := fun m g m' g' _ hargs =>
  ⟨fun c => W2 m g c (Proc.devRef .tc Cert.SquaredReluIdeal.main_v0), fun c => W2 m g c (Proc.devRef .tc Cert.SquaredReluIdeal.main_v1_0),
   fun c => W2 m g c (Proc.devRef .tc Cert.SquaredReluIdeal.main_v1_1),
   (θ_run Cert.SquaredReluIdeal.defs _ _).mono (fun _ h c =>
     ⟨h c _ (mem_uc _ (by decide)), h c _ (mem_uc _ (by decide)), h c _ (mem_uc _ (by decide)),
      (h c _ (mem_uc _ (by decide))).trans (W2_main_arg0 m g c), (h c _ (mem_uc _ (by decide))).trans (W2_main_arg1 m g c),
      (h c _ (mem_uc _ (by decide))).trans (W2_main_arg2 m g c)⟩)
     (Cert.SquaredReluIdeal.Value.run m g),
   (θ_run Cert.SquaredReluReferenceIdeal.defs _ _).mono (fun _ h c => by
     obtain ⟨h0, h1, h2⟩ := hargs c
     obtain ⟨r0, r1, r2, ha⟩ := h c
     refine ⟨r0.trans ((y_is _ _).trans ?_), r1.trans ((columns_is _ _ _).trans ?_), r2.trans ((bias_is _ _ _).trans ?_), ha⟩
     · rw [h0, h1]; exact (y_end m g c).symm
     · rw [h0, h1, h2]; exact (columns_end m g c).symm
     · rw [h0, h1, h2]; exact (bias_end m g c).symm)
     (Cert.SquaredReluReferenceIdeal.Value.run m' g')⟩

end Cert.Proof.SquaredRelu

end
-- ==== Proof.Norm.lean ====
/- The first layer norm and the modulation after it, forward and backward: each array is the reference's. -/
module

public import proofs.«01_k».proof.Defs
public import proofs.«01_k».proof.Proof.Products
public import proofs.«01_k».proof.Proof.Launched
public import proofs.«01_k».proof.Proof.Gen.Norm.Frame
public import proofs.«01_k».proof.Proof.Gen.NormIdeal.Frame
public import proofs.«01_k».proof.Proof.Gen.NormReferenceIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Cert.Product

namespace Cert.LayerNorm

/-- A row of an array, and one of its entries. -/
abbrev Lane : Type := Fin 1024 → EReal
abbrev row {n : ℕ} (x : Mat n 1024) (r : Fin n) : Lane := fun k => x (ix2 r k)

/-- The numbers both programs write: the factor of the carried rows, the width, the offset of the variance, minus a half, and two. -/
abbrev alpha : EReal := Ideal.ofBits .f32 0x3FD744FD#32
abbrev width : EReal := Ideal.ofBits .f32 0x44800000#32
abbrev offset : EReal := Ideal.ofBits .f32 0x3727C5AC#32
abbrev half : EReal := Ideal.ofBits .f32 0xBF000000#32
abbrev two : EReal := Ideal.ofBits .f32 0x40000000#32

section
variable (x m gt g b sc sh dy du : Lane)

/-- What is normalized: the carried row and the mixed one, gated. -/
def mix (k : Fin 1024) : EReal := alpha * x k + (1 + gt k) * m k
/-- Its mean, its deviations, their mean square with the offset, and the inverse root of that. -/
def mean : EReal := Ideal.div (∑ j, mix x m gt j) width
def dev (k : Fin 1024) : EReal := mix x m gt k - mean x m gt
def spread : EReal := Ideal.div (∑ j, dev x m gt j * dev x m gt j) width + offset
def scale : EReal := Ideal.rsqrt (spread x m gt)
/-- The normalized row, the norm's result, and that result modulated. -/
def normed (k : Fin 1024) : EReal := dev x m gt k * scale x m gt
def result (k : Fin 1024) : EReal := normed x m gt k * g k + b k
def modulated (k : Fin 1024) : EReal := result x m gt g b k * (1 + sc k) + sh k
/-- The gradient of the norm's result, from its own and from the modulated row's, and of the normalized row. -/
def up (k : Fin 1024) : EReal := dy k + du k * (1 + sc k)
def scaled (k : Fin 1024) : EReal := up sc dy du k * g k
/-- The gradient of what is normalized: directly, through the mean square, and through the mean of both. -/
def direct (k : Fin 1024) : EReal := scaled g sc dy du k * scale x m gt
def through (k : Fin 1024) : EReal :=
  Ideal.div ((∑ j, dev x m gt j * scaled g sc dy du j) * (half * Ideal.div (scale x m gt) (spread x m gt))) width * (two * dev x m gt k)
def grad (k : Fin 1024) : EReal :=
  direct x m gt g sc dy du k + through x m gt g sc dy du k
    + Ideal.div ((∑ j, -direct x m gt g sc dy du j) + ∑ j, -through x m gt g sc dy du j) width

end

section
variable (x m : Mat 2048 1024) (gt g b sc sh : Mat 1 1024) (dy du : Mat 2048 1024)

/-- The results of both calls, every row by itself; a parameter's gradient adds up the rows. -/
abbrev ofY : Mat 2048 1024 := fun i => result (row x (i 0)) (row m (i 0)) (row gt 0) (row g 0) (row b 0) (i 1)
abbrev ofU : Mat 2048 1024 := fun i => modulated (row x (i 0)) (row m (i 0)) (row gt 0) (row g 0) (row b 0) (row sc 0) (row sh 0) (i 1)
abbrev ofX : Mat 2048 1024 := fun i =>
  alpha * grad (row x (i 0)) (row m (i 0)) (row gt 0) (row g 0) (row sc 0) (row dy (i 0)) (row du (i 0)) (i 1)
abbrev ofMixed : Mat 2048 1024 := fun i =>
  (1 + gt (ix2 0 (i 1))) * grad (row x (i 0)) (row m (i 0)) (row gt 0) (row g 0) (row sc 0) (row dy (i 0)) (row du (i 0)) (i 1)
abbrev ofGate : Mat 1 1024 := fun i => ∑ r : Fin 2048,
  grad (row x r) (row m r) (row gt 0) (row g 0) (row sc 0) (row dy r) (row du r) (i 1) * m (ix2 r (i 1))
abbrev ofGain : Mat 1 1024 := fun i => ∑ r : Fin 2048,
  normed (row x r) (row m r) (row gt 0) (i 1) * up (row sc 0) (row dy r) (row du r) (i 1)
abbrev ofBias : Mat 1 1024 := fun i => ∑ r : Fin 2048, up (row sc 0) (row dy r) (row du r) (i 1)
abbrev ofScale : Mat 1 1024 := fun i => ∑ r : Fin 2048, result (row x r) (row m r) (row gt 0) (row g 0) (row b 0) (i 1) * du (ix2 r (i 1))
abbrev ofShift : Mat 1 1024 := fun i => ∑ r : Fin 2048, du (ix2 r (i 1))

end

end Cert.LayerNorm

namespace Cert.NormIdeal.Value

open Cert.NormIdeal Cert.NormIdeal.Gen Cert.LayerNorm

section Payloads
variable (x m : FVec Ideal S512x1024 .f32) (gt g b sc sh : FVec Ideal S1x1024 .f32) (dy : FVec Ideal S512x1024 .f32) (du : FVec Ideal S512x1024 .bf16)
  (a : FVec Ideal S1x1024 .f32)

theorem pay8_at (y : S512x1024.Idx) : k1_pay8 (F := Ideal) x m gt y = mix (row x (y 0)) (row m (y 0)) (row gt 0) (y 1) := by
  obtain ⟨r, k, rfl⟩ : ∃ r k, y = ix2 r k := ⟨y 0, y 1, by blk_ext⟩
  pointwise [k1_pay8, k1_pay7, mix]

theorem pay9_at (y : S512x1.Idx) : k1_pay9 (F := Ideal) x m gt y = mean (row x (y 0)) (row m (y 0)) (row gt 0) := by
  pointwise [k1_pay9, pay8_at, mean]

theorem pay12_at (y : S512x1024.Idx) : k1_pay12 (F := Ideal) x m gt y = dev (row x (y 0)) (row m (y 0)) (row gt 0) (y 1) := by
  pointwise [k1_pay12, pay8_at, pay9_at, dev]

theorem pay11_at (y : S512x1024.Idx) : k1_pay11 (F := Ideal) x m gt y = two * dev (row x (y 0)) (row m (y 0)) (row gt 0) (y 1) := by
  pointwise [k1_pay11, k1_pay10, pay8_at, pay9_at, dev]

theorem pay13_at (y : S512x1.Idx) : k1_pay13 (F := Ideal) x m gt y = spread (row x (y 0)) (row m (y 0)) (row gt 0) := by
  pointwise [k1_pay13, k1_pay10, pay8_at, pay9_at, spread, dev]

theorem pay14_at (y : S512x1.Idx) : k1_pay14 (F := Ideal) x m gt y = scale (row x (y 0)) (row m (y 0)) (row gt 0) := by
  pointwise [k1_pay14, pay13_at]
  rfl

theorem pay15_at (y : S512x1.Idx) : k1_pay15 (F := Ideal) x m gt y
    = half * Ideal.div (scale (row x (y 0)) (row m (y 0)) (row gt 0)) (spread (row x (y 0)) (row m (y 0)) (row gt 0)) := by
  pointwise [k1_pay15, pay13_at, pay14_at]

theorem pay16_at (y : S512x1024.Idx) : k1_pay16 (F := Ideal) x m gt y = normed (row x (y 0)) (row m (y 0)) (row gt 0) (y 1) := by
  pointwise [k1_pay16, pay12_at, pay14_at, normed]

theorem pay21_at (y : S512x1024.Idx) : k1_pay21 (F := Ideal) sc dy du y = up (row sc 0) (row dy (y 0)) (row du (y 0)) (y 1) := by
  obtain ⟨r, k, rfl⟩ : ∃ r k, y = ix2 r k := ⟨y 0, y 1, by blk_ext⟩
  pointwise [k1_pay21, k1_pay18, up]

theorem pay25_at (y : S512x1024.Idx) : k1_pay25 (F := Ideal) g sc dy du y = scaled (row g 0) (row sc 0) (row dy (y 0)) (row du (y 0)) (y 1) := by
  pointwise [k1_pay25, k1_pay22, pay21_at, scaled]

/-- The four stages of a block that the last ones read. -/
abbrev blkDirect : FVec Ideal S512x1024 .f32 := k1_pay26 g sc (k1_pay14 x m gt) dy du
abbrev blkThrough : FVec Ideal S512x1024 .f32 := k1_pay28 g sc (k1_pay11 x m gt) (k1_pay12 x m gt) (k1_pay15 x m gt) dy du
abbrev blkDirects : FVec Ideal S512x1 .f32 := k1_pay27 g sc (k1_pay14 x m gt) dy du
abbrev blkThroughs : FVec Ideal S512x1 .f32 := k1_pay29 g sc (k1_pay11 x m gt) (k1_pay12 x m gt) (k1_pay15 x m gt) dy du

theorem pay26_at (y : S512x1024.Idx) : k1_pay26 (F := Ideal) g sc (k1_pay14 x m gt) dy du y
    = direct (row x (y 0)) (row m (y 0)) (row gt 0) (row g 0) (row sc 0) (row dy (y 0)) (row du (y 0)) (y 1) := by
  pointwise [k1_pay26, pay25_at, pay14_at, direct]

theorem pay28_at (y : S512x1024.Idx) : k1_pay28 (F := Ideal) g sc (k1_pay11 x m gt) (k1_pay12 x m gt) (k1_pay15 x m gt) dy du y
    = through (row x (y 0)) (row m (y 0)) (row gt 0) (row g 0) (row sc 0) (row dy (y 0)) (row du (y 0)) (y 1) := by
  pointwise [k1_pay28, pay25_at, pay11_at, pay12_at, pay15_at, through]
  exact congrArg (· * _) (Fin.sum_univ_one _)

theorem pay27_at (y : S512x1.Idx) : k1_pay27 (F := Ideal) g sc (k1_pay14 x m gt) dy du y
    = ∑ j, -direct (row x (y 0)) (row m (y 0)) (row gt 0) (row g 0) (row sc 0) (row dy (y 0)) (row du (y 0)) j := by
  pointwise [k1_pay27, pay26_at]
  simp only [zero_sub]

theorem pay29_at (y : S512x1.Idx) : k1_pay29 (F := Ideal) g sc (k1_pay11 x m gt) (k1_pay12 x m gt) (k1_pay15 x m gt) dy du y
    = ∑ j, -through (row x (y 0)) (row m (y 0)) (row gt 0) (row g 0) (row sc 0) (row dy (y 0)) (row du (y 0)) j := by
  pointwise [k1_pay29, pay28_at]
  simp only [zero_sub]

theorem pay30_at (y : S512x1024.Idx) :
    k1_pay30 (F := Ideal) (blkDirect x m gt g sc dy du) (blkDirects x m gt g sc dy du) (blkThrough x m gt g sc dy du) (blkThroughs x m gt g sc dy du) y
    = grad (row x (y 0)) (row m (y 0)) (row gt 0) (row g 0) (row sc 0) (row dy (y 0)) (row du (y 0)) (y 1) := by
  pointwise [k1_pay30, pay26_at, pay27_at, pay28_at, pay29_at, grad]
  exact congrArg (_ + ·) (Fin.sum_univ_one _)

theorem y_at (y : S512x1024.Idx) : k0_pay2 (F := Ideal) x m gt g b y
    = result (row x (y 0)) (row m (y 0)) (row gt 0) (row g 0) (row b 0) (y 1) := by
  have e : k0_pay2 (F := Ideal) x m gt g b = addf (mulf (k1_pay16 x m gt) (k1_pay17 g)) (k1_pay17 b) := rfl
  rw [e]
  pointwise [pay16_at, k1_pay17, result]

theorem u_at (y : S512x1024.Idx) : k0_pay1 (F := Ideal) sc sh (k0_pay2 x m gt g b) (Scalar.ofBits .f32 0x3F800000#32) y
    = modulated (row x (y 0)) (row m (y 0)) (row gt 0) (row g 0) (row b 0) (row sc 0) (row sh 0) (y 1) := by
  pointwise [k0_pay1, y_at, modulated]

theorem dx_at (y : S512x1024.Idx) :
    k1_pay32 (F := Ideal) (blkDirect x m gt g sc dy du) (blkDirects x m gt g sc dy du) (blkThrough x m gt g sc dy du) (blkThroughs x m gt g sc dy du) y
    = alpha * grad (row x (y 0)) (row m (y 0)) (row gt 0) (row g 0) (row sc 0) (row dy (y 0)) (row du (y 0)) (y 1) := by
  pointwise [k1_pay32, pay30_at]

theorem dmixed_at (y : S512x1024.Idx) :
    k1_pay31 (F := Ideal) (k1_pay7 gt) (blkDirect x m gt g sc dy du) (blkDirects x m gt g sc dy du) (blkThrough x m gt g sc dy du) (blkThroughs x m gt g sc dy du) y
    = (1 + gt (ix2 0 (y 1))) * grad (row x (y 0)) (row m (y 0)) (row gt 0) (row g 0) (row sc 0) (row dy (y 0)) (row du (y 0)) (y 1) := by
  pointwise [k1_pay31, k1_pay7, pay30_at]

theorem dgt_at (y : S1x1024.Idx) :
    k1_pay34 (F := Ideal) m (blkDirect x m gt g sc dy du) (blkDirects x m gt g sc dy du) (blkThrough x m gt g sc dy du) (blkThroughs x m gt g sc dy du) a y
    = a y + ∑ r : Fin 512, grad (row x r) (row m r) (row gt 0) (row g 0) (row sc 0) (row dy r) (row du r) (y 1) * m (ix2 r (y 1)) := by
  pointwise [k1_pay34, pay30_at]

theorem dg_at (y : S1x1024.Idx) : k1_pay36 (F := Ideal) (k1_pay24 sc (k1_pay16 x m gt) dy du) a y
    = a y + ∑ r : Fin 512, normed (row x r) (row m r) (row gt 0) (y 1) * up (row sc 0) (row dy r) (row du r) (y 1) := by
  pointwise [k1_pay36, k1_pay24, k1_pay22, pay16_at, pay21_at]

theorem db_at (y : S1x1024.Idx) : k1_pay2 (F := Ideal) (k1_pay23 sc dy du) a y
    = a y + ∑ r : Fin 512, up (row sc 0) (row dy r) (row du r) (y 1) := by
  pointwise [k1_pay2, k1_pay23, pay21_at]

theorem dsc_at (y : S1x1024.Idx) : k1_pay4 (F := Ideal) (k1_pay20 b (k1_pay16 x m gt) (k1_pay17 g) du) a y
    = a y + ∑ r : Fin 512, result (row x r) (row m r) (row gt 0) (row g 0) (row b 0) (y 1) * du (ix2 r (y 1)) := by
  pointwise [k1_pay4, k1_pay20, k1_pay17, k1_pay18, pay16_at, result]

theorem dsh_at (y : S1x1024.Idx) : k1_pay6 (F := Ideal) (k1_pay19 du) a y = a y + ∑ r : Fin 512, du (ix2 r (y 1)) := by
  pointwise [k1_pay6, k1_pay19, k1_pay18]

end Payloads

section Regions

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

theorem idx1 : ∀ t : Fin cfg1.N, win1_0.index t = ![t.val % 4, 0] ∧ win1_1.index t = ![t.val % 4, 0] ∧ win1_2.index t = ![0, 0]
    ∧ win1_3.index t = ![0, 0] ∧ win1_4.index t = ![0, 0] ∧ win1_5.index t = ![0, 0] ∧ win1_6.index t = ![0, 0]
    ∧ win1_7.index t = ![t.val % 4, 0] ∧ win1_8.index t = ![t.val % 4, 0] ∧ win1_9.index t = ![t.val % 4, 0] ∧ win1_10.index t = ![t.val % 4, 0]
    ∧ win1_11.index t = ![0, 0] ∧ win1_12.index t = ![0, 0] ∧ win1_13.index t = ![0, 0] ∧ win1_14.index t = ![0, 0] ∧ win1_15.index t = ![0, 0] :=
  (by decide +kernel : ∀ t : Fin grid1.N, _)

/-- The forward call leaves the norm's result. -/
theorem y_run (c : Dev nD) : (dat0 V c).arrAt 7 cfg0.N
    = ofY (V c main_arg0) (V c main_arg1) (V c main_arg2) (V c main_arg3) (V c main_arg4) := by
  refine (dat0 V c).arrAt_eq_of_covers 7 _ (by decide +kernel) fun t _ y => ?_
  blk_simp
  rw [after0_7]
  frame_out [k0_pay3]
  refine (y_at _ _ _ _ _ y).trans ?_
  simp only [ofY]
  congr 1 <;> first | (funext k; simp only [row]; blk_point [iblk0, idx0 t]) | (refine Fin.ext ?_; blk_simp [idx0 t])

/-- And that result modulated. -/
theorem u_run (c : Dev nD) : (dat0 V c).arrAt 8 cfg0.N
    = ofU (V c main_arg0) (V c main_arg1) (V c main_arg2) (V c main_arg3) (V c main_arg4) (V c main_arg5) (V c main_arg6) := by
  refine (dat0 V c).arrAt_eq_of_covers 8 _ (by decide +kernel) fun t _ y => ?_
  blk_simp
  rw [after0_8]
  frame_out [k0_pay3]
  refine (u_at _ _ _ _ _ _ _ y).trans ?_
  simp only [ofU]
  congr 1 <;> first | (funext k; simp only [row]; blk_point [iblk0, idx0 t]) | (refine Fin.ext ?_; blk_simp [idx0 t])

/-- The backward call leaves the gradient of the carried rows. -/
theorem dx_run (c : Dev nD) : (dat1 V c).arrAt 9 cfg1.N = ofX (V c main_arg0) (V c main_arg1) (V c main_arg2) (V c main_arg3) (V c main_arg5) (V c main_arg7) (V c main_arg8) := by
  refine (dat1 V c).arrAt_eq_of_covers 9 _ (by decide +kernel) fun t _ y => ?_
  blk_simp
  rw [after1_9]
  have e : (outsAt1 V c t.val t.isLt).1 y = alpha * grad (row (iblk1 V c 0 t) (y 0)) (row (iblk1 V c 1 t) (y 0)) (row (iblk1 V c 2 t) 0) (row (iblk1 V c 3 t) 0) (row (iblk1 V c 5 t) 0)
      (row (iblk1 V c 7 t) (y 0)) (row (iblk1 V c 8 t) (y 0)) (y 1) := by
    rcases Nat.eq_zero_or_pos (t.val % 4) with h | h
    · rw [outsAt1_A V c t h h h h h]; frame_out; exact dx_at _ _ _ _ _ _ _ y
    · have h' : ¬t.val % 4 = 0 := by omega
      rw [outsAt1_B V c t h' h' h' h' h']; frame_out; exact dx_at _ _ _ _ _ _ _ y
  refine e.trans ?_
  simp only [ofX]
  refine congrArg (_ * ·) ?_
  congr 1 <;> first | (funext k; simp only [row]; blk_point [iblk1, idx1 _]) | (refine Fin.ext ?_; blk_simp [idx1 t])

/-- The gradient of the mixed rows. -/
theorem dmixed_run (c : Dev nD) : (dat1 V c).arrAt 10 cfg1.N = ofMixed (V c main_arg0) (V c main_arg1) (V c main_arg2) (V c main_arg3) (V c main_arg5) (V c main_arg7) (V c main_arg8) := by
  refine (dat1 V c).arrAt_eq_of_covers 10 _ (by decide +kernel) fun t _ y => ?_
  blk_simp
  rw [after1_10]
  have e : (outsAt1 V c t.val t.isLt).2.1 y = (1 + iblk1 V c 2 t (ix2 0 (y 1))) * grad (row (iblk1 V c 0 t) (y 0)) (row (iblk1 V c 1 t) (y 0)) (row (iblk1 V c 2 t) 0) (row (iblk1 V c 3 t) 0) (row (iblk1 V c 5 t) 0)
      (row (iblk1 V c 7 t) (y 0)) (row (iblk1 V c 8 t) (y 0)) (y 1) := by
    rcases Nat.eq_zero_or_pos (t.val % 4) with h | h
    · rw [outsAt1_A V c t h h h h h]; frame_out; exact dmixed_at _ _ _ _ _ _ _ y
    · have h' : ¬t.val % 4 = 0 := by omega
      rw [outsAt1_B V c t h' h' h' h' h']; frame_out; exact dmixed_at _ _ _ _ _ _ _ y
  refine e.trans ?_
  simp only [ofMixed]
  refine congrArg₂ (· * ·) ?_ ?_
  · refine congrArg (_ + ·) ?_
    blk_point [iblk1, idx1 _]
  congr 1 <;> first | (funext k; simp only [row]; blk_point [iblk1, idx1 _]) | (refine Fin.ext ?_; blk_simp [idx1 t])

/-- The gradient of the gate. -/
theorem dgt_run (c : Dev nD) : (dat1 V c).arrAt 11 cfg1.N = ofGate (V c main_arg0) (V c main_arg1) (V c main_arg2) (V c main_arg3) (V c main_arg5) (V c main_arg7) (V c main_arg8) := by
  refine (dat1 V c).arrAt_eq_of_covers 11 _ (by decide +kernel) fun t hf y => ?_
  blk_simp
  rw [after1_11, Pipeline.eq_sum_fin_of_reset_step_apply_of_flush (fun n h => (outsAt1 V c n h).2.2.1) 4 (fun _ => 0)
    (fun t y => ∑ r : Fin 512, grad (row (iblk1 V c 0 t) r) (row (iblk1 V c 1 t) r) (row (iblk1 V c 2 t) 0) (row (iblk1 V c 3 t) 0) (row (iblk1 V c 5 t) 0) (row (iblk1 V c 7 t) r) (row (iblk1 V c 8 t) r) (y 1) * (iblk1 V c 1 t) (ix2 r (y 1)))
    (fun t h y => by rw [outsAt1_A V c t h h h h h]; frame_out; exact (dgt_at _ _ _ _ _ _ _ _ y).trans (congrArg (· + _) (by pointwise [k1_pay33])))
    (fun t h y => by rw [outsAt1_B V c t h h h h h]; frame_out; exact dgt_at _ _ _ _ _ _ _ _ y)
    t ((flush1_11 t).mp hf) y, zero_add]
  refine Fin.sum_mul_add_congr (L := 2048) fun s r hl => ?_
  simp only [ofGate]
  refine congrArg₂ (· * ·) ?_ (by blk_point [iblk1, idx1 _])
  congr 1 <;> first | (funext k; simp only [row]; blk_point [iblk1, idx1 _]) | (refine Fin.ext ?_; blk_simp [idx1 t])

/-- The gradient of the gain. -/
theorem dg_run (c : Dev nD) : (dat1 V c).arrAt 12 cfg1.N = ofGain (V c main_arg0) (V c main_arg1) (V c main_arg2) (V c main_arg5) (V c main_arg7) (V c main_arg8) := by
  refine (dat1 V c).arrAt_eq_of_covers 12 _ (by decide +kernel) fun t hf y => ?_
  blk_simp
  rw [after1_12, Pipeline.eq_sum_fin_of_reset_step_apply_of_flush (fun n h => (outsAt1 V c n h).2.2.2.1) 4 (fun _ => 0)
    (fun t y => ∑ r : Fin 512, normed (row (iblk1 V c 0 t) r) (row (iblk1 V c 1 t) r) (row (iblk1 V c 2 t) 0) (y 1) * up (row (iblk1 V c 5 t) 0) (row (iblk1 V c 7 t) r) (row (iblk1 V c 8 t) r) (y 1))
    (fun t h y => by rw [outsAt1_A V c t h h h h h]; frame_out; exact (dg_at _ _ _ _ _ _ _ y).trans (congrArg (· + _) (by pointwise [k1_pay35])))
    (fun t h y => by rw [outsAt1_B V c t h h h h h]; frame_out; exact dg_at _ _ _ _ _ _ _ y)
    t ((flush1_12 t).mp hf) y, zero_add]
  refine Fin.sum_mul_add_congr (L := 2048) fun s r hl => ?_
  simp only [ofGain]
  refine congrArg₂ (· * ·) ?_ ?_
  · congr 1 <;> first | (funext k; simp only [row]; blk_point [iblk1, idx1 _]) | (refine Fin.ext ?_; blk_simp [idx1 t])
  · congr 1 <;> first | (funext k; simp only [row]; blk_point [iblk1, idx1 _]) | (refine Fin.ext ?_; blk_simp [idx1 t])

/-- The gradient of the bias. -/
theorem db_run (c : Dev nD) : (dat1 V c).arrAt 13 cfg1.N = ofBias (V c main_arg5) (V c main_arg7) (V c main_arg8) := by
  refine (dat1 V c).arrAt_eq_of_covers 13 _ (by decide +kernel) fun t hf y => ?_
  blk_simp
  rw [after1_13, Pipeline.eq_sum_fin_of_reset_step_apply_of_flush (fun n h => (outsAt1 V c n h).2.2.2.2.1) 4 (fun _ => 0)
    (fun t y => ∑ r : Fin 512, up (row (iblk1 V c 5 t) 0) (row (iblk1 V c 7 t) r) (row (iblk1 V c 8 t) r) (y 1))
    (fun t h y => by rw [outsAt1_A V c t h h h h h]; frame_out; exact (db_at _ _ _ _ y).trans (congrArg (· + _) (by pointwise [k1_pay1])))
    (fun t h y => by rw [outsAt1_B V c t h h h h h]; frame_out; exact db_at _ _ _ _ y)
    t ((flush1_13 t).mp hf) y, zero_add]
  refine Fin.sum_mul_add_congr (L := 2048) fun s r hl => ?_
  simp only [ofBias]
  congr 1 <;> first | (funext k; simp only [row]; blk_point [iblk1, idx1 _]) | (refine Fin.ext ?_; blk_simp [idx1 t])

/-- The gradient of the modulation's scale. -/
theorem dsc_run (c : Dev nD) : (dat1 V c).arrAt 14 cfg1.N = ofScale (V c main_arg0) (V c main_arg1) (V c main_arg2) (V c main_arg3) (V c main_arg4) (V c main_arg8) := by
  refine (dat1 V c).arrAt_eq_of_covers 14 _ (by decide +kernel) fun t hf y => ?_
  blk_simp
  rw [after1_14, Pipeline.eq_sum_fin_of_reset_step_apply_of_flush (fun n h => (outsAt1 V c n h).2.2.2.2.2.1) 4 (fun _ => 0)
    (fun t y => ∑ r : Fin 512, result (row (iblk1 V c 0 t) r) (row (iblk1 V c 1 t) r) (row (iblk1 V c 2 t) 0) (row (iblk1 V c 3 t) 0) (row (iblk1 V c 4 t) 0) (y 1) * (iblk1 V c 8 t) (ix2 r (y 1)))
    (fun t h y => by rw [outsAt1_A V c t h h h h h]; frame_out; exact (dsc_at _ _ _ _ _ _ _ y).trans (congrArg (· + _) (by pointwise [k1_pay3])))
    (fun t h y => by rw [outsAt1_B V c t h h h h h]; frame_out; exact dsc_at _ _ _ _ _ _ _ y)
    t ((flush1_14 t).mp hf) y, zero_add]
  refine Fin.sum_mul_add_congr (L := 2048) fun s r hl => ?_
  simp only [ofScale]
  refine congrArg₂ (· * ·) ?_ (by blk_point [iblk1, idx1 _])
  congr 1 <;> first | (funext k; simp only [row]; blk_point [iblk1, idx1 _]) | (refine Fin.ext ?_; blk_simp [idx1 t])

/-- The gradient of the modulation's shift. -/
theorem dsh_run (c : Dev nD) : (dat1 V c).arrAt 15 cfg1.N = ofShift (V c main_arg8) := by
  refine (dat1 V c).arrAt_eq_of_covers 15 _ (by decide +kernel) fun t hf y => ?_
  blk_simp
  rw [after1_15, Pipeline.eq_sum_fin_of_reset_step_apply_of_flush (fun n h => (outsAt1 V c n h).2.2.2.2.2.2) 4 (fun _ => 0)
    (fun t y => ∑ r : Fin 512, (iblk1 V c 8 t) (ix2 r (y 1)))
    (fun t h y => by rw [outsAt1_A V c t h h h h h]; frame_out; exact (dsh_at _ _ y).trans (congrArg (· + _) (by pointwise [k1_pay5])))
    (fun t h y => by rw [outsAt1_B V c t h h h h h]; frame_out; exact dsh_at _ _ y)
    t ((flush1_15 t).mp hf) y, zero_add]
  refine Fin.sum_mul_add_congr (L := 2048) fun s r hl => ?_
  simp only [ofShift]
  blk_point [iblk1, idx1 _]

end Regions

variable (m : (ℓ : Loc nD τ sig) → Buf (Elt Ideal) ℓ) (ρ : Dev nD → PrngReg)

/-- What the run leaves in every buffer that outlives it. -/
theorem run : θ_run defs (onTc (τ := τ) (main (F := Ideal))) ⟨m, fun _ => 0, ρ⟩ fun r =>
    ∀ c : Dev nD, ∀ b ∈ Pipeline.ucRefs τ sig, r.2.mem ((c : Thread nD τ).1, b) = W2 m ρ c b :=
  leaves cfgs cellOf_inj defs₀ (pdats m ρ) m ρ main (segs m ρ) (W2 m ρ) (main_run m ρ)
    (by simp only [segs, Pipeline.Seg.pipes_region, Pipeline.Seg.pipes_nil]; decide)
    ⟨fun _ => .rfl, fun _ => .rfl, fun _ => .rfl⟩

/-- The second call's arguments are the program's. -/
theorem kept (c : Dev nD) : V1 m ρ c main_arg0 = m ((c : Thread nD τ).loc main_arg0)
    ∧ V1 m ρ c main_arg1 = m ((c : Thread nD τ).loc main_arg1)
    ∧ V1 m ρ c main_arg2 = m ((c : Thread nD τ).loc main_arg2)
    ∧ V1 m ρ c main_arg3 = m ((c : Thread nD τ).loc main_arg3)
    ∧ V1 m ρ c main_arg4 = m ((c : Thread nD τ).loc main_arg4)
    ∧ V1 m ρ c main_arg5 = m ((c : Thread nD τ).loc main_arg5)
    ∧ V1 m ρ c main_arg7 = m ((c : Thread nD τ).loc main_arg7)
    ∧ V1 m ρ c main_arg8 = m ((c : Thread nD τ).loc main_arg8) :=
  ⟨W1_args m ρ c _ (by decide), W1_args m ρ c _ (by decide), W1_args m ρ c _ (by decide), W1_args m ρ c _ (by decide), W1_args m ρ c _ (by decide), W1_args m ρ c _ (by decide), W1_args m ρ c _ (by decide), W1_args m ρ c _ (by decide)⟩

theorem y_end (c : Dev nD) : W2 m ρ c (Proc.devRef .tc main_v0_0) = ofY (m ((c : Thread nD τ).loc main_arg0)) (m ((c : Thread nD τ).loc main_arg1)) (m ((c : Thread nD τ).loc main_arg2)) (m ((c : Thread nD τ).loc main_arg3)) (m ((c : Thread nD τ).loc main_arg4)) :=
  (W2_of m ρ c main_v0_0 (by decide)).trans ((W1_arr m ρ c 7).trans (y_run (V0 m ρ) c))

theorem u_end (c : Dev nD) : W2 m ρ c (Proc.devRef .tc main_v0_1) = ofU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W2_of m ρ c main_v0_1 (by decide)).trans ((W1_arr m ρ c 8).trans (u_run (V0 m ρ) c))

theorem dx_end (c : Dev nD) : W2 m ρ c (Proc.devRef .tc main_v1_0) = ofX (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg8)) := by
  obtain ⟨h0, h1, h2, h3, h4, h5, h7, h8⟩ := kept m ρ c
  rw [← h0, ← h1, ← h2, ← h3, ← h5, ← h7, ← h8]
  exact (W2_arr m ρ c 9).trans (dx_run (V1 m ρ) c)

theorem dmixed_end (c : Dev nD) : W2 m ρ c (Proc.devRef .tc main_v1_1) = ofMixed (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg8)) := by
  obtain ⟨h0, h1, h2, h3, h4, h5, h7, h8⟩ := kept m ρ c
  rw [← h0, ← h1, ← h2, ← h3, ← h5, ← h7, ← h8]
  exact (W2_arr m ρ c 10).trans (dmixed_run (V1 m ρ) c)

theorem dgt_end (c : Dev nD) : W2 m ρ c (Proc.devRef .tc main_v1_2) = ofGate (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg8)) := by
  obtain ⟨h0, h1, h2, h3, h4, h5, h7, h8⟩ := kept m ρ c
  rw [← h0, ← h1, ← h2, ← h3, ← h5, ← h7, ← h8]
  exact (W2_arr m ρ c 11).trans (dgt_run (V1 m ρ) c)

theorem dg_end (c : Dev nD) : W2 m ρ c (Proc.devRef .tc main_v1_3) = ofGain (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) := by
  obtain ⟨h0, h1, h2, h3, h4, h5, h7, h8⟩ := kept m ρ c
  rw [← h0, ← h1, ← h2, ← h5, ← h7, ← h8]
  exact (W2_arr m ρ c 12).trans (dg_run (V1 m ρ) c)

theorem db_end (c : Dev nD) : W2 m ρ c (Proc.devRef .tc main_v1_4) = ofBias (m ((c : Thread nD τ).loc main_arg5)) (m ((c : Thread nD τ).loc main_arg7)) (m ((c : Thread nD τ).loc main_arg8)) := by
  obtain ⟨h0, h1, h2, h3, h4, h5, h7, h8⟩ := kept m ρ c
  rw [← h5, ← h7, ← h8]
  exact (W2_arr m ρ c 13).trans (db_run (V1 m ρ) c)

theorem dsc_end (c : Dev nD) : W2 m ρ c (Proc.devRef .tc main_v1_5) = ofScale (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) := by
  obtain ⟨h0, h1, h2, h3, h4, h5, h7, h8⟩ := kept m ρ c
  rw [← h0, ← h1, ← h2, ← h3, ← h4, ← h8]
  exact (W2_arr m ρ c 14).trans (dsc_run (V1 m ρ) c)

theorem dsh_end (c : Dev nD) : W2 m ρ c (Proc.devRef .tc main_v1_6) = ofShift (m ((c : Thread nD τ).loc main_arg8)) := by
  obtain ⟨h0, h1, h2, h3, h4, h5, h7, h8⟩ := kept m ρ c
  rw [← h8]
  exact (W2_arr m ρ c 15).trans (dsh_run (V1 m ρ) c)

end Cert.NormIdeal.Value

namespace Cert.NormReferenceIdeal.Value

open Cert.NormReferenceIdeal Cert.NormReferenceIdeal.Gen Cert.LayerNorm

section
variable (x m : FVec Ideal S2048x1024 .f32) (gt g b sc sh : FVec Ideal S1x1024 .f32) (dy : FVec Ideal S2048x1024 .f32) (du : FVec Ideal S2048x1024 .bf16)

/-- The reference's stages, array by array. -/
def onePlus : FVec Ideal S1x1024 .f32 := addf (broadcastInDim S1x1024 ![] bcast_S_S1x1024 (constant S_ .f32 0x3F800000#32)) gt
def mixes : FVec Ideal S2048x1024 .f32 := addf (mulf (broadcastInDim S2048x1024 ![] bcast_S_S2048x1024 (constant S_ .f32 0x3FD744FD#32)) x) (mulf (broadcastInDim S2048x1024 ![0, 1] bcast_S1x1024_S2048x1024_0_1 (onePlus gt)) m)
def means : FVec Ideal S2048x1 .f32 := Host.divf (broadcastInDim S2048x1 ![0] bcast_S2048_S2048x1_0 (Host.reduceAdd (mixes x m gt) (constant S_ .f32 0x00000000#32) reducesTo_S2048x1024_S2048_d1 h_S_)) (broadcastInDim S2048x1 ![] bcast_S_S2048x1 (constant S_ .f32 0x44800000#32))
def devs : FVec Ideal S2048x1024 .f32 := subf (mixes x m gt) (broadcastInDim S2048x1024 ![0, 1] bcast_S2048x1_S2048x1024_0_1 (means x m gt))
def spreads : FVec Ideal S2048x1 .f32 := addf (Host.divf (broadcastInDim S2048x1 ![0] bcast_S2048_S2048x1_0 (Host.reduceAdd (mulf (devs x m gt) (devs x m gt)) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x3727C5AC#32))
def scales : FVec Ideal S2048x1 .f32 := Host.rsqrt (spreads x m gt)
def normeds : FVec Ideal S2048x1024 .f32 := mulf (devs x m gt) (broadcastInDim S2048x1024 ![0, 1] bcast_S2048x1_S2048x1024_0_1 (scales x m gt))
def results : FVec Ideal S2048x1024 .f32 := addf (mulf (normeds x m gt) (broadcastInDim S2048x1024 ![0, 1] bcast_S1x1024_S2048x1024_0_1 g)) (broadcastInDim S2048x1024 ![0, 1] bcast_S1x1024_S2048x1024_0_1 b)
def moduls : FVec Ideal S2048x1024 .bf16 := truncf .bf16 (addf (mulf (results x m gt g b) (broadcastInDim S2048x1024 ![0, 1] bcast_S1x1024_S2048x1024_0_1 (onePlus sc))) (broadcastInDim S2048x1024 ![0, 1] bcast_S1x1024_S2048x1024_0_1 sh)) bitsLt_bf16_f32
def ups : FVec Ideal S2048x1024 .f32 := addf dy (mulf (extf .f32 du bitsLt_bf16_f32) (broadcastInDim S2048x1024 ![0, 1] bcast_S1x1024_S2048x1024_0_1 (onePlus sc)))
def scaleds : FVec Ideal S2048x1024 .f32 := mulf (shapeCast _ (ups sc dy du) shapeCasts_S2048x1024_S2048x1024) (broadcastInDim S2048x1024 ![0, 1] bcast_S1x1024_S2048x1024_0_1 g)
def directs : FVec Ideal S2048x1024 .f32 := mulf (scaleds g sc dy du) (broadcastInDim S2048x1024 ![0, 1] bcast_S2048x1_S2048x1024_0_1 (scales x m gt))
def slopes : FVec Ideal S2048x1 .f32 := mulf (broadcastInDim S2048x1 ![] bcast_S_S2048x1 (constant S_ .f32 0xBF000000#32)) (Host.divf (scales x m gt) (spreads x m gt))
def throughs : FVec Ideal S2048x1024 .f32 := mulf (broadcastInDim S2048x1024 ![0] bcast_S2048_S2048x1024_0 (Host.reduceAdd (Host.divf (mulf (shapeCast _ (Host.reduceAdd (mulf (devs x m gt) (scaleds g sc dy du)) (constant S_ .f32 0x00000000#32) reducesTo_S2048x1024_S2048_d1 h_S_) shapeCasts_S2048_S2048x1) (slopes x m gt)) (broadcastInDim S2048x1 ![] bcast_S_S2048x1 (constant S_ .f32 0x44800000#32))) (constant S_ .f32 0x00000000#32) reducesTo_S2048x1_S2048_d1 h_S_)) (mulf (broadcastInDim S2048x1024 ![] bcast_S_S2048x1024 (constant S_ .f32 0x40000000#32)) (devs x m gt))
def grads : FVec Ideal S2048x1024 .f32 := addf (addf (directs x m gt g sc dy du) (throughs x m gt g sc dy du))
  (broadcastInDim S2048x1024 ![0] bcast_S2048_S2048x1024_0 (Host.reduceAdd (Host.divf (addf (shapeCast _ (Host.reduceAdd (Host.negf (directs x m gt g sc dy du)) (constant S_ .f32 0x00000000#32) reducesTo_S2048x1024_S2048_d1 h_S_) shapeCasts_S2048_S2048x1) (shapeCast _ (Host.reduceAdd (Host.negf (throughs x m gt g sc dy du)) (constant S_ .f32 0x00000000#32) reducesTo_S2048x1024_S2048_d1 h_S_) shapeCasts_S2048_S2048x1)) (broadcastInDim S2048x1 ![] bcast_S_S2048x1 (constant S_ .f32 0x44800000#32))) (constant S_ .f32 0x00000000#32) reducesTo_S2048x1_S2048_d1 h_S_))

theorem mixes_at (y : S2048x1024.Idx) : mixes x m gt y = mix (row x (y 0)) (row m (y 0)) (row gt 0) (y 1) := by
  obtain ⟨r, k, rfl⟩ : ∃ r k, y = ix2 r k := ⟨y 0, y 1, by blk_ext⟩
  pointwise [mixes, onePlus, mix]

theorem means_at (y : S2048x1.Idx) : means x m gt y = mean (row x (y 0)) (row m (y 0)) (row gt 0) := by
  pointwise [means, mixes_at, mean]

theorem devs_at (y : S2048x1024.Idx) : devs x m gt y = dev (row x (y 0)) (row m (y 0)) (row gt 0) (y 1) := by
  pointwise [devs, mixes_at, means_at, dev]

theorem spreads_at (y : S2048x1.Idx) : spreads x m gt y = spread (row x (y 0)) (row m (y 0)) (row gt 0) := by
  pointwise [spreads, devs_at, spread]

theorem scales_at (y : S2048x1.Idx) : scales x m gt y = scale (row x (y 0)) (row m (y 0)) (row gt 0) := by
  pointwise [scales, spreads_at]
  rfl

theorem normeds_at (y : S2048x1024.Idx) : normeds x m gt y = normed (row x (y 0)) (row m (y 0)) (row gt 0) (y 1) := by
  pointwise [normeds, devs_at, scales_at, normed]

theorem results_at (y : S2048x1024.Idx) : results x m gt g b y = result (row x (y 0)) (row m (y 0)) (row gt 0) (row g 0) (row b 0) (y 1) := by
  pointwise [results, normeds_at, result]

theorem ups_at (y : S2048x1024.Idx) : ups sc dy du y = up (row sc 0) (row dy (y 0)) (row du (y 0)) (y 1) := by
  obtain ⟨r, k, rfl⟩ : ∃ r k, y = ix2 r k := ⟨y 0, y 1, by blk_ext⟩
  pointwise [ups, onePlus, up]

theorem scaleds_at (y : S2048x1024.Idx) : scaleds g sc dy du y = scaled (row g 0) (row sc 0) (row dy (y 0)) (row du (y 0)) (y 1) := by
  pointwise [scaleds, ups_at, scaled]

theorem directs_at (y : S2048x1024.Idx) : directs x m gt g sc dy du y
    = direct (row x (y 0)) (row m (y 0)) (row gt 0) (row g 0) (row sc 0) (row dy (y 0)) (row du (y 0)) (y 1) := by
  pointwise [directs, scaleds_at, scales_at, direct]

theorem throughs_at (y : S2048x1024.Idx) : throughs x m gt g sc dy du y
    = through (row x (y 0)) (row m (y 0)) (row gt 0) (row g 0) (row sc 0) (row dy (y 0)) (row du (y 0)) (y 1) := by
  pointwise [throughs, slopes, scaleds_at, devs_at, scales_at, spreads_at, through]
  exact congrArg (· * _) (Fin.sum_univ_one _)

theorem grads_at (y : S2048x1024.Idx) : grads x m gt g sc dy du y
    = grad (row x (y 0)) (row m (y 0)) (row gt 0) (row g 0) (row sc 0) (row dy (y 0)) (row du (y 0)) (y 1) := by
  pointwise [grads, directs_at, throughs_at, grad]
  exact congrArg (_ + ·) (Fin.sum_univ_one _)

theorem y_is : results x m gt g b = ofY x m gt g b := by
  funext i; rw [results_at]

theorem u_is : moduls x m gt g b sc sh = ofU x m gt g b sc sh := by
  funext i; pointwise [moduls, onePlus, results_at, modulated]

theorem dx_is : mulf (broadcastInDim S2048x1024 ![] bcast_S_S2048x1024 (constant S_ .f32 0x3FD744FD#32)) (grads x m gt g sc dy du) = ofX x m gt g sc dy du := by
  funext i; pointwise [grads_at]

theorem dmixed_is : mulf (broadcastInDim S2048x1024 ![0, 1] bcast_S1x1024_S2048x1024_0_1 (onePlus gt)) (grads x m gt g sc dy du) = ofMixed x m gt g sc dy du := by
  funext i; pointwise [onePlus, grads_at]

theorem dgt_is : shapeCast _ (Host.reduceAdd (mulf (grads x m gt g sc dy du) m) (constant S_ .f32 0x00000000#32) reducesTo_S2048x1024_S1024_d0 h_S_) shapeCasts_S1024_S1x1024 = ofGate x m gt g sc dy du := by
  funext i; pointwise [grads_at]

theorem dg_is : shapeCast _ (Host.reduceAdd (mulf (normeds x m gt) (shapeCast _ (ups sc dy du) shapeCasts_S2048x1024_S2048x1024)) (constant S_ .f32 0x00000000#32) reducesTo_S2048x1024_S1024_d0 h_S_) shapeCasts_S1024_S1x1024 = ofGain x m gt sc dy du := by
  funext i; pointwise [normeds_at, ups_at]

theorem db_is : shapeCast _ (Host.reduceAdd (ups sc dy du) (constant S_ .f32 0x00000000#32) reducesTo_S2048x1024_S1024_d0 h_S_) shapeCasts_S1024_S1x1024 = ofBias sc dy du := by
  funext i; pointwise [ups_at]

theorem dsc_is : shapeCast _ (Host.reduceAdd (mulf (results x m gt g b) (extf .f32 du bitsLt_bf16_f32)) (constant S_ .f32 0x00000000#32) reducesTo_S2048x1024_S1024_d0 h_S_) shapeCasts_S1024_S1x1024 = ofScale x m gt g b du := by
  funext i; pointwise [results_at]

theorem dsh_is : shapeCast _ (Host.reduceAdd (extf .f32 du bitsLt_bf16_f32) (constant S_ .f32 0x00000000#32) reducesTo_S2048x1024_S1024_d0 h_S_) shapeCasts_S1024_S1x1024 = ofShift du := by
  funext i; pointwise []

end

end Cert.NormReferenceIdeal.Value

namespace Cert.Proof.Norm

open Cert.NormIdeal.Gen (W2 mem_uc W2_main_arg0 W2_main_arg1 W2_main_arg2 W2_main_arg3 W2_main_arg4 W2_main_arg5 W2_main_arg6 W2_main_arg7 W2_main_arg8)
open Cert.NormIdeal.Value (y_end u_end dx_end dmixed_end dgt_end dg_end db_end dsc_end dsh_end)
open Cert.NormReferenceIdeal.Value (y_is u_is dx_is dmixed_is dgt_is dg_is db_is dsc_is dsh_is)

theorem frame_kernel : Cert.quiescent_Norm := fun m g _ => Cert.Norm.Gen.frame m g

theorem frame_ideal : Cert.quiescent_NormIdeal := fun m g _ => Cert.NormIdeal.Gen.frame m g

theorem frame_reference : Cert.quiescent_NormReferenceIdeal := fun m g _ =>
  (θ_run Cert.NormReferenceIdeal.defs _ _).mono
    (fun r h => ⟨fun c => (h c).2.2.2.2.2.2.2.2.2, sem_eq_zero_of_no_sems (by decide) r.2⟩)
    (Cert.NormReferenceIdeal.Value.run m g)

/-- The norm, its modulation and all seven gradients are the reference's. -/
theorem norms : Cert.algebraic_NormIdeal_NormReferenceIdeal := fun m g m' g' _ hargs =>
  ⟨fun c => W2 m g c (Proc.devRef .tc Cert.NormIdeal.main_v0_0),
   fun c => W2 m g c (Proc.devRef .tc Cert.NormIdeal.main_v0_1),
   fun c => W2 m g c (Proc.devRef .tc Cert.NormIdeal.main_v1_0),
   fun c => W2 m g c (Proc.devRef .tc Cert.NormIdeal.main_v1_1),
   fun c => W2 m g c (Proc.devRef .tc Cert.NormIdeal.main_v1_2),
   fun c => W2 m g c (Proc.devRef .tc Cert.NormIdeal.main_v1_3),
   fun c => W2 m g c (Proc.devRef .tc Cert.NormIdeal.main_v1_4),
   fun c => W2 m g c (Proc.devRef .tc Cert.NormIdeal.main_v1_5),
   fun c => W2 m g c (Proc.devRef .tc Cert.NormIdeal.main_v1_6),
   (θ_run Cert.NormIdeal.defs _ _).mono (fun _ h c =>
     ⟨h c _ (mem_uc _ (by decide)), h c _ (mem_uc _ (by decide)), h c _ (mem_uc _ (by decide)), h c _ (mem_uc _ (by decide)), h c _ (mem_uc _ (by decide)), h c _ (mem_uc _ (by decide)), h c _ (mem_uc _ (by decide)), h c _ (mem_uc _ (by decide)), h c _ (mem_uc _ (by decide)),
      (h c _ (mem_uc _ (by decide))).trans (W2_main_arg0 m g c),
      (h c _ (mem_uc _ (by decide))).trans (W2_main_arg1 m g c),
      (h c _ (mem_uc _ (by decide))).trans (W2_main_arg2 m g c),
      (h c _ (mem_uc _ (by decide))).trans (W2_main_arg3 m g c),
      (h c _ (mem_uc _ (by decide))).trans (W2_main_arg4 m g c),
      (h c _ (mem_uc _ (by decide))).trans (W2_main_arg5 m g c),
      (h c _ (mem_uc _ (by decide))).trans (W2_main_arg6 m g c),
      (h c _ (mem_uc _ (by decide))).trans (W2_main_arg7 m g c),
      (h c _ (mem_uc _ (by decide))).trans (W2_main_arg8 m g c)⟩)
     (Cert.NormIdeal.Value.run m g),
   (θ_run Cert.NormReferenceIdeal.defs _ _).mono (fun _ h c => by
     obtain ⟨h0, h1, h2, h3, h4, h5, h6, h7, h8⟩ := hargs c
     obtain ⟨r0, r1, r2, r3, r4, r5, r6, r7, r8, ha⟩ := h c
     refine ⟨r0.trans ((y_is _ _ _ _ _).trans ?_),
       r1.trans ((u_is _ _ _ _ _ _ _).trans ?_),
       r2.trans ((dx_is _ _ _ _ _ _ _).trans ?_),
       r3.trans ((dmixed_is _ _ _ _ _ _ _).trans ?_),
       r4.trans ((dgt_is _ _ _ _ _ _ _).trans ?_),
       r5.trans ((dg_is _ _ _ _ _ _).trans ?_),
       r6.trans ((db_is _ _ _).trans ?_),
       r7.trans ((dsc_is _ _ _ _ _ _).trans ?_),
       r8.trans ((dsh_is _).trans ?_), ha⟩
     · rw [h0, h1, h2, h3, h4]; exact (y_end m g c).symm
     · rw [h0, h1, h2, h3, h4, h5, h6]; exact (u_end m g c).symm
     · rw [h0, h1, h2, h3, h5, h7, h8]; exact (dx_end m g c).symm
     · rw [h0, h1, h2, h3, h5, h7, h8]; exact (dmixed_end m g c).symm
     · rw [h0, h1, h2, h3, h5, h7, h8]; exact (dgt_end m g c).symm
     · rw [h0, h1, h2, h5, h7, h8]; exact (dg_end m g c).symm
     · rw [h5, h7, h8]; exact (db_end m g c).symm
     · rw [h0, h1, h2, h3, h4, h8]; exact (dsc_end m g c).symm
     · rw [h8]; exact (dsh_end m g c).symm)
     (Cert.NormReferenceIdeal.Value.run m' g')⟩

end Cert.Proof.Norm

end
-- ==== Proof.lean ====
/- The proof of the claims: the frames of the programs, that the idealization rewrote nothing, and that each kernel and its
   reference leave the same results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Frames
public import proofs.«01_k».proof.Proof.Algebraic
public import proofs.«01_k».proof.Proof.FfUp
public import proofs.«01_k».proof.Proof.FfDown
public import proofs.«01_k».proof.Proof.Mixer
public import proofs.«01_k».proof.Proof.MixerOut
public import proofs.«01_k».proof.Proof.InProj
public import proofs.«01_k».proof.Proof.Gate
public import proofs.«01_k».proof.Proof.Attention
public import proofs.«01_k».proof.Proof.SquaredRelu
public import proofs.«01_k».proof.Proof.Norm
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.FfUp.Gen.facts, Cert.FfUpIdeal.Gen.facts, Cert.FfUpReferenceIdeal.Gen.facts,
  Cert.FfDown.Gen.facts, Cert.FfDownIdeal.Gen.facts, Cert.FfDownReferenceIdeal.Gen.facts,
  Cert.Mixer.Gen.facts, Cert.MixerIdeal.Gen.facts, Cert.MixerReferenceIdeal.Gen.facts,
  Cert.MixerOut.Gen.facts, Cert.MixerOutIdeal.Gen.facts, Cert.MixerOutReferenceIdeal.Gen.facts,
  Cert.InProj.Gen.facts, Cert.InProjIdeal.Gen.facts, Cert.InProjReferenceIdeal.Gen.facts,
  Cert.Gate.Gen.facts, Cert.GateIdeal.Gen.facts, Cert.GateReferenceIdeal.Gen.facts,
  Cert.Attention.Gen.facts, Cert.AttentionIdeal.Gen.facts, Cert.AttentionReferenceIdeal.Gen.facts,
  Cert.SquaredRelu.Gen.facts, Cert.SquaredReluIdeal.Gen.facts, Cert.SquaredReluReferenceIdeal.Gen.facts,
  Cert.Norm.Gen.facts, Cert.NormIdeal.Gen.facts, Cert.NormReferenceIdeal.Gen.facts,
  pre_facts, frame_kernel, frame_ideal, fun m g _ => frame_ideal m g trivial, frame_reference, fun m g _ => frame_reference m g trivial,
  FfUp.frame_kernel, FfUp.frame_ideal, FfUp.frame_reference,
  FfDown.frame_kernel, FfDown.frame_ideal, FfDown.frame_reference,
  Mixer.frame_kernel, Mixer.frame_ideal, Mixer.frame_reference,
  MixerOut.frame_kernel, MixerOut.frame_ideal, MixerOut.frame_reference,
  InProj.frame_kernel, InProj.frame_ideal, InProj.frame_reference,
  Gate.frame_kernel, Gate.frame_ideal, Gate.frame_reference,
  Attention.frame_kernel, Attention.frame_ideal, Attention.frame_reference,
  SquaredRelu.frame_kernel, SquaredRelu.frame_ideal, SquaredRelu.frame_reference,
  Norm.frame_kernel, Norm.frame_ideal, Norm.frame_reference,
  trivial, gradients, trivial, FfUp.products, trivial, FfDown.products, trivial, Mixer.products, trivial, MixerOut.products, trivial, InProj.products,
  trivial, Gate.mixes, trivial, Attention.outputs, trivial, SquaredRelu.squares, trivial, Norm.norms⟩

end Cert.Proof

end
